-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_conv_gate_finite [hPre_conv_gate_finite : Cert.Pre_conv_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_conv_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_conv_gate_finite [hPre_conv_gate_finite : Cert.Pre_conv_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_conv_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_conditioning_finite [hPre_conditioning_finite : Cert.Pre_conditioning_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_conditioning_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_conditioning_finite [hPre_conditioning_finite : Cert.Pre_conditioning_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_conditioning_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_conv_gate_finite [hKernel2Ideal : Cert.Kernel2Ideal.Facts] [hPre_conv_gate_finite : Cert.Pre_conv_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_conv_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_conv_gate_finite [hReference2Ideal : Cert.Reference2Ideal.Facts] [hPre_conv_gate_finite : Cert.Pre_conv_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_conv_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_conditioning_finite [hKernel3Ideal : Cert.Kernel3Ideal.Facts] [hPre_conditioning_finite : Cert.Pre_conditioning_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_conditioning_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_conditioning_finite [hReference3Ideal : Cert.Reference3Ideal.Facts] [hPre_conditioning_finite : Cert.Pre_conditioning_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_conditioning_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  IdealRules.named_const.Statement Cert.Kernel2Ideal.κ "decay_unit" .f32 0x3DB8AA3B#32 (((Real.log 2)⁻¹ * 16⁻¹ : ℝ) : EReal)

def algebraic_Kernel2Ideal_Reference2Ideal_pre_conv_gate_finite [hKernel2Ideal : Cert.Kernel2Ideal.Facts] [hReference2Ideal : Cert.Reference2Ideal.Facts] [hPre_conv_gate_finite : Cert.Pre_conv_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_conv_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_8) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v137) = v0 c
          ∧ r.2.mem ((c.tc : Thread Cert.Reference2Ideal.nD Cert.Reference2Ideal.τ).loc Cert.Reference2Ideal.main_v138) = v1 c
          ∧ r.2.mem ((c.tc : Thread Cert.Reference2Ideal.nD Cert.Reference2Ideal.τ).loc Cert.Reference2Ideal.main_v139) = v2 c
          ∧ r.2.mem ((c.tc : Thread Cert.Reference2Ideal.nD Cert.Reference2Ideal.τ).loc Cert.Reference2Ideal.main_v140) = v3 c
          ∧ r.2.mem ((c.tc : Thread Cert.Reference2Ideal.nD Cert.Reference2Ideal.τ).loc Cert.Reference2Ideal.main_v141) = v4 c
          ∧ r.2.mem ((c.tc : Thread Cert.Reference2Ideal.nD Cert.Reference2Ideal.τ).loc Cert.Reference2Ideal.main_v151) = v5 c
          ∧ r.2.mem ((c.tc : Thread Cert.Reference2Ideal.nD Cert.Reference2Ideal.τ).loc Cert.Reference2Ideal.main_v136) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_conditioning_finite [hKernel3Ideal : Cert.Kernel3Ideal.Facts] [hReference3Ideal : Cert.Reference3Ideal.Facts] [hPre_conditioning_finite : Cert.Pre_conditioning_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_conditioning_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_gate_finite : Cert.Pre_gate_finite.Facts) (hPre_conv_gate_finite : Cert.Pre_conv_gate_finite.Facts) (hPre_conditioning_finite : Cert.Pre_conditioning_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ quiescent_Kernel2 (hKernel2 := hKernel2)
    ∧ quiescent_Kernel2Ideal (hKernel2Ideal := hKernel2Ideal)
    ∧ quiescent_Kernel2Ideal_pre_conv_gate_finite (hKernel2Ideal := hKernel2Ideal) (hPre_conv_gate_finite := hPre_conv_gate_finite)
    ∧ quiescent_Reference2Ideal (hReference2Ideal := hReference2Ideal)
    ∧ quiescent_Reference2Ideal_pre_conv_gate_finite (hReference2Ideal := hReference2Ideal) (hPre_conv_gate_finite := hPre_conv_gate_finite)
    ∧ quiescent_Kernel3 (hKernel3 := hKernel3)
    ∧ quiescent_Kernel3Ideal (hKernel3Ideal := hKernel3Ideal)
    ∧ quiescent_Kernel3Ideal_pre_conditioning_finite (hKernel3Ideal := hKernel3Ideal) (hPre_conditioning_finite := hPre_conditioning_finite)
    ∧ quiescent_Reference3Ideal (hReference3Ideal := hReference3Ideal)
    ∧ quiescent_Reference3Ideal_pre_conditioning_finite (hReference3Ideal := hReference3Ideal) (hPre_conditioning_finite := hPre_conditioning_finite)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ preserves_Kernel2_Kernel2Ideal
    ∧ algebraic_Kernel2Ideal_Reference2Ideal_pre_conv_gate_finite (hKernel2Ideal := hKernel2Ideal) (hReference2Ideal := hReference2Ideal) (hPre_conv_gate_finite := hPre_conv_gate_finite)
    ∧ preserves_Kernel3_Kernel3Ideal
    ∧ algebraic_Kernel3Ideal_Reference3Ideal_pre_conditioning_finite (hKernel3Ideal := hKernel3Ideal) (hReference3Ideal := hReference3Ideal) (hPre_conditioning_finite := hPre_conditioning_finite)
-- ==== Pre_conditioning_finite.lean ====
abbrev S8x1024 : Shape := ⟨2, ![8, 1024]⟩
abbrev S1024x3072 : Shape := ⟨2, ![1024, 3072]⟩
abbrev S1x3072 : Shape := ⟨2, ![1, 3072]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x1024 .f32) (main_arg1 : FVec F S1024x3072 .f32) (main_arg2 : FVec F S1x3072 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  main_v3
-- ==== Pre_conv_gate_finite.lean ====
abbrev S8x8192x1024 : Shape := ⟨3, ![8, 8192, 1024]⟩
abbrev S8x3x1024 : Shape := ⟨3, ![8, 3, 1024]⟩
abbrev S1x1024 : Shape := ⟨2, ![1, 1024]⟩
abbrev S1024x9248 : Shape := ⟨2, ![1024, 9248]⟩
abbrev S1024x128 : Shape := ⟨2, ![1024, 128]⟩
abbrev S1024x1024 : Shape := ⟨2, ![1024, 1024]⟩
abbrev S3x1024 : Shape := ⟨2, ![3, 1024]⟩
abbrev S128x1024 : Shape := ⟨2, ![128, 1024]⟩
abbrev S_ : Shape := ⟨0, ![]⟩
abbrev S8x2x1024 : Shape := ⟨3, ![8, 2, 1024]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S8x3x1024_S8x2x1024_0_0_0 : S8x3x1024.Slices ![0, 0, 0] S8x2x1024
  bcast_S_S8x2x1024 : S_.BroadcastsInDim S8x2x1024 (![] : Fin 0 → Fin S8x2x1024.rank)
  reducesTo_S8x2x1024_S_d0_1_2 : S8x2x1024.ReducesTo [0, 1, 2] S_
  slices_S1024x9248_S1024x1024_0_3072 : S1024x9248.Slices ![0, 3072] S1024x1024
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x8192x1024 .f32) (main_arg1 : FVec F S8x3x1024 .f32) (main_arg2 : FVec F S1x1024 .f32) (main_arg3 : FVec F S1024x9248 .bf16) (main_arg4 : FVec F S1024x128 .bf16) (main_arg5 : FVec F S1024x1024 .bf16) (main_arg6 : FVec F S3x1024 .f32) (main_arg7 : FVec F S1x1024 .f32) (main_arg8 : FVec F S128x1024 .bf16) (main_arg9 : FVec F S1x1024 .f32) (main_arg10 : FVec F S1024x1024 .bf16) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S8x2x1024 .f32 := (extractStridedSlice S8x2x1024 ![0, 0, 0] · slices_S8x3x1024_S8x2x1024_0_0_0) main_arg1
  let main_v5 : FVec F S8x2x1024 .f32 := Host.absf main_v4
  let main_cst_0 : FVec F S_ .f32 := constant S_ .f32 0x7F800000#32
  let main_v6 : FVec F S8x2x1024 .f32 := broadcastInDim S8x2x1024 ![] bcast_S_S8x2x1024 main_cst_0
  let main_v7 : IVec S8x2x1024 1 := cmpf .olt main_v5 main_v6
  let main_c_1 : IVec S_ 1 := constantI S_ 1 1#1
  let main_v8 : IVec S_ 1 := (fun x v => Host.reduce IntOp.andi x v reducesTo_S8x2x1024_S_d0_1_2 h_S_) main_v7 main_c_1
  let main_v9 : IVec S_ 1 := andi main_v3 main_v8
  let main_v10 : FVec F S1024x1024 .bf16 := (extractStridedSlice S1024x1024 ![0, 3072] · slices_S1024x9248_S1024x1024_0_3072) main_arg3
  let main_v11 : FVec F S1024x1024 .f32 := (extf .f32 · bitsLt_bf16_f32) main_v10
  let main_v12 : FVec F S1024x1024 .f32 := Host.absf main_v11
  let main_cst_2 : FVec F S_ .f32 := constant S_ .f32 0x7F800000#32
  let main_v13 : FVec F S1024x1024 .f32 := broadcastInDim S1024x1024 ![] bcast_S_S1024x1024 main_cst_2
  let main_v14 : IVec S1024x1024 1 := cmpf .olt main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v9 main_v15
  main_v16
-- ==== Pre_gate_finite.lean ====
abbrev S8x8192x1024 : Shape := ⟨3, ![8, 8192, 1024]⟩
abbrev S8x64x512x128 : Shape := ⟨4, ![8, 64, 512, 128]⟩
abbrev S8x64x512x256 : Shape := ⟨4, ![8, 64, 512, 256]⟩
abbrev S8x64x1024x128 : Shape := ⟨4, ![8, 64, 1024, 128]⟩
abbrev S8x64x8x512 : Shape := ⟨4, ![8, 64, 8, 512]⟩
abbrev S8x3x1024 : Shape := ⟨3, ![8, 3, 1024]⟩
abbrev S1x1024 : Shape := ⟨2, ![1, 1024]⟩
abbrev S1024x1024 : Shape := ⟨2, ![1024, 1024]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x8192x1024 .f32) (main_arg1 : FVec F S8x8192x1024 .bf16) (main_arg2 : FVec F S8x64x512x128 .bf16) (main_arg3 : FVec F S8x64x512x128 .bf16) (main_arg4 : FVec F S8x8192x1024 .bf16) (main_arg5 : FVec F S8x8192x1024 .bf16) (main_arg6 : FVec F S8x8192x1024 .bf16) (main_arg7 : FVec F S8x64x512x256 .bf16) (main_arg8 : FVec F S8x64x1024x128 .bf16) (main_arg9 : FVec F S8x64x8x512 .f32) (main_arg10 : FVec F S8x3x1024 .f32) (main_arg11 : FVec F S1x1024 .f32) (main_arg12 : FVec F S1024x1024 .bf16) (main_arg13 : FVec F S1024x1024 .bf16) (main_arg14 : FVec F S1024x1024 .bf16) (main_arg15 : FVec F S1024x1024 .bf16) (main_arg16 : FVec F S1x1024 .f32) : IVec S_ 1 :=
  let main_v0 : FVec F S8x8192x1024 .f32 := (extf .f32 · bitsLt_bf16_f32) main_arg5
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_c : IVec S_ 1 := constantI S_ 1 1#1
  let main_v4 : IVec S_ 1 := (fun x v => Host.reduce IntOp.andi x v reducesTo_S8x8192x1024_S_d0_1_2 h_S_) main_v3 main_c
  let main_v5 : FVec F S1024x1024 .f32 := (extf .f32 · bitsLt_bf16_f32) main_arg12
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  main_v10
-- ==== Kernel.lean ====
abbrev S8x8192x1024 : Shape := ⟨3, ![8, 8192, 1024]⟩
abbrev S8x64x512x128 : Shape := ⟨4, ![8, 64, 512, 128]⟩
abbrev S8x64x512x256 : Shape := ⟨4, ![8, 64, 512, 256]⟩
abbrev S8x64x1024x128 : Shape := ⟨4, ![8, 64, 1024, 128]⟩
abbrev S8x64x8x512 : Shape := ⟨4, ![8, 64, 8, 512]⟩
abbrev S8x3x1024 : Shape := ⟨3, ![8, 3, 1024]⟩
abbrev S1x1024 : Shape := ⟨2, ![1, 1024]⟩
abbrev S1024x1024 : Shape := ⟨2, ![1024, 1024]⟩
abbrev S1x512x1024 : Shape := ⟨3, ![1, 512, 1024]⟩
abbrev S1x4x512x128 : Shape := ⟨4, ![1, 4, 512, 128]⟩
abbrev S1x4x512x256 : Shape := ⟨4, ![1, 4, 512, 256]⟩
abbrev S1x4x1024x128 : Shape := ⟨4, ![1, 4, 1024, 128]⟩
abbrev S1x4x8x512 : Shape := ⟨4, ![1, 4, 8, 512]⟩
abbrev S1x3x1024 : Shape := ⟨3, ![1, 3, 1024]⟩
abbrev S4x256x128 : Shape := ⟨3, ![4, 256, 128]⟩
abbrev S512x1024 : Shape := ⟨2, ![512, 1024]⟩
abbrev S128x128 : Shape := ⟨2, ![128, 128]⟩
abbrev S1x1x128x128 : Shape := ⟨4, ![1, 1, 128, 128]⟩
abbrev S128x256 : Shape := ⟨2, ![128, 256]⟩
abbrev S256x256 : Shape := ⟨2, ![256, 256]⟩
abbrev S1x128x256 : Shape := ⟨3, ![1, 128, 256]⟩
abbrev S1x256x128 : Shape := ⟨3, ![1, 256, 128]⟩
abbrev S256x128 : Shape := ⟨2, ![256, 128]⟩
abbrev S1x1x8x512 : Shape := ⟨4, ![1, 1, 8, 512]⟩
abbrev S8x512 : Shape := ⟨2, ![8, 512]⟩
abbrev S1x128 : Shape := ⟨2, ![1, 128]⟩
abbrev S1x1x128x256 : Shape := ⟨4, ![1, 1, 128, 256]⟩
abbrev S1x1x256x128 : Shape := ⟨4, ![1, 1, 256, 128]⟩
abbrev S128 : Shape := ⟨1, ![128]⟩
abbrev S128x1 : Shape := ⟨2, ![128, 1]⟩
abbrev S1x256 : Shape := ⟨2, ![1, 256]⟩
abbrev S256x1024 : Shape := ⟨2, ![256, 1024]⟩
abbrev S1x256x1024 : Shape := ⟨3, ![1, 256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 18
  | .vmem => 32
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x64x512x128, .bf16⟩
  | .hbm, ⟨3, _⟩ => ⟨S8x64x512x128, .bf16⟩
  | .hbm, ⟨4, _⟩ => ⟨S8x8192x1024, .bf16⟩
  | .hbm, ⟨5, _⟩ => ⟨S8x8192x1024, .bf16⟩
  | .hbm, ⟨6, _⟩ => ⟨S8x8192x1024, .bf16⟩
  | .hbm, ⟨7, _⟩ => ⟨S8x64x512x256, .bf16⟩
  | .hbm, ⟨8, _⟩ => ⟨S8x64x1024x128, .bf16⟩
  | .hbm, ⟨9, _⟩ => ⟨S8x64x8x512, .f32⟩
  | .hbm, ⟨10, _⟩ => ⟨S8x3x1024, .f32⟩
  | .hbm, ⟨11, _⟩ => ⟨S1x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S1x4x512x128, .bf16⟩
  | .local _ .vmem, ⟨7, _⟩ => ⟨S1x4x512x128, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x4x512x256, .bf16⟩
  | .local _ .vmem, ⟨15, _⟩ => ⟨S1x4x512x256, .bf16⟩
  | .local _ .vmem, ⟨16, _⟩ => ⟨S1x4x1024x128, .bf16⟩
  | .local _ .vmem, ⟨17, _⟩ => ⟨S1x4x1024x128, .bf16⟩
  | .local _ .vmem, ⟨18, _⟩ => ⟨S1x4x8x512, .f32⟩
  | .local _ .vmem, ⟨19, _⟩ => ⟨S1x4x8x512, .f32⟩
  | .local _ .vmem, ⟨20, _⟩ => ⟨S1x3x1024, .f32⟩
  | .local _ .vmem, ⟨21, _⟩ => ⟨S1x3x1024, .f32⟩
  | .local _ .vmem, ⟨22, _⟩ => ⟨S1x1024, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1x1024, .f32⟩
  | .local _ .vmem, ⟨28, _⟩ => ⟨S1x512x1024, .f32⟩
  | .local _ .vmem, ⟨29, _⟩ => ⟨S1x512x1024, .f32⟩
  | .local _ .vmem, ⟨30, _⟩ => ⟨S4x256x128, .f32⟩
  | .local _ .vmem, ⟨31, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8x8192x1024 : Shape := ⟨3, ![8, 8192, 1024]⟩
abbrev S8x64x512x128 : Shape := ⟨4, ![8, 64, 512, 128]⟩
abbrev S8x64x512x256 : Shape := ⟨4, ![8, 64, 512, 256]⟩
abbrev S8x64x1024x128 : Shape := ⟨4, ![8, 64, 1024, 128]⟩
abbrev S8x64x8x512 : Shape := ⟨4, ![8, 64, 8, 512]⟩
abbrev S8x3x1024 : Shape := ⟨3, ![8, 3, 1024]⟩
abbrev S1x1024 : Shape := ⟨2, ![1, 1024]⟩
abbrev S1024x1024 : Shape := ⟨2, ![1024, 1024]⟩
abbrev S8x64x4x256x128 : Shape := ⟨5, ![8, 64, 4, 256, 128]⟩
abbrev S8x64x1x512 : Shape := ⟨4, ![8, 64, 1, 512]⟩
abbrev S8x64x512 : Shape := ⟨3, ![8, 64, 512]⟩
abbrev S8x64x4x1x128 : Shape := ⟨5, ![8, 64, 4, 1, 128]⟩
abbrev S_ : Shape := ⟨0, ![]⟩
abbrev S8x4x256x128 : Shape := ⟨4, ![8, 4, 256, 128]⟩
abbrev S64x8x4x1x128 : Shape := ⟨5, ![64, 8, 4, 1, 128]⟩
abbrev S64x8x4x256x128 : Shape := ⟨5, ![64, 8, 4, 256, 128]⟩
abbrev S1x8x4x1x128 : Shape := ⟨5, ![1, 8, 4, 1, 128]⟩
abbrev S8x4x1x128 : Shape := ⟨4, ![8, 4, 1, 128]⟩
abbrev S1x8x4x256x128 : Shape := ⟨5, ![1, 8, 4, 256, 128]⟩
abbrev S8x64x1x4x128 : Shape := ⟨5, ![8, 64, 1, 4, 128]⟩
abbrev S8x64x128x4x2x128 : Shape := ⟨6, ![8, 64, 128, 4, 2, 128]⟩
abbrev S8x64x128x4x1x128 : Shape := ⟨6, ![8, 64, 128, 4, 1, 128]⟩
abbrev S8x64x128x4x128 : Shape := ⟨5, ![8, 64, 128, 4, 128]⟩
abbrev S8x64x4x128x128 : Shape := ⟨5, ![8, 64, 4, 128, 128]⟩
abbrev S8x64x128x4x256 : Shape := ⟨5, ![8, 64, 128, 4, 256]⟩
abbrev S8x64x4x128x256 : Shape := ⟨5, ![8, 64, 4, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x64x4x128 : Shape := ⟨4, ![8, 64, 4, 128]⟩
abbrev S8x64x4x128x1 : Shape := ⟨5, ![8, 64, 4, 128, 1]⟩
abbrev S1x1x1024 : Shape := ⟨3, ![1, 1, 1024]⟩
abbrev S8x1x1024 : Shape := ⟨3, ![8, 1, 1024]⟩
abbrev S8x8192 : Shape := ⟨2, ![8, 8192]⟩
abbrev S8x8192x1 : Shape := ⟨3, ![8, 8192, 1]⟩

abbrev nBuf : Space → Nat
  | .hbm => 161
  | .vmem => 0
  | .smem => 0
  | _ => 0

abbrev hbmTy0_0 (i : Nat) : BufTy := match i % 128 with
  | 0 => ⟨S8x8192x1024, .f32⟩
  | 1 => ⟨S8x8192x1024, .bf16⟩
  | 2 => ⟨S8x64x512x128, .bf16⟩
  | 3 => ⟨S8x64x512x128, .bf16⟩
  | 4 => ⟨S8x8192x1024, .bf16⟩
  | 5 => ⟨S8x8192x1024, .bf16⟩
  | 6 => ⟨S8x8192x1024, .bf16⟩
  | 7 => ⟨S8x64x512x256, .bf16⟩
  | 8 => ⟨S8x64x1024x128, .bf16⟩
  | 9 => ⟨S8x64x8x512, .f32⟩
  | 10 => ⟨S8x3x1024, .f32⟩
  | 11 => ⟨S1x1024, .f32⟩
  | 12 => ⟨S1024x1024, .bf16⟩
  | 13 => ⟨S1024x1024, .bf16⟩
  | 14 => ⟨S1024x1024, .bf16⟩
  | 15 => ⟨S1024x1024, .bf16⟩
  | 16 => ⟨S1x1024, .f32⟩
  | 17 => ⟨S8x64x1024x128, .f32⟩
  | 18 => ⟨S8x64x4x256x128, .f32⟩
  | 19 => ⟨S8x64x1x512, .f32⟩
  | 20 => ⟨S8x64x512, .f32⟩
  | 21 => ⟨S8x64x4x1x128, .f32⟩
  | 22 => ⟨S_, .f32⟩
  | 23 => ⟨S8x4x256x128, .f32⟩
  | 24 => ⟨S64x8x4x1x128, .f32⟩
  | 25 => ⟨S64x8x4x256x128, .f32⟩
  | 26 => ⟨S_, .f32⟩
  | 27 => ⟨S64x8x4x256x128, .f32⟩
  | 28 => ⟨S_, .i32⟩
  | 29 => ⟨S64x8x4x1x128, .f32⟩
  | 30 => ⟨S64x8x4x256x128, .f32⟩
  | 31 => ⟨S_, .i32⟩
  | 32 => ⟨S8x4x256x128, .f32⟩
  | 33 => ⟨S64x8x4x256x128, .f32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S1x8x4x1x128, .f32⟩
  | 41 => ⟨S8x4x1x128, .f32⟩
  | 42 => ⟨S_, .i32⟩
  | 43 => ⟨S_, .i32⟩
  | 44 => ⟨S_, .i32⟩
  | 45 => ⟨S_, .i32⟩
  | 46 => ⟨S1x8x4x256x128, .f32⟩
  | 47 => ⟨S8x4x256x128, .f32⟩
  | 48 => ⟨S8x4x256x128, .f32⟩
  | 49 => ⟨S8x4x256x128, .f32⟩
  | 50 => ⟨S8x4x256x128, .f32⟩
  | 51 => ⟨S1x8x4x256x128, .f32⟩
  | 52 => ⟨S_, .i32⟩
  | 53 => ⟨S_, .i32⟩
  | 54 => ⟨S_, .i32⟩
  | 55 => ⟨S_, .i32⟩
  | 56 => ⟨S64x8x4x256x128, .f32⟩
  | 57 => ⟨S_, .i32⟩
  | 58 => ⟨S_, .i32⟩
  | 59 => ⟨S8x64x1x512, .f32⟩
  | 60 => ⟨S8x64x512, .f32⟩
  | 61 => ⟨S8x64x1x4x128, .f32⟩
  | 62 => ⟨S8x8192x1024, .f32⟩
  | 63 => ⟨S8x64x128x4x2x128, .f32⟩
  | 64 => ⟨S8x64x128x4x1x128, .f32⟩
  | 65 => ⟨S8x64x128x4x128, .f32⟩
  | 66 => ⟨S8x64x128x4x1x128, .f32⟩
  | 67 => ⟨S8x64x128x4x128, .f32⟩
  | 68 => ⟨S8x64x512x128, .f32⟩
  | 69 => ⟨S8x64x4x128x128, .f32⟩
  | 70 => ⟨S8x64x512x128, .f32⟩
  | 71 => ⟨S8x64x4x128x128, .f32⟩
  | 72 => ⟨S8x8192x1024, .f32⟩
  | 73 => ⟨S8x64x128x4x256, .f32⟩
  | 74 => ⟨S8x64x512x256, .f32⟩
  | 75 => ⟨S8x64x4x128x256, .f32⟩
  | 76 => ⟨S128, .i32⟩
  | 77 => ⟨S128x1, .i32⟩
  | 78 => ⟨S1x128, .i32⟩
  | 79 => ⟨S128x128, .i32⟩
  | 80 => ⟨S128x128, .i32⟩
  | 81 => ⟨S128x128, .i1⟩
  | 82 => ⟨S8x64x4x128x128, .f32⟩
  | 83 => ⟨S8x64x4x128x128, .f32⟩
  | 84 => ⟨S8x64x4x128x128, .i1⟩
  | 85 => ⟨S8x64x4x128x128, .f32⟩
  | 86 => ⟨S8x64x4x128x256, .f32⟩
  | 87 => ⟨S8x64x128x4x128, .f32⟩
  | 88 => ⟨S8x64x128x4x128, .f32⟩
  | 89 => ⟨S8x64x4x128x256, .f32⟩
  | 90 => ⟨S8x64x4x128x256, .f32⟩
  | 91 => ⟨S8x64x4x128x256, .f32⟩
  | 92 => ⟨S8x64x4x128x256, .f32⟩
  | 93 => ⟨S8x64x4x128x256, .f32⟩
  | 94 => ⟨S_, .f32⟩
  | 95 => ⟨S8x64x4x128, .f32⟩
  | 96 => ⟨S8x64x4x128x1, .f32⟩
  | 97 => ⟨S_, .f32⟩
  | 98 => ⟨S8x64x4x128x1, .f32⟩
  | 99 => ⟨S8x64x4x128x1, .f32⟩
  | 100 => ⟨S_, .f32⟩
  | 101 => ⟨S8x64x4x128x1, .f32⟩
  | 102 => ⟨S8x64x4x128x1, .f32⟩
  | 103 => ⟨S8x64x4x128x1, .f32⟩
  | 104 => ⟨S8x64x4x128x256, .f32⟩
  | 105 => ⟨S8x64x4x128x256, .f32⟩
  | 106 => ⟨S8x64x128x4x256, .f32⟩
  | 107 => ⟨S8x8192x1024, .f32⟩
  | 108 => ⟨S1x1x1024, .f32⟩
  | 109 => ⟨S8x8192x1024, .f32⟩
  | 110 => ⟨S8x8192x1024, .f32⟩
  | 111 => ⟨S8x8192x1024, .f32⟩
  | 112 => ⟨S1024x1024, .f32⟩
  | 113 => ⟨S8x8192x1024, .f32⟩
  | 114 => ⟨S8x8192x1024, .f32⟩
  | 115 => ⟨S8x8192x1024, .f32⟩
  | 116 => ⟨S_, .f32⟩
  | 117 => ⟨S8x8192x1024, .f32⟩
  | 118 => ⟨S8x8192x1024, .f32⟩
  | 119 => ⟨S_, .f32⟩
  | 120 => ⟨S8x8192x1024, .f32⟩
  | 121 => ⟨S8x8192x1024, .f32⟩
  | 122 => ⟨S8x8192x1024, .f32⟩
  | 123 => ⟨S8x8192x1024, .f32⟩
  | 124 => ⟨S1024x1024, .f32⟩
  | 125 => ⟨S8x8192x1024, .f32⟩
  | 126 => ⟨S8x8192x1024, .f32⟩
  | 127 => ⟨S1024x1024, .f32⟩
  | _ => ⟨S8x8192x1024, .f32⟩

abbrev hbmTy0_1 (i : Nat) : BufTy := match i % 128 with
  | 0 => ⟨S8x8192x1024, .f32⟩
  | 1 => ⟨S8x8192x1024, .f32⟩
  | 2 => ⟨S8x8192x1024, .f32⟩
  | 3 => ⟨S_, .f32⟩
  | 4 => ⟨S8x8192x1024, .f32⟩
  | 5 => ⟨S8x8192x1024, .f32⟩
  | 6 => ⟨S_, .f32⟩
  | 7 => ⟨S8x8192x1024, .f32⟩
  | 8 => ⟨S8x8192x1024, .f32⟩
  | 9 => ⟨S8x8192x1024, .f32⟩
  | 10 => ⟨S8x8192x1024, .f32⟩
  | 11 => ⟨S8x1x1024, .f32⟩
  | 12 => ⟨S1024x1024, .f32⟩
  | 13 => ⟨S8x8192x1024, .f32⟩
  | 14 => ⟨S8x8192x1024, .f32⟩
  | 15 => ⟨S8x8192x1024, .f32⟩
  | 16 => ⟨S8x8192x1024, .f32⟩
  | 17 => ⟨S8x8192x1024, .f32⟩
  | 18 => ⟨S_, .f32⟩
  | 19 => ⟨S8x8192, .f32⟩
  | 20 => ⟨S8x8192x1, .f32⟩
  | 21 => ⟨S_, .f32⟩
  | 22 => ⟨S8x8192x1, .f32⟩
  | 23 => ⟨S8x8192x1, .f32⟩
  | 24 => ⟨S_, .f32⟩
  | 25 => ⟨S8x8192x1, .f32⟩
  | 26 => ⟨S8x8192x1, .f32⟩
  | 27 => ⟨S8x8192x1, .f32⟩
  | 28 => ⟨S8x8192x1024, .f32⟩
  | 29 => ⟨S8x8192x1024, .f32⟩
  | 30 => ⟨S1x1x1024, .f32⟩
  | 31 => ⟨S8x8192x1024, .f32⟩
  | 32 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_c : Ref sig .tc := ⟨.hbm, 28, rfl⟩
abbrev main_v9_0 : Ref sig .tc := ⟨.hbm, 29, rfl⟩
abbrev main_v9_1 : Ref sig .tc := ⟨.hbm, 30, rfl⟩
abbrev main_v9_2 : Ref sig .tc := ⟨.hbm, 31, rfl⟩
abbrev main_v9_3 : Ref sig .tc := ⟨.hbm, 32, rfl⟩
abbrev main_v9_4 : Ref sig .tc := ⟨.hbm, 33, rfl⟩
abbrev main_while0c_c_13 : Ref sig .tc := ⟨.hbm, 34, rfl⟩
abbrev main_while0c_v95 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_c_2 : Ref sig .tc := ⟨.hbm, 39, rfl⟩
abbrev main_while0b_call0_v0 : Ref sig .tc := ⟨.hbm, 40, rfl⟩
abbrev main_while0b_v95 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_c_2 : Ref sig .tc := ⟨.hbm, 45, rfl⟩
abbrev main_while0b_call1_v0 : Ref sig .tc := ⟨.hbm, 46, rfl⟩
abbrev main_while0b_v96 : Ref sig .tc := ⟨.hbm, 47, rfl⟩
abbrev main_while0b_v97 : Ref sig .tc := ⟨.hbm, 48, rfl⟩
abbrev main_while0b_v98 : Ref sig .tc := ⟨.hbm, 49, rfl⟩
abbrev main_while0b_v99 : Ref sig .tc := ⟨.hbm, 50, rfl⟩
abbrev main_while0b_call2_v0 : Ref sig .tc := ⟨.hbm, 51, rfl⟩
abbrev main_while0b_call2_c : Ref sig .tc := ⟨.hbm, 52, rfl⟩
abbrev main_while0b_call2_c_0 : Ref sig .tc := ⟨.hbm, 53, rfl⟩
abbrev main_while0b_call2_c_1 : Ref sig .tc := ⟨.hbm, 54, rfl⟩
abbrev main_while0b_call2_c_2 : Ref sig .tc := ⟨.hbm, 55, rfl⟩
abbrev main_while0b_v100 : Ref sig .tc := ⟨.hbm, 56, rfl⟩
abbrev main_while0b_c_13 : Ref sig .tc := ⟨.hbm, 57, rfl⟩
abbrev main_while0b_v101 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_call3_v0 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_1 : Ref sig .tc := ⟨.hbm, 94, rfl⟩
abbrev main_v44 : Ref sig .tc := ⟨.hbm, 95, rfl⟩
abbrev main_v45 : Ref sig .tc := ⟨.hbm, 96, rfl⟩
abbrev main_cst_2 : Ref sig .tc := ⟨.hbm, 97, rfl⟩
abbrev main_v46 : Ref sig .tc := ⟨.hbm, 98, rfl⟩
abbrev main_v47 : Ref sig .tc := ⟨.hbm, 99, rfl⟩
abbrev main_cst_3 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_call4_v0 : Ref sig .tc := ⟨.hbm, 114, rfl⟩
abbrev main_call4_v1 : Ref sig .tc := ⟨.hbm, 115, rfl⟩
abbrev main_call4_cst : Ref sig .tc := ⟨.hbm, 116, rfl⟩
abbrev main_call4_v2 : Ref sig .tc := ⟨.hbm, 117, rfl⟩
abbrev main_call4_v3 : Ref sig .tc := ⟨.hbm, 118, rfl⟩
abbrev main_call4_cst_0 : Ref sig .tc := ⟨.hbm, 119, rfl⟩
abbrev main_call4_v4 : Ref sig .tc := ⟨.hbm, 120, rfl⟩
abbrev main_call4_v5 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_4 : Ref sig .tc := ⟨.hbm, 131, rfl⟩
abbrev main_v70 : Ref sig .tc := ⟨.hbm, 132, rfl⟩
abbrev main_v71 : Ref sig .tc := ⟨.hbm, 133, rfl⟩
abbrev main_cst_5 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_6 : Ref sig .tc := ⟨.hbm, 146, rfl⟩
abbrev main_v83 : Ref sig .tc := ⟨.hbm, 147, rfl⟩
abbrev main_v84 : Ref sig .tc := ⟨.hbm, 148, rfl⟩
abbrev main_cst_7 : Ref sig .tc := ⟨.hbm, 149, rfl⟩
abbrev main_v85 : Ref sig .tc := ⟨.hbm, 150, rfl⟩
abbrev main_v86 : Ref sig .tc := ⟨.hbm, 151, rfl⟩
abbrev main_cst_8 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x8192x1024 : Shape := ⟨3, ![8, 8192, 1024]⟩
abbrev S8x3x1024 : Shape := ⟨3, ![8, 3, 1024]⟩
abbrev S1x1024 : Shape := ⟨2, ![1, 1024]⟩
abbrev S1024x9248 : Shape := ⟨2, ![1024, 9248]⟩
abbrev S1024x128 : Shape := ⟨2, ![1024, 128]⟩
abbrev S1024x1024 : Shape := ⟨2, ![1024, 1024]⟩
abbrev S3x1024 : Shape := ⟨2, ![3, 1024]⟩
abbrev S128x1024 : Shape := ⟨2, ![128, 1024]⟩
abbrev S8x64x512x128 : Shape := ⟨4, ![8, 64, 512, 128]⟩
abbrev S8x64x512x256 : Shape := ⟨4, ![8, 64, 512, 256]⟩
abbrev S8x64x1024x128 : Shape := ⟨4, ![8, 64, 1024, 128]⟩
abbrev S8x64x8x512 : Shape := ⟨4, ![8, 64, 8, 512]⟩
abbrev S1x512x1024 : Shape := ⟨3, ![1, 512, 1024]⟩
abbrev S1x16x1024 : Shape := ⟨3, ![1, 16, 1024]⟩
abbrev S1x3x1024 : Shape := ⟨3, ![1, 3, 1024]⟩
abbrev S1x4x512x128 : Shape := ⟨4, ![1, 4, 512, 128]⟩
abbrev S1x4x512x256 : Shape := ⟨4, ![1, 4, 512, 256]⟩
abbrev S1x4x1024x128 : Shape := ⟨4, ![1, 4, 1024, 128]⟩
abbrev S1x4x8x512 : Shape := ⟨4, ![1, 4, 8, 512]⟩
abbrev S4x256x128 : Shape := ⟨3, ![4, 256, 128]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S16x1024 : Shape := ⟨2, ![16, 1024]⟩
abbrev S16 : Shape := ⟨1, ![16]⟩
abbrev S16x1 : Shape := ⟨2, ![16, 1]⟩
abbrev S544x1024 : Shape := ⟨2, ![544, 1024]⟩
abbrev S512x128 : Shape := ⟨2, ![512, 128]⟩
abbrev S512x512 : Shape := ⟨2, ![512, 512]⟩
abbrev S1024x512 : Shape := ⟨2, ![1024, 512]⟩
abbrev S128x256 : Shape := ⟨2, ![128, 256]⟩
abbrev S256x1024 : Shape := ⟨2, ![256, 1024]⟩
abbrev S256x256 : Shape := ⟨2, ![256, 256]⟩
abbrev S1024x256 : Shape := ⟨2, ![1024, 256]⟩
abbrev S544x256 : Shape := ⟨2, ![544, 256]⟩
abbrev S1x256 : Shape := ⟨2, ![1, 256]⟩
abbrev S256x128 : Shape := ⟨2, ![256, 128]⟩
abbrev S1x1x256x128 : Shape := ⟨4, ![1, 1, 256, 128]⟩
abbrev S6x256 : Shape := ⟨2, ![6, 256]⟩
abbrev S8x256 : Shape := ⟨2, ![8, 256]⟩
abbrev S1x1x8x256 : Shape := ⟨4, ![1, 1, 8, 256]⟩
abbrev S128x128 : Shape := ⟨2, ![128, 128]⟩
abbrev S1x128x128 : Shape := ⟨3, ![1, 128, 128]⟩
abbrev S512x256 : Shape := ⟨2, ![512, 256]⟩
abbrev S1x256x128 : Shape := ⟨3, ![1, 256, 128]⟩
abbrev S1x128 : Shape := ⟨2, ![1, 128]⟩
abbrev S1x1x128x256 : Shape := ⟨4, ![1, 1, 128, 256]⟩
abbrev S1x512x512 : Shape := ⟨3, ![1, 512, 512]⟩

abbrev nBuf : Space → Nat
  | .hbm => 20
  | .vmem => 42
  | .smem => 0
  | _ => 0

abbrev bufTy : (tb : Table) → Fin (tcTables nBuf tb) → BufTy
  | .hbm, ⟨0, _⟩ => ⟨S8x8192x1024, .f32⟩
  | .hbm, ⟨1, _⟩ => ⟨S8x3x1024, .f32⟩
  | .hbm, ⟨2, _⟩ => ⟨S1x1024, .f32⟩
  | .hbm, ⟨3, _⟩ => ⟨S1024x9248, .bf16⟩
  | .hbm, ⟨4, _⟩ => ⟨S1024x128, .bf16⟩
  | .hbm, ⟨5, _⟩ => ⟨S1024x1024, .bf16⟩
  | .hbm, ⟨6, _⟩ => ⟨S3x1024, .f32⟩
  | .hbm, ⟨7, _⟩ => ⟨S1x1024, .f32⟩
  | .hbm, ⟨8, _⟩ => ⟨S128x1024, .bf16⟩
  | .hbm, ⟨9, _⟩ => ⟨S1x1024, .f32⟩
  | .hbm, ⟨10, _⟩ => ⟨S1024x1024, .bf16⟩
  | .hbm, ⟨11, _⟩ => ⟨S8x8192x1024, .bf16⟩
  | .hbm, ⟨12, _⟩ => ⟨S8x64x512x128, .bf16⟩
  | .hbm, ⟨13, _⟩ => ⟨S8x64x512x128, .bf16⟩
  | .hbm, ⟨14, _⟩ => ⟨S8x8192x1024, .bf16⟩
  | .hbm, ⟨15, _⟩ => ⟨S8x8192x1024, .bf16⟩
  | .hbm, ⟨16, _⟩ => ⟨S8x8192x1024, .bf16⟩
  | .hbm, ⟨17, _⟩ => ⟨S8x64x512x256, .bf16⟩
  | .hbm, ⟨18, _⟩ => ⟨S8x64x1024x128, .bf16⟩
  | .hbm, ⟨19, _⟩ => ⟨S8x64x8x512, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x3x1024, .f32⟩
  | .local _ .vmem, ⟨7, _⟩ => ⟨S1x3x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x128, .bf16⟩
  | .local _ .vmem, ⟨16, _⟩ => ⟨S1024x1024, .bf16⟩
  | .local _ .vmem, ⟨17, _⟩ => ⟨S3x1024, .f32⟩
  | .local _ .vmem, ⟨18, _⟩ => ⟨S1x1024, .f32⟩
  | .local _ .vmem, ⟨19, _⟩ => ⟨S128x1024, .bf16⟩
  | .local _ .vmem, ⟨20, _⟩ => ⟨S1x1024, .f32⟩
  | .local _ .vmem, ⟨21, _⟩ => ⟨S1024x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x4x512x128, .bf16⟩
  | .local _ .vmem, ⟨25, _⟩ => ⟨S1x4x512x128, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x4x512x256, .bf16⟩
  | .local _ .vmem, ⟨35, _⟩ => ⟨S1x4x512x256, .bf16⟩
  | .local _ .vmem, ⟨36, _⟩ => ⟨S1x4x1024x128, .bf16⟩
  | .local _ .vmem, ⟨37, _⟩ => ⟨S1x4x1024x128, .bf16⟩
  | .local _ .vmem, ⟨38, _⟩ => ⟨S1x4x8x512, .f32⟩
  | .local _ .vmem, ⟨39, _⟩ => ⟨S1x4x8x512, .f32⟩
  | .local _ .vmem, ⟨40, _⟩ => ⟨S4x256x128, .f32⟩
  | .local _ .vmem, ⟨41, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_stg26_0 : Ref sig .tc := ⟨.vmem, 38, rfl⟩
abbrev cc0_stg26_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37
abbrev cc0_sem26_0 : DmaSem sig := 38
abbrev cc0_sem26_1 : DmaSem sig := 39

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_19 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_22 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_23 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_24 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_25 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_26 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x4x512x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x4x1024x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x4x8x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Kernel2Ideal.lean ====
variable {F : FTy → Type} [FloatOps F] [Named F]
def κ : String → Option EReal := fun
  | "decay_unit" => some (((Real.log 2)⁻¹ * 16⁻¹ : ℝ) : EReal)
  | _ => none
-- ==== Reference2Ideal.lean ====
abbrev S8x8192x1024 : Shape := ⟨3, ![8, 8192, 1024]⟩
abbrev S8x3x1024 : Shape := ⟨3, ![8, 3, 1024]⟩
abbrev S1x1024 : Shape := ⟨2, ![1, 1024]⟩
abbrev S1024x9248 : Shape := ⟨2, ![1024, 9248]⟩
abbrev S1024x128 : Shape := ⟨2, ![1024, 128]⟩
abbrev S1024x1024 : Shape := ⟨2, ![1024, 1024]⟩
abbrev S3x1024 : Shape := ⟨2, ![3, 1024]⟩
abbrev S128x1024 : Shape := ⟨2, ![128, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8191x1024 : Shape := ⟨3, ![8, 8191, 1024]⟩
abbrev S1024x512 : Shape := ⟨2, ![1024, 512]⟩
abbrev S8x8192x512 : Shape := ⟨3, ![8, 8192, 512]⟩
abbrev S8x64x128x512 : Shape := ⟨4, ![8, 64, 128, 512]⟩
abbrev S8x8192x128 : Shape := ⟨3, ![8, 8192, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x64x512x128 : Shape := ⟨4, ![8, 64, 512, 128]⟩
abbrev S8x64x1x512 : Shape := ⟨4, ![8, 64, 1, 512]⟩
abbrev S8x8192x4x1x128 : Shape := ⟨5, ![8, 8192, 4, 1, 128]⟩
abbrev S8x8192x4x2x128 : Shape := ⟨5, ![8, 8192, 4, 2, 128]⟩
abbrev S8x64x6x512 : Shape := ⟨4, ![8, 64, 6, 512]⟩
abbrev S8x64x8x512 : Shape := ⟨4, ![8, 64, 8, 512]⟩

abbrev nBuf : Space → Nat
  | .hbm => 200
  | .vmem => 0
  | .smem => 0
  | _ => 0

abbrev hbmTy0_0 (i : Nat) : BufTy := match i % 128 with
  | 0 => ⟨S8x8192x1024, .f32⟩
  | 1 => ⟨S8x3x1024, .f32⟩
  | 2 => ⟨S1x1024, .f32⟩
  | 3 => ⟨S1024x9248, .bf16⟩
  | 4 => ⟨S1024x128, .bf16⟩
  | 5 => ⟨S1024x1024, .bf16⟩
  | 6 => ⟨S3x1024, .f32⟩
  | 7 => ⟨S1x1024, .f32⟩
  | 8 => ⟨S128x1024, .bf16⟩
  | 9 => ⟨S1x1024, .f32⟩
  | 10 => ⟨S1024x1024, .bf16⟩
  | 11 => ⟨S8x8192x1024, .f32⟩
  | 12 => ⟨S_, .f32⟩
  | 13 => ⟨S8x8192, .f32⟩
  | 14 => ⟨S8x8192x1, .f32⟩
  | 15 => ⟨S_, .f32⟩
  | 16 => ⟨S8x8192x1, .f32⟩
  | 17 => ⟨S8x8192x1, .f32⟩
  | 18 => ⟨S_, .f32⟩
  | 19 => ⟨S8x8192x1, .f32⟩
  | 20 => ⟨S8x8192x1, .f32⟩
  | 21 => ⟨S8x8192x1, .f32⟩
  | 22 => ⟨S8x8192x1024, .f32⟩
  | 23 => ⟨S8x8192x1024, .f32⟩
  | 24 => ⟨S1x1x1024, .f32⟩
  | 25 => ⟨S8x8192x1024, .f32⟩
  | 26 => ⟨S8x8192x1024, .f32⟩
  | 27 => ⟨S8x1x1024, .f32⟩
  | 28 => ⟨S_, .f32⟩
  | 29 => ⟨S8x1x1024, .f32⟩
  | 30 => ⟨S8x1x1024, .f32⟩
  | 31 => ⟨S8x8192x1024, .f32⟩
  | 32 => ⟨S8x8192x1024, .f32⟩
  | 33 => ⟨S8x1x1024, .f32⟩
  | 34 => ⟨S8x8192x1024, .f32⟩
  | 35 => ⟨S8x8192x1024, .f32⟩
  | 36 => ⟨S1024x1024, .bf16⟩
  | 37 => ⟨S1024x1024, .f32⟩
  | 38 => ⟨S8x8192x1024, .f32⟩
  | 39 => ⟨S1024x1024, .bf16⟩
  | 40 => ⟨S1024x1024, .f32⟩
  | 41 => ⟨S8x8192x1024, .f32⟩
  | 42 => ⟨S1024x1024, .bf16⟩
  | 43 => ⟨S1024x1024, .f32⟩
  | 44 => ⟨S8x8192x1024, .f32⟩
  | 45 => ⟨S1024x1024, .bf16⟩
  | 46 => ⟨S1024x1024, .f32⟩
  | 47 => ⟨S8x8192x1024, .f32⟩
  | 48 => ⟨S8x8192x1024, .f32⟩
  | 49 => ⟨S_, .f32⟩
  | 50 => ⟨S8x1x1024, .f32⟩
  | 51 => ⟨S8x8191x1024, .f32⟩
  | 52 => ⟨S8x8192x1024, .f32⟩
  | 53 => ⟨S8x8191x1024, .f32⟩
  | 54 => ⟨S8x8192x1024, .f32⟩
  | 55 => ⟨S1x1024, .f32⟩
  | 56 => ⟨S1x1x1024, .f32⟩
  | 57 => ⟨S8x8192x1024, .f32⟩
  | 58 => ⟨S8x8192x1024, .f32⟩
  | 59 => ⟨S1x1024, .f32⟩
  | 60 => ⟨S1x1x1024, .f32⟩
  | 61 => ⟨S8x8192x1024, .f32⟩
  | 62 => ⟨S8x8192x1024, .f32⟩
  | 63 => ⟨S8x8192x1024, .f32⟩
  | 64 => ⟨S1x1024, .f32⟩
  | 65 => ⟨S1x1x1024, .f32⟩
  | 66 => ⟨S8x8192x1024, .f32⟩
  | 67 => ⟨S8x8192x1024, .f32⟩
  | 68 => ⟨S8x8192x1024, .f32⟩
  | 69 => ⟨S1x1x1024, .f32⟩
  | 70 => ⟨S8x8192x1024, .f32⟩
  | 71 => ⟨S8x8192x1024, .f32⟩
  | 72 => ⟨S8x8192x1024, .f32⟩
  | 73 => ⟨S8x8192x1024, .f32⟩
  | 74 => ⟨S8x8192x1024, .f32⟩
  | 75 => ⟨S_, .f32⟩
  | 76 => ⟨S8x8192x1024, .f32⟩
  | 77 => ⟨S8x8192x1024, .f32⟩
  | 78 => ⟨S_, .f32⟩
  | 79 => ⟨S8x8192x1024, .f32⟩
  | 80 => ⟨S8x8192x1024, .f32⟩
  | 81 => ⟨S8x8192x1024, .f32⟩
  | 82 => ⟨S8x8192x1024, .f32⟩
  | 83 => ⟨S1024x1024, .f32⟩
  | 84 => ⟨S8x8192x1024, .f32⟩
  | 85 => ⟨S1024x1024, .bf16⟩
  | 86 => ⟨S1024x1024, .f32⟩
  | 87 => ⟨S8x8192x1024, .f32⟩
  | 88 => ⟨S1024x512, .bf16⟩
  | 89 => ⟨S1024x512, .f32⟩
  | 90 => ⟨S8x8192x512, .f32⟩
  | 91 => ⟨S8x64x128x512, .f32⟩
  | 92 => ⟨S_, .f32⟩
  | 93 => ⟨S8x64x128x512, .f32⟩
  | 94 => ⟨S8x64x128x512, .f32⟩
  | 95 => ⟨S1024x512, .bf16⟩
  | 96 => ⟨S1024x512, .f32⟩
  | 97 => ⟨S8x8192x512, .f32⟩
  | 98 => ⟨S8x64x128x512, .f32⟩
  | 99 => ⟨S1024x128, .f32⟩
  | 100 => ⟨S8x8192x128, .f32⟩
  | 101 => ⟨S128x1024, .f32⟩
  | 102 => ⟨S8x8192x1024, .f32⟩
  | 103 => ⟨S1x1x1024, .f32⟩
  | 104 => ⟨S8x8192x1024, .f32⟩
  | 105 => ⟨S8x8192x1024, .f32⟩
  | 106 => ⟨S8x8192x1024, .f32⟩
  | 107 => ⟨S_, .f32⟩
  | 108 => ⟨S8x8192x1024, .f32⟩
  | 109 => ⟨S8x8192x1024, .f32⟩
  | 110 => ⟨S8x8192x1024, .f32⟩
  | 111 => ⟨S8x8192x1024, .f32⟩
  | 112 => ⟨S8x8192x1024, .i1⟩
  | 113 => ⟨S8x8192x1024, .f32⟩
  | 114 => ⟨S8x8192x1024, .f32⟩
  | 115 => ⟨S8x8192x1024, .f32⟩
  | 116 => ⟨S8x8192x1024, .f32⟩
  | 117 => ⟨S8x8192x1024, .f32⟩
  | 118 => ⟨S8x8192x1024, .f32⟩
  | 119 => ⟨S8x8192x1024, .f32⟩
  | 120 => ⟨S8x8192x1024, .f32⟩
  | 121 => ⟨S8x8192x1024, .f32⟩
  | 122 => ⟨S_, .f32⟩
  | 123 => ⟨S8x8192x1024, .f32⟩
  | 124 => ⟨S8x8192x1024, .f32⟩
  | 125 => ⟨S128, .i32⟩
  | 126 => ⟨S128x1, .i32⟩
  | 127 => ⟨S1x128, .i32⟩
  | _ => ⟨S8x8192x1024, .f32⟩

abbrev hbmTy0_1 (i : Nat) : BufTy := match i % 128 with
  | 0 => ⟨S128x128, .i32⟩
  | 1 => ⟨S128x128, .i32⟩
  | 2 => ⟨S128x128, .i1⟩
  | 3 => ⟨S128x128, .f32⟩
  | 4 => ⟨S8x8192x512, .f32⟩
  | 5 => ⟨S8x64x128x512, .f32⟩
  | 6 => ⟨S8x64x512x128, .f32⟩
  | 7 => ⟨S8x64x128x512, .f32⟩
  | 8 => ⟨S128x1, .i32⟩
  | 9 => ⟨S1x128, .i32⟩
  | 10 => ⟨S128x128, .i32⟩
  | 11 => ⟨S128x128, .i32⟩
  | 12 => ⟨S128x128, .i1⟩
  | 13 => ⟨S128x128, .f32⟩
  | 14 => ⟨S8x8192x512, .f32⟩
  | 15 => ⟨S8x64x128x512, .f32⟩
  | 16 => ⟨S8x64x512x128, .f32⟩
  | 17 => ⟨S8x64x128x512, .f32⟩
  | 18 => ⟨S8x64x1x512, .f32⟩
  | 19 => ⟨S8x64x128x512, .f32⟩
  | 20 => ⟨S8x64x128x512, .f32⟩
  | 21 => ⟨S8x64x128x512, .f32⟩
  | 22 => ⟨S_, .f32⟩
  | 23 => ⟨S8x64x128x512, .f32⟩
  | 24 => ⟨S8x64x128x512, .f32⟩
  | 25 => ⟨S_, .f32⟩
  | 26 => ⟨S8x64x128x512, .f32⟩
  | 27 => ⟨S8x64x128x512, .f32⟩
  | 28 => ⟨S8x64x1x512, .f32⟩
  | 29 => ⟨S8x64x128x512, .f32⟩
  | 30 => ⟨S8x64x128x512, .f32⟩
  | 31 => ⟨S8x64x128x512, .f32⟩
  | 32 => ⟨S_, .f32⟩
  | 33 => ⟨S8x64x128x512, .f32⟩
  | 34 => ⟨S8x64x128x512, .f32⟩
  | 35 => ⟨S_, .f32⟩
  | 36 => ⟨S8x64x128x512, .f32⟩
  | 37 => ⟨S8x64x128x512, .f32⟩
  | 38 => ⟨S8x64x128x512, .f32⟩
  | 39 => ⟨S8x8192x4x1x128, .f32⟩
  | 40 => ⟨S8x64x128x512, .f32⟩
  | 41 => ⟨S8x8192x4x1x128, .f32⟩
  | 42 => ⟨S8x8192x4x2x128, .f32⟩
  | 43 => ⟨S8x8192x1024, .f32⟩
  | 44 => ⟨S8x64x128x512, .f32⟩
  | 45 => ⟨S8x64x128x512, .f32⟩
  | 46 => ⟨S8x64x512x128, .f32⟩
  | 47 => ⟨S8x64x512x128, .f32⟩
  | 48 => ⟨S8x64x1x512, .f32⟩
  | 49 => ⟨S8x64x1x512, .f32⟩
  | 50 => ⟨S8x64x1x512, .f32⟩
  | 51 => ⟨S8x64x1x512, .f32⟩
  | 52 => ⟨S_, .f32⟩
  | 53 => ⟨S8x64x6x512, .f32⟩
  | 54 => ⟨S8x64x8x512, .f32⟩
  | 55 => ⟨S8x8192x1024, .bf16⟩
  | 56 => ⟨S8x64x512x128, .bf16⟩
  | 57 => ⟨S8x64x512x128, .bf16⟩
  | 58 => ⟨S8x8192x1024, .bf16⟩
  | 59 => ⟨S8x8192x1024, .bf16⟩
  | 60 => ⟨S1024x1024, .f32⟩
  | 61 => ⟨S8x8192x1024, .f32⟩
  | 62 => ⟨S8x8192x1024, .f32⟩
  | 63 => ⟨S8x8192x1024, .f32⟩
  | 64 => ⟨S_, .f32⟩
  | 65 => ⟨S8x8192x1024, .f32⟩
  | 66 => ⟨S8x8192x1024, .f32⟩
  | 67 => ⟨S_, .f32⟩
  | 68 => ⟨S8x8192x1024, .f32⟩
  | 69 => ⟨S8x8192x1024, .f32⟩
  | 70 => ⟨S8x8192x1024, .f32⟩
  | 71 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call0_v0 : Ref sig .tc := ⟨.hbm, 73, rfl⟩
abbrev main_call0_v1 : Ref sig .tc := ⟨.hbm, 74, rfl⟩
abbrev main_call0_cst : Ref sig .tc := ⟨.hbm, 75, rfl⟩
abbrev main_call0_v2 : Ref sig .tc := ⟨.hbm, 76, rfl⟩
abbrev main_call0_v3 : Ref sig .tc := ⟨.hbm, 77, rfl⟩
abbrev main_call0_cst_0 : Ref sig .tc := ⟨.hbm, 78, rfl⟩
abbrev main_call0_v4 : Ref sig .tc := ⟨.hbm, 79, rfl⟩
abbrev main_call0_v5 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_4 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call1_v0 : Ref sig .tc := ⟨.hbm, 106, rfl⟩
abbrev main_call1_call0_cst : Ref sig .tc := ⟨.hbm, 107, rfl⟩
abbrev main_call1_call0_v0 : Ref sig .tc := ⟨.hbm, 108, rfl⟩
abbrev main_call1_call0_v1 : Ref sig .tc := ⟨.hbm, 109, rfl⟩
abbrev main_call1_call0_v2 : Ref sig .tc := ⟨.hbm, 110, rfl⟩
abbrev main_call1_call0_v3 : Ref sig .tc := ⟨.hbm, 111, rfl⟩
abbrev main_call1_call0_v4 : Ref sig .tc := ⟨.hbm, 112, rfl⟩
abbrev main_call1_call0_v5 : Ref sig .tc := ⟨.hbm, 113, rfl⟩
abbrev main_call1_call0_v6 : Ref sig .tc := ⟨.hbm, 114, rfl⟩
abbrev main_call1_call0_v7 : Ref sig .tc := ⟨.hbm, 115, rfl⟩
abbrev main_call1_call0_v8 : Ref sig .tc := ⟨.hbm, 116, rfl⟩
abbrev main_call1_call0_v9 : Ref sig .tc := ⟨.hbm, 117, rfl⟩
abbrev main_call1_call0_v10 : Ref sig .tc := ⟨.hbm, 118, rfl⟩
abbrev main_call1_call0_v11 : Ref sig .tc := ⟨.hbm, 119, rfl⟩
abbrev main_call1_v1 : Ref sig .tc := ⟨.hbm, 120, rfl⟩
abbrev main_v81 : Ref sig .tc := ⟨.hbm, 121, rfl⟩
abbrev main_cst_5 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_6 : Ref sig .tc := ⟨.hbm, 150, rfl⟩
abbrev main_v109 : Ref sig .tc := ⟨.hbm, 151, rfl⟩
abbrev main_v110 : Ref sig .tc := ⟨.hbm, 152, rfl⟩
abbrev main_cst_7 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_8 : Ref sig .tc := ⟨.hbm, 160, rfl⟩
abbrev main_v117 : Ref sig .tc := ⟨.hbm, 161, rfl⟩
abbrev main_v118 : Ref sig .tc := ⟨.hbm, 162, rfl⟩
abbrev main_cst_9 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_10 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_11 : Ref sig .tc := ⟨.hbm, 192, rfl⟩
abbrev main_v146 : Ref sig .tc := ⟨.hbm, 193, rfl⟩
abbrev main_v147 : Ref sig .tc := ⟨.hbm, 194, rfl⟩
abbrev main_cst_12 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩

abbrev nD : Nat := 1
abbrev τ : Topo := Topo.v7x

variable {F : FTy → Type} [FloatOps F]
-- ==== Kernel3.lean ====
abbrev S8x1024 : Shape := ⟨2, ![8, 1024]⟩
abbrev S1024x3072 : Shape := ⟨2, ![1024, 3072]⟩
abbrev S1x3072 : Shape := ⟨2, ![1, 3072]⟩
abbrev S8x3072 : Shape := ⟨2, ![8, 3072]⟩

abbrev nBuf : Space → Nat
  | .hbm => 4
  | .vmem => 4
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1x3072, .f32⟩
  | .hbm, ⟨3, _⟩ => ⟨S8x3072, .f32⟩
  | .local _ .vmem, ⟨0, _⟩ => ⟨S8x1024, .f32⟩
  | .local _ .vmem, ⟨1, _⟩ => ⟨S1024x3072, .f32⟩
  | .local _ .vmem, ⟨2, _⟩ => ⟨S1x3072, .f32⟩
  | .local _ .vmem, ⟨3, _⟩ => ⟨S8x3072, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference3Ideal.lean ====
abbrev S8x1024 : Shape := ⟨2, ![8, 1024]⟩
abbrev S1024x3072 : Shape := ⟨2, ![1024, 3072]⟩
abbrev S1x3072 : Shape := ⟨2, ![1, 3072]⟩
abbrev S_ : Shape := ⟨0, ![]⟩
abbrev S8x3072 : Shape := ⟨2, ![8, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S1x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x3072, .f32⟩
  | .hbm, ⟨13, _⟩ => ⟨S8x3072, .f32⟩
  | .hbm, ⟨14, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Scalar.lean ====
/-
  The scalar functions of the layer at the ideal instance. The kernel writes the logistic function and the SiLU by a
  hyperbolic tangent of half the argument, the reference by an exponential and a quotient; here are the two equations
  between the spellings, and the values of the literals both programs print.
-/
module

public import Idealize.ShloMosaic.Lib.Pointwise

@[expose] public section

noncomputable section

namespace Cert.Scalar

open Idealize.ShloMosaic

/-- The f32 literal `0.5` denotes one half. -/
theorem half_bits : (Ideal.ofBits .f32 0x3F000000#32 : EReal) = ((1 / 2 : ℝ) : EReal) := by
  simp [Ideal.ofBits, Ideal.ieee, -EReal.coe_mul]; norm_num

/-- The f32 literal `1.0` denotes one. -/
theorem one_bits : (Ideal.ofBits .f32 0x3F800000#32 : EReal) = 1 := by
  simp [Ideal.ofBits, Ideal.ieee, -EReal.coe_mul]; norm_num

/-- The f32 literal of `+∞` denotes `+∞`. -/
theorem inf_bits : (Ideal.ofBits .f32 0x7F800000#32 : EReal) = ⊤ := by
  simp [Ideal.ofBits, Ideal.ieee, -EReal.coe_mul]

/-- The hyperbolic tangent of half a number, by the logistic function: `tanh (r / 2) = 2 / (1 + e⁻ʳ) - 1`. -/
theorem tanh_half (r : ℝ) : Real.tanh (1 / 2 * r) = 2 * (1 + Real.exp (-r))⁻¹ - 1 := by
  have hp := Real.exp_pos (1 / 2 * r)
  have hn := Real.exp_pos (-(1 / 2 * r))
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  rw [Real.tanh_eq_sinh_div_cosh, Real.sinh_eq, Real.cosh_eq, h1]
  have h3 : Real.exp (1 / 2 * r) = (Real.exp (-(1 / 2 * r)))⁻¹ := eq_inv_of_mul_eq_one_left h2
  rw [h3]
  generalize Real.exp (-(1 / 2 * r)) = e at hn
  have : e ≠ 0 := hn.ne'
  have : 1 + e * e ≠ 0 := by positivity
  field_simp
  ring

/-- The kernel's logistic, `1/2 + 1/2 · tanh (z / 2)`, is the reference's, `1 / (1 + e⁻ᶻ)`, at every extended real. -/
theorem sigmoid_eq (z : EReal) :
    ((1 / 2 : ℝ) : EReal) + ((1 / 2 : ℝ) : EReal) * Ideal.tanh (((1 / 2 : ℝ) : EReal) * z)
      = Ideal.div 1 (1 + Ideal.exp (-z)) := by
  show _ = Ideal.logistic z
  induction z with
  | bot =>
    rw [EReal.coe_mul_bot_of_pos (by norm_num), Ideal.tanh_bot, Ideal.logistic_bot]
    rw [← EReal.coe_one, ← EReal.coe_neg, ← EReal.coe_mul, ← EReal.coe_add]; norm_num
  | top =>
    rw [EReal.coe_mul_top_of_pos (by norm_num), Ideal.tanh_top, Ideal.logistic_top]
    rw [← EReal.coe_one, ← EReal.coe_mul, ← EReal.coe_add]; norm_num
  | coe r =>
    rw [← EReal.coe_mul, Ideal.tanh_coe, Ideal.logistic_coe, ← EReal.coe_mul, ← EReal.coe_add, tanh_half]
    congr 1; ring

/-- The kernel's SiLU, `h + h · tanh h` at `h = z / 2`, is the reference's, `z · 1 / (1 + e⁻ᶻ)`, at a real `z`. (At `-∞` the
    two differ: the kernel's is `-∞`, the reference's `-∞ · 0 = 0`.) -/
theorem silu_eq (z : ℝ) :
    ((1 / 2 : ℝ) : EReal) * (z : EReal) + ((1 / 2 : ℝ) : EReal) * (z : EReal) * Ideal.tanh (((1 / 2 : ℝ) : EReal) * (z : EReal))
      = (z : EReal) * Ideal.div 1 (1 + Ideal.exp (-(z : EReal))) := by
  show _ = (z : EReal) * Ideal.logistic z
  rw [← EReal.coe_mul, Ideal.tanh_coe, Ideal.logistic_coe, ← EReal.coe_mul, ← EReal.coe_mul, ← EReal.coe_add, tanh_half]
  congr 1; ring

/-- An extended real whose absolute value `max z (-z)` lies below `+∞` is a real number. -/
theorem real_of_abs_lt_top {z : EReal} (h : max z (-z) < ⊤) : ∃ r : ℝ, z = (r : EReal) := by
  induction z with
  | bot => simp at h
  | top => simp at h
  | coe r => exact ⟨r, rfl⟩

/-- A finite sum of products of real numbers is a real number. -/
theorem sum_mul_real {ι : Type} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  classical
  induction s using Finset.induction_on with
  | empty => exact ⟨0, by simp⟩
  | insert i s hi ih =>
    obtain ⟨r, hr⟩ := ih
    obtain ⟨a, ha⟩ := hf i
    obtain ⟨b, hb⟩ := hg i
    exact ⟨a * b + r, by rw [Finset.sum_insert hi, hr, ha, hb, EReal.coe_add, EReal.coe_mul]⟩

end Cert.Scalar
-- ==== Proof.Layer.lean ====
/-
  The layer's mathematics on extended reals, one token and one head at a time, over plain functions of positions: the
  chunked bidirectional attention, the head normalisation, the gate, and the merge with the final normalisation. Neither
  program's tiling appears here; the kernel's grid point and the reference's whole arrays are both read down to these.
-/
module

public import Idealize.ShloMosaic.Lib.Pointwise
public import proofs.«01_k».proof.Proof.Scalar

@[expose] public section

noncomputable section

namespace Cert.Layer

open Idealize.ShloMosaic

/-- The normalisations' `ε`, the head width 256 and the model width 1024, as both programs print them. -/
abbrev eps : EReal := Ideal.ofBits .f32 0x358637BD#32
abbrev headWidth : EReal := Ideal.ofBits .f32 0x43800000#32
abbrev modelWidth : EReal := Ideal.ofBits .f32 0x44800000#32

/-- The weight token `t` of a chunk gives token `s`: forward features at or before `t`, backward features after it. -/
def weight (t s : Fin 128) (qf qb : Fin 128 → EReal) (kf kb : Fin 128 → Fin 128 → EReal) : EReal :=
  if s ≤ t then ∑ d, qf d * kf d s else ∑ d, qb d * kb d s

/-- One element of the attention's output: the chunk's own tokens, the forward state and the backward state. -/
def attend (t : Fin 128) (qf qb mu : Fin 128 → EReal) (kf kb : Fin 128 → Fin 128 → EReal)
    (vcol sf sb : Fin 128 → EReal) : EReal :=
  ∑ s, weight t s qf qb kf kb * vcol s + (∑ d, qf d * (sf d * mu d) + ∑ d, qb d * sb d)

/-- The forward state before chunk `n`, one element: each chunk decays it and adds its update. -/
def state (s0 : EReal) (g u : ℕ → EReal) : ℕ → EReal
  | 0 => s0
  | n + 1 => state s0 g u n * g n + u n

/-- Root-mean-square normalisation of a row. -/
def rms {n : ℕ} (width : EReal) (y : Fin n → EReal) (j : Fin n) : EReal :=
  y j * Ideal.rsqrt (Ideal.div (∑ k, y k * y k) width + eps)

/-- The gate `z · σ(z)` by the hyperbolic tangent of half its argument. -/
def gate (z : EReal) : EReal :=
  ((1 / 2 : ℝ) : EReal) * z + ((1 / 2 : ℝ) : EReal) * z * Ideal.tanh (((1 / 2 : ℝ) : EReal) * z)

/-- The logistic function. -/
def logistic (z : EReal) : EReal := Ideal.div 1 (1 + Ideal.exp (-z))

/-- The gated attention row a token's output projection takes: the head's normalised output, the gain and the gate. -/
def gated (o : Fin 256 → EReal) (v : Fin 256) (gain z : EReal) : EReal :=
  rms headWidth o v * gain * gate z

/-- A token's residual row: the merged branches projected, scaled by the modulation and added to the input. -/
def residual (x h yam modl y : Fin 1024 → EReal) (wmb wbo wo : Fin 1024 → Fin 1024 → EReal) (j : Fin 1024) : EReal :=
  x j + modl j * ∑ k, (yam k + logistic (∑ l, h l * wmb l k) * ∑ l, y l * wbo l k) * wo k j

/-- A token's output row: the residual row normalised, with the final gain. -/
def token (x h yam modl y fng : Fin 1024 → EReal) (wmb wbo wo : Fin 1024 → Fin 1024 → EReal) (j : Fin 1024) : EReal :=
  rms modelWidth (residual x h yam modl y wmb wbo wo) j * fng j

end Cert.Layer

end
-- ==== Proof.Point.lean ====
/-
  One grid point of the kernel: what it leaves in its output block and in the carried state, as functions of its blocks,
  in the layer's mathematics (Layer.lean). The blocks are those of the launch: 512 tokens in four chunks of 128.
-/
module

public import proofs.«01_k».proof.Proof.Gen.KernelIdeal.Skeleton
public import proofs.«01_k».proof.Proof.Layer

@[expose] public section

noncomputable section

namespace Cert.Point

open Idealize.ShloMosaic Cert.KernelIdeal

/-- Row `t` of chunk `n` in a block of four chunks. -/
def tok (n : Fin 4) (t : Fin 128) : Fin 512 := ⟨128 * n.val + t.val, by omega⟩
/-- Column `v` of head `h` among the model's columns. -/
def col (h : Fin 4) (v : Fin 256) : Fin 1024 := ⟨256 * h.val + v.val, by omega⟩
/-- The forward and the backward feature `d` of head `h` among the query columns. -/
def fwd (h : Fin 4) (d : Fin 128) : Fin 1024 := ⟨256 * h.val + d.val, by omega⟩
def bwd (h : Fin 4) (d : Fin 128) : Fin 1024 := ⟨256 * h.val + (128 + d.val), by omega⟩
/-- Feature `d` of head `h` among the key features. -/
def key (h : Fin 4) (d : Fin 128) : Fin 512 := ⟨128 * h.val + d.val, by omega⟩

/-- Chunk number `n` of the block's four. -/
def nth (n : ℕ) : Fin 4 := ⟨n % 4, by omega⟩

theorem nth_zero : nth 0 = 0 := rfl
theorem nth_one : nth 1 = 1 := rfl
theorem nth_two : nth 2 = 2 := rfl
theorem nth_three : nth 3 = 3 := rfl

variable (x0 : Vec Ideal S1x512x1024 .f32) (x1 : Vec Ideal S1x512x1024 .bf16) (x2 x3 : Vec Ideal S1x4x512x128 .bf16)
  (x4 x5 x6 : Vec Ideal S1x512x1024 .bf16) (x7 : Vec Ideal S1x4x512x256 .bf16) (x8 : Vec Ideal S1x4x1024x128 .bf16)
  (x9 : Vec Ideal S1x4x8x512 .f32) (x10 : Vec Ideal S1x3x1024 .f32) (x11 : Vec Ideal S1x1024 .f32)
  (x12 x13 x14 x15 : Vec Ideal S1024x1024 .bf16) (x16 : Vec Ideal S1x1024 .f32) (xs : Vec Ideal S4x256x128 .f32)

/-- The state before the point's chunk `n` (after the point at `n = 4`), from the state it finds. -/
def stateAt (h : Fin 4) (v : Fin 256) (d : Fin 128) (n : ℕ) : EReal :=
  Layer.state (xs (ix3 h v d)) (fun n => x9 (ix4 (0 : Fin 1) (nth n) (0 : Fin 8) (key h d)))
    (fun n => x8 (ix4 (0 : Fin 1) (nth n) (col h v) d)) n

/-- The state the point leaves, as the carried array. -/
def stateAfter : Vec Ideal S4x256x128 .f32 := fun y => stateAt x8 x9 xs (y 0) (y 1) (y 2) 4

/-- The attention's output for token `t` of the point's chunk `n`, head `h`, column `v`. -/
def attend (n h : Fin 4) (t : Fin 128) (v : Fin 256) : EReal :=
  Layer.attend t (fun d => x1 (ix3 (0 : Fin 1) (tok n t) (fwd h d))) (fun d => x1 (ix3 (0 : Fin 1) (tok n t) (bwd h d)))
    (fun d => x9 (ix4 (0 : Fin 1) n (1 : Fin 8) (key h d)))
    (fun d s => x2 (ix4 (0 : Fin 1) n (key h d) s)) (fun d s => x3 (ix4 (0 : Fin 1) n (key h d) s))
    (fun s => x4 (ix3 (0 : Fin 1) (tok n s) (col h v))) (fun d => stateAt x8 x9 xs h v d n)
    (fun d => x7 (ix4 (0 : Fin 1) n (key h d) v))

/-- The gated row the point keeps for its output projection. -/
def gated (n h : Fin 4) (t : Fin 128) (v : Fin 256) : EReal :=
  Layer.gated (attend x1 x2 x3 x4 x7 x8 x9 xs n h t) v (x11 (ix2 (0 : Fin 1) (col h v)))
    (∑ k : Fin 1024, x5 (ix3 (0 : Fin 1) (tok n t) k) * x12 (ix2 k (col h v)))

/-- The same by block row and model column. -/
def gatedAt (r : Fin 512) (j : Fin 1024) : EReal :=
  gated x1 x2 x3 x4 x5 x7 x8 x9 x11 x12 xs ⟨r.val / 128, by omega⟩ ⟨j.val / 256, by omega⟩ ⟨r.val % 128, by omega⟩
    ⟨j.val % 256, by omega⟩

/-- At row `t` of chunk `n` and column `v` of head `h`, the row by chunk and head. -/
theorem gatedAt_mk (n h : Fin 4) (t : Fin 128) (v : Fin 256) :
    gatedAt x1 x2 x3 x4 x5 x7 x8 x9 x11 x12 xs (tok n t) (col h v) = gated x1 x2 x3 x4 x5 x7 x8 x9 x11 x12 xs n h t v := by
  unfold gatedAt tok col
  congr 1 <;> apply Fin.ext <;> dsimp only <;> omega

/-- The point's gated rows, as the array the kernel keeps them in. -/
def gatedRows : Vec Ideal S512x1024 .bf16 := fun y => gatedAt x1 x2 x3 x4 x5 x7 x8 x9 x11 x12 xs (y 0) (y 1)

/-- The point's output block. -/
def out (r : Fin 512) (j : Fin 1024) : EReal :=
  Layer.token (fun k => x0 (ix3 (0 : Fin 1) r k)) (fun k => x5 (ix3 (0 : Fin 1) r k)) (fun k => x6 (ix3 (0 : Fin 1) r k))
    (fun k => x10 (ix3 (0 : Fin 1) (2 : Fin 3) k)) (gatedAt x1 x2 x3 x4 x5 x7 x8 x9 x11 x12 xs r)
    (fun k => x16 (ix2 (0 : Fin 1) k)) (fun l k => x13 (ix2 l k)) (fun l k => x14 (ix2 l k)) (fun l k => x15 (ix2 l k)) j

/-- The point's output block, as the array it writes. -/
def outBlock : Vec Ideal S1x512x1024 .f32 := fun y =>
  out x0 x1 x2 x3 x4 x5 x6 x7 x8 x9 x10 x11 x12 x13 x14 x15 x16 xs (y 1) (y 2)

end Cert.Point

end
-- ==== Proof.Body.lean ====
/-
  The kernel's body at one grid point, read down to the layer's mathematics: the output block and the state it leaves are
  those of Point.lean. The body keeps the gated rows of its sixteen (chunk, head) pairs in a scratch before it projects
  them; the scratch is read back as one array. A batch's first point clears the state, and then is any other point that
  finds it zero.
-/
module

public import proofs.«01_k».proof.Proof.Gen.KernelIdeal.Frame
public import proofs.«01_k».proof.Proof.Point
public import Idealize.ShloMosaic.Lib.Pipeline.ReadBack

@[expose] public section

set_option maxRecDepth 16384

noncomputable section

namespace Cert.Body

open Idealize.ShloMosaic Idealize.ShloMosaic.TcCoe Idealize.ShloMosaic.Tactic
open Cert.KernelIdeal Cert.KernelIdeal.Gen

/-! Where the body's rectangles lie. -/

/-- One head's slab of the carried state. -/
theorem emb_state (o : ℕ) (ho : o < 4) (inb) (a : Fin 1) (b : Fin 256) (d : Fin 128) :
    (Rect.unit (s := S4x256x128) ![o, 0, 0] ![1, 256, 128] inb).emb (ix3 a b d) = ix3 ⟨o, ho⟩ b d := by
  funext k
  apply Fin.ext
  match k with
  | 0 => show o + 1 * a.val = o; omega
  | 1 => show 0 + 1 * b.val = b; omega
  | 2 => show 0 + 1 * d.val = d; omega

/-- One chunk's and one head's part of the gated rows. -/
theorem emb_gated (o p : ℕ) (n h : Fin 4) (ho : o = 128 * n.val) (hp : p = 256 * h.val) (inb) (a : Fin 128) (b : Fin 256) :
    (Rect.unit (s := S512x1024) ![o, p] S128x256.size inb).emb (ix2 a b) = ix2 (Point.tok n a) (Point.col h b) := by
  funext k
  apply Fin.ext
  match k with
  | 0 => show o + 1 * a.val = 128 * n.val + a; omega
  | 1 => show p + 1 * b.val = 256 * h.val + b; omega

/-- One half of the output block. -/
theorem emb_out (o : ℕ) (ho : o + 256 ≤ 512) (inb) (a : Fin 1) (b : Fin 256) (d : Fin 1024) :
    (Rect.unit (s := S1x512x1024) ![0, o, 0] ![1, 256, 1024] inb).emb (ix3 a b d)
      = ix3 (0 : Fin 1) ⟨o + b.val, by omega⟩ d := by
  funext k
  apply Fin.ext
  match k with
  | 0 => show 0 + 1 * a.val = 0; omega
  | 1 => show o + 1 * b.val = o + b; omega
  | 2 => show 0 + 1 * d.val = d; omega

/-- The causal choice the kernel makes on position words is the choice on positions. -/
theorem select_le (s t : Fin 128) (a b : EReal) :
    Scalar.select (IntOp.cmpi .sle (BitVec.ofNat 32 s.val) (BitVec.ofNat 32 t.val)) a b = if s ≤ t then a else b := by
  have hv : ∀ x : Fin 128, (BitVec.ofNat 32 x.val).toInt = (x.val : ℤ) := by
    intro x
    have hx : (BitVec.ofNat 32 x.val).toNat = x.val := by
      rw [BitVec.toNat_ofNat]
      exact Nat.mod_eq_of_lt (by omega)
    rw [BitVec.toInt_eq_toNat_of_lt (by rw [hx]; omega), hx]
  have h : (BitVec.ofNat 32 s.val).sle (BitVec.ofNat 32 t.val) = decide (s ≤ t) := by
    simp only [BitVec.sle, hv, Fin.le_def, Int.ofNat_le]
  unfold IntOp.cmpi Scalar.select
  simp only [h]
  by_cases hst : s ≤ t <;> simp [hst]

/-- A load of stored pieces reads the array the pieces make up. -/
theorem readCov_ld {κ : Kind} {sp : Space} {s : Shape} {e : EltTy} (v : View sig κ sp s e)
    (L : List (View.Piece (Elt Ideal) s e)) (r : Rect s) :
    v.readCov L r.toLoadRect = View.ld (View.canon L) r :=
  View.readCov_eq_canon' v L r.toLoadRect

/-! The gated rows at a chunk and a head. -/

section
variable
  (x0 : Vec Ideal S1x512x1024 .f32) (x1 : Vec Ideal S1x512x1024 .bf16) (x2 : Vec Ideal S1x4x512x128 .bf16)
  (x3 : Vec Ideal S1x4x512x128 .bf16) (x4 : Vec Ideal S1x512x1024 .bf16) (x5 : Vec Ideal S1x512x1024 .bf16)
  (x6 : Vec Ideal S1x512x1024 .bf16) (x7 : Vec Ideal S1x4x512x256 .bf16) (x8 : Vec Ideal S1x4x1024x128 .bf16)
  (x9 : Vec Ideal S1x4x8x512 .f32) (x10 : Vec Ideal S1x3x1024 .f32) (x11 : Vec Ideal S1x1024 .f32)
  (x12 : Vec Ideal S1024x1024 .bf16) (x13 : Vec Ideal S1024x1024 .bf16) (x14 : Vec Ideal S1024x1024 .bf16)
  (x15 : Vec Ideal S1024x1024 .bf16) (x16 : Vec Ideal S1x1024 .f32) (xs0 : Vec Ideal S4x256x128 .f32)

theorem gatedRows_mk (n h : Fin 4) (a : Fin 128) (b : Fin 256) :
    Point.gatedRows x1 x2 x3 x4 x5 x7 x8 x9 x11 x12 xs0 (ix2 (Point.tok n a) (Point.col h b))
      = Point.gated x1 x2 x3 x4 x5 x7 x8 x9 x11 x12 xs0 n h a b :=
  Point.gatedAt_mk ..

end

/-! The body where it carries the state. -/

section
variable
  (c : Dev nD) (i : grid0.Coords) (arg2 : Memref sig .tc .vmem S1x512x1024 .f32) (harg2 : arg2.IsWhole)
  (arg3 : Memref sig .tc .vmem S1x512x1024 .bf16) (harg3 : arg3.IsWhole)
  (arg4 : Memref sig .tc .vmem S1x4x512x128 .bf16) (harg4 : arg4.IsWhole)
  (arg5 : Memref sig .tc .vmem S1x4x512x128 .bf16) (harg5 : arg5.IsWhole)
  (arg6 : Memref sig .tc .vmem S1x512x1024 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x4x512x256 .bf16) (harg9 : arg9.IsWhole)
  (arg10 : Memref sig .tc .vmem S1x4x1024x128 .bf16) (harg10 : arg10.IsWhole)
  (arg11 : Memref sig .tc .vmem S1x4x8x512 .f32) (harg11 : arg11.IsWhole)
  (arg12 : Memref sig .tc .vmem S1x3x1024 .f32) (harg12 : arg12.IsWhole) (arg13 : Memref sig .tc .vmem S1x1024 .f32)
  (harg13 : arg13.IsWhole) (arg14 : Memref sig .tc .vmem S1024x1024 .bf16) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole) (arg18 : Memref sig .tc .vmem S1x1024 .f32)
  (harg18 : arg18.IsWhole) (arg19 : Memref sig .tc .vmem S1x512x1024 .f32) (harg19 : arg19.IsWhole)
  (arg20 : Memref sig .tc .vmem S4x256x128 .f32) (harg20 : arg20.IsWhole)
  (arg21 : Memref sig .tc .vmem S512x1024 .bf16) (harg21 : arg21.IsWhole)
  (hc0 : ¬cond0_0 i)
  (x0 : Vec Ideal S1x512x1024 .f32) (x1 : Vec Ideal S1x512x1024 .bf16) (x2 : Vec Ideal S1x4x512x128 .bf16)
  (x3 : Vec Ideal S1x4x512x128 .bf16) (x4 : Vec Ideal S1x512x1024 .bf16) (x5 : Vec Ideal S1x512x1024 .bf16)
  (x6 : Vec Ideal S1x512x1024 .bf16) (x7 : Vec Ideal S1x4x512x256 .bf16) (x8 : Vec Ideal S1x4x1024x128 .bf16)
  (x9 : Vec Ideal S1x4x8x512 .f32) (x10 : Vec Ideal S1x3x1024 .f32) (x11 : Vec Ideal S1x1024 .f32)
  (x12 : Vec Ideal S1024x1024 .bf16) (x13 : Vec Ideal S1024x1024 .bf16) (x14 : Vec Ideal S1024x1024 .bf16)
  (x15 : Vec Ideal S1024x1024 .bf16) (x16 : Vec Ideal S1x1024 .f32) (xs0 : Vec Ideal S4x256x128 .f32)

/-- The state the body leaves. -/
theorem state_carried :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0
      = Point.stateAfter x8 x9 xs0 := by
  unfold sout0_B_0
  rw [View.read_writes_junk_eq_canon]
  funext y
  refine View.canon_apply_of_pieces _ _ (View.PiecesOf.mem ?_) y (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 y)
  unfold kernelRun0_B
  dsimp only
  sl_unfold_words
  simp only [View.readAt_eq_ld, harg20.read_unread, harg11.read_unread, harg10.read_unread]
  refine ⟨?_, ?_, ?_, ?_, trivial⟩
  all_goals
    intro x
    idx_vars x
    rw [emb_state _ (by decide)]
    unfold_payloads
    pointwise
    show _ = Point.stateAt x8 x9 xs0 _ _ _ 4
    simp [Point.stateAt, Layer.state, Point.key, Point.col, Point.nth_zero, Point.nth_one, Point.nth_two,
      Point.nth_three]

set_option maxHeartbeats 4000000 in
/-- The output block the body writes. -/
theorem out_carried :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0
      = Point.outBlock x0 x1 x2 x3 x4 x5 x6 x7 x8 x9 x10 x11 x12 x13 x14 x15 x16 xs0 := by
  unfold out0_B_17
  rw [View.read_writes_junk_eq_canon]
  funext y
  refine View.canon_apply_of_pieces _ _ (View.PiecesOf.mem ?_) y (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16 xs0 y)
  unfold kernelRun0_B
  dsimp only
  sl_unfold_words
  simp only [View.readAt_eq_ld, readCov_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread]
  have key : ∀ L, View.PiecesOf (Point.gatedRows x1 x2 x3 x4 x5 x7 x8 x9 x11 x12 xs0) L →
      (∀ y, ∃ p ∈ L, y ∈ p.1.set) → View.canon L = Point.gatedRows x1 x2 x3 x4 x5 x7 x8 x9 x11 x12 xs0 :=
    fun L hL hc => funext fun y => View.canon_apply_of_pieces _ _ (View.PiecesOf.mem hL) y (hc y)
  rw [key _ ?_ (View.cover_of_tiledL _ S128x256.size (by sl_kernel_rfl))]
  rotate_left
  · refine ⟨?_, ?_, ?_, ?_, ?_, ?_, ?_, ?_, ?_, ?_, ?_, ?_, ?_, ?_, ?_, ?_, trivial⟩
    · intro y
      idx_vars y
      rw [emb_gated 384 768 3 3 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 384 512 3 2 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 384 256 3 1 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 384 0 3 0 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 256 768 2 3 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 256 512 2 2 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 256 256 2 1 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 256 0 2 0 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 128 768 1 3 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 128 512 1 2 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 128 256 1 1 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 128 0 1 0 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 0 768 0 3 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 0 512 0 2 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 0 256 0 1 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
    · intro y
      idx_vars y
      rw [emb_gated 0 0 0 0 rfl rfl, gatedRows_mk]
      unfold_payloads
      pointwise
      simp [Point.gated, Point.attend, Layer.attend, Layer.weight, Layer.gated, Layer.rms, Layer.gate, Point.stateAt,
        Layer.state, Layer.headWidth, Layer.eps, Point.key, Point.col, Point.fwd, Point.bwd, Point.tok, Point.nth_zero,
        Point.nth_one, Point.nth_two, Point.nth_three, select_le, Scalar.half_bits, -ite_mul]
  · refine ⟨?_, ?_, trivial⟩
    all_goals
      intro y
      idx_vars y
      rw [emb_out _ (by decide)]
      unfold_payloads
      pointwise
      simp only [Scalar.half_bits, Scalar.sigmoid_eq, zero_add]
      rfl

end

end Cert.Body

end
-- ==== Proof.First.lean ====
/-
  A batch's first point. The body clears the carried state before it reads it, and is then the body of any other point
  that finds the state zero: the same block written, the same state left.
-/
module

public import proofs.«01_k».proof.Proof.Gen.KernelIdeal.Frame
public import proofs.«01_k».proof.Proof.Point
public import Idealize.ShloMosaic.Lib.Pipeline.ReadBack

@[expose] public section

set_option maxRecDepth 16384

noncomputable section

namespace Cert.Body

open Idealize.ShloMosaic Idealize.ShloMosaic.TcCoe Idealize.ShloMosaic.Tactic
open Cert.KernelIdeal Cert.KernelIdeal.Gen

/-- A load of one head's slab does not see another's store. -/
theorem slab_skip {κ : Kind} {sp : Space} (v : View sig κ sp S4x256x128 .f32) (o o' : ℕ) (inb inb')
    (w : Vec Ideal S1x256x128 .f32) (L : List (View.Piece (Elt Ideal) S4x256x128 .f32)) (h : (o == o') = false) :
    v.readCov ((⟨Rect.unit (s := S4x256x128) ![o, 0, 0] ![1, 256, 128] inb, w⟩ : View.Piece (Elt Ideal) S4x256x128 .f32) :: L)
        (Rect.unit (s := S4x256x128) ![o', 0, 0] ![1, 256, 128] inb').toLoadRect
      = v.readCov L (Rect.unit (s := S4x256x128) ![o', 0, 0] ![1, 256, 128] inb').toLoadRect := by
  refine View.readCov_cons_of_disjoint v _ L _ (Rect.unit_disjoint (inb := inb) (inb' := inb') 0 ?_)
  have h : o ≠ o' := by simpa using h
  show o + 1 ≤ o' ∨ o' + 1 ≤ o
  omega

/-- Earlier stores do not matter where later ones cover. -/
theorem canon_covered {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨x, rfl⟩ := p.1.exists_idx_of_mem hy
      obtain ⟨r, w⟩ := p
      exact (View.canon_cons_emb r w (L ++ L') x).trans (View.canon_cons_emb r w L x).symm
    · have hL : ∃ q ∈ L, y ∈ q.1.set := by
        obtain ⟨q, hq, hyq⟩ := h
        rcases List.mem_cons.mp hq with rfl | hq
        · exact absurd hyq hy
        · exact ⟨q, hq, hyq⟩
      rw [List.cons_append, View.canon_cons_of_not_mem _ _ hy, View.canon_cons_of_not_mem _ _ hy, canon_covered L' y L hL]

/-- A load after the clearing of the whole state reads the clearing's value. -/
theorem slab_fill {κ : Kind} {sp : Space} (v : View sig κ sp S4x256x128 .f32) (inb) (Z : Vec Ideal S4x256x128 .f32)
    (r : Rect S4x256x128) :
    v.readCov [(⟨Rect.unit (s := S4x256x128) ![0, 0, 0] ![4, 256, 128] inb, Z⟩ : View.Piece (Elt Ideal) S4x256x128 .f32)]
      r.toLoadRect = View.ld Z r :=
  View.readCov_fill v inb Z [] r (by decide)

/-! A batch's first point. -/

section
variable
  (c : Dev nD) (i : grid0.Coords) (arg2 : Memref sig .tc .vmem S1x512x1024 .f32) (harg2 : arg2.IsWhole)
  (arg3 : Memref sig .tc .vmem S1x512x1024 .bf16) (harg3 : arg3.IsWhole)
  (arg4 : Memref sig .tc .vmem S1x4x512x128 .bf16) (harg4 : arg4.IsWhole)
  (arg5 : Memref sig .tc .vmem S1x4x512x128 .bf16) (harg5 : arg5.IsWhole)
  (arg6 : Memref sig .tc .vmem S1x512x1024 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x4x512x256 .bf16) (harg9 : arg9.IsWhole)
  (arg10 : Memref sig .tc .vmem S1x4x1024x128 .bf16) (harg10 : arg10.IsWhole)
  (arg11 : Memref sig .tc .vmem S1x4x8x512 .f32) (harg11 : arg11.IsWhole)
  (arg12 : Memref sig .tc .vmem S1x3x1024 .f32) (harg12 : arg12.IsWhole) (arg13 : Memref sig .tc .vmem S1x1024 .f32)
  (harg13 : arg13.IsWhole) (arg14 : Memref sig .tc .vmem S1024x1024 .bf16) (harg14 : arg14.IsWhole)
  (arg15 : Memref sig .tc .vmem S1024x1024 .bf16) (harg15 : arg15.IsWhole)
  (arg16 : Memref sig .tc .vmem S1024x1024 .bf16) (harg16 : arg16.IsWhole)
  (arg17 : Memref sig .tc .vmem S1024x1024 .bf16) (harg17 : arg17.IsWhole) (arg18 : Memref sig .tc .vmem S1x1024 .f32)
  (harg18 : arg18.IsWhole) (arg19 : Memref sig .tc .vmem S1x512x1024 .f32) (harg19 : arg19.IsWhole)
  (arg20 : Memref sig .tc .vmem S4x256x128 .f32) (harg20 : arg20.IsWhole)
  (arg21 : Memref sig .tc .vmem S512x1024 .bf16) (harg21 : arg21.IsWhole)
  (hc0 : cond0_0 i)
  (x0 : Vec Ideal S1x512x1024 .f32) (x1 : Vec Ideal S1x512x1024 .bf16) (x2 : Vec Ideal S1x4x512x128 .bf16)
  (x3 : Vec Ideal S1x4x512x128 .bf16) (x4 : Vec Ideal S1x512x1024 .bf16) (x5 : Vec Ideal S1x512x1024 .bf16)
  (x6 : Vec Ideal S1x512x1024 .bf16) (x7 : Vec Ideal S1x4x512x256 .bf16) (x8 : Vec Ideal S1x4x1024x128 .bf16)
  (x9 : Vec Ideal S1x4x8x512 .f32) (x10 : Vec Ideal S1x3x1024 .f32) (x11 : Vec Ideal S1x1024 .f32)
  (x12 : Vec Ideal S1024x1024 .bf16) (x13 : Vec Ideal S1024x1024 .bf16) (x14 : Vec Ideal S1024x1024 .bf16)
  (x15 : Vec Ideal S1024x1024 .bf16) (x16 : Vec Ideal S1x1024 .f32) (i' : grid0.Coords) (hc1 : ¬cond0_0 i')

/-- The state it leaves is that of a point that finds the cleared state. -/
theorem state_first : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16
    = sout0_B_0 c i' arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 x0 x1 x2 x3 x4 x5 x6 x7 x8 x9 x10 x11 x12 x13 x14 x15 x16 (k0_pay1 (F := Ideal)) := by
  unfold sout0_A_0 sout0_B_0
  rw [View.read_writes_junk_eq_canon, View.read_writes_junk_eq_canon]
  unfold kernelRun0_A kernelRun0_B
  dsimp only
  sl_unfold_words
  simp only [↓slab_skip, ↓slab_fill, Nat.reduceBEq, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread]
  funext y
  refine canon_covered [_] y [_, _, _, _] ?_
  exact View.cover_of_tiledL (s := S4x256x128) _ ![1, 256, 128] (by sl_kernel_rfl) y

set_option maxHeartbeats 1000000 in
/-- The block it writes is that of a point that finds the cleared state. -/
theorem out_first :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 x16
      = out0_B_17 c i' arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc1 x0 x1 x2 x3 x4 x5 x6 x7 x8 x9 x10 x11 x12 x13 x14 x15 x16 (k0_pay1 (F := Ideal)) := by
  unfold out0_A_17 out0_B_17
  rw [View.read_writes_junk_eq_canon, View.read_writes_junk_eq_canon]
  unfold kernelRun0_A kernelRun0_B
  dsimp only
  sl_unfold_words
  simp only [↓slab_skip, ↓slab_fill, Nat.reduceBEq, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg20.read_unread]

end

end Cert.Body

end
-- ==== Proof.Whole.lean ====
/-
  The whole computation: the layer's mathematics (Layer.lean) over the call's seventeen arrays, batch by batch and
  position by position. It is what both programs are read down to.
-/
module

public import proofs.«01_k».proof.Proof.Layer
public import proofs.«01_k».proof.Proof.Point

@[expose] public section

noncomputable section

namespace Cert.Whole

open Idealize.ShloMosaic
open Cert.Point (col fwd bwd key)

/-- The call's arrays: the residual stream, the query features, the forward and backward key features by chunk, the
    values, the hidden states, the local branch, the backward states by chunk, the forward updates by chunk, the decay
    rows by chunk, the modulation, the head gain, the weights, and the final gain. -/
structure Arrays where
  x : Fin 8 → Fin 8192 → Fin 1024 → EReal
  q : Fin 8 → Fin 8192 → Fin 1024 → EReal
  kf : Fin 8 → Fin 64 → Fin 512 → Fin 128 → EReal
  kb : Fin 8 → Fin 64 → Fin 512 → Fin 128 → EReal
  v : Fin 8 → Fin 8192 → Fin 1024 → EReal
  h : Fin 8 → Fin 8192 → Fin 1024 → EReal
  y : Fin 8 → Fin 8192 → Fin 1024 → EReal
  sb : Fin 8 → Fin 64 → Fin 512 → Fin 256 → EReal
  u : Fin 8 → Fin 64 → Fin 1024 → Fin 128 → EReal
  g : Fin 8 → Fin 64 → Fin 8 → Fin 512 → EReal
  md : Fin 8 → Fin 3 → Fin 1024 → EReal
  gain : Fin 1 → Fin 1024 → EReal
  wz : Fin 1024 → Fin 1024 → EReal
  wm : Fin 1024 → Fin 1024 → EReal
  wb : Fin 1024 → Fin 1024 → EReal
  wo : Fin 1024 → Fin 1024 → EReal
  fin : Fin 1 → Fin 1024 → EReal

/-- Token `t` of chunk `n` among a batch's tokens. -/
def pos (n : Fin 64) (t : Fin 128) : Fin 8192 := ⟨128 * n.val + t.val, by omega⟩

/-- Chunk number `n` of a batch's 64. -/
def chunk (n : ℕ) : Fin 64 := ⟨n % 64, by omega⟩

variable (A : Arrays)

/-- The forward state before chunk `n` of batch `b`. -/
def stateAt (b : Fin 8) (h : Fin 4) (v : Fin 256) (d : Fin 128) (n : ℕ) : EReal :=
  Layer.state 0 (fun n => A.g b (chunk n) 0 (key h d)) (fun n => A.u b (chunk n) (col h v) d) n

/-- The attention's output for token `t` of chunk `n`, head `h`, column `v`. -/
def attend (b : Fin 8) (n : Fin 64) (h : Fin 4) (t : Fin 128) (v : Fin 256) : EReal :=
  Layer.attend t (fun d => A.q b (pos n t) (fwd h d)) (fun d => A.q b (pos n t) (bwd h d)) (fun d => A.g b n 1 (key h d))
    (fun d s => A.kf b n (key h d) s) (fun d s => A.kb b n (key h d) s) (fun s => A.v b (pos n s) (col h v))
    (fun d => stateAt A b h v d n) (fun d => A.sb b n (key h d) v)

/-- The gated attention row of token `t` of chunk `n`, head `h`, column `v`. -/
def gated (b : Fin 8) (n : Fin 64) (h : Fin 4) (t : Fin 128) (v : Fin 256) : EReal :=
  Layer.gated (attend A b n h t) v (A.gain 0 (col h v)) (∑ k, A.h b (pos n t) k * A.wz k (col h v))

/-- The same by token and model column. -/
def gatedAt (b : Fin 8) (r : Fin 8192) (j : Fin 1024) : EReal :=
  gated A b ⟨r.val / 128, by omega⟩ ⟨j.val / 256, by omega⟩ ⟨r.val % 128, by omega⟩ ⟨j.val % 256, by omega⟩

/-- At token `t` of chunk `n` and column `v` of head `h`, the row by chunk and head. -/
theorem gatedAt_mk (b : Fin 8) (n : Fin 64) (h : Fin 4) (t : Fin 128) (v : Fin 256) :
    gatedAt A b (pos n t) (col h v) = gated A b n h t v := by
  unfold gatedAt pos col
  congr 1 <;> apply Fin.ext <;> dsimp only <;> omega

/-- The call's result at a token and a model column. -/
def out (b : Fin 8) (r : Fin 8192) (j : Fin 1024) : EReal :=
  Layer.token (A.x b r) (A.h b r) (A.y b r) (A.md b 2) (gatedAt A b r) (A.fin 0) A.wm A.wb A.wo j

end Cert.Whole

end
-- ==== Proof.Sweep.lean ====
/-
  The kernel's grid: point `16 b + i` takes the `i`-th block of 512 tokens of batch `b`. Its blocks are parts of the call's
  arrays, the state it finds is the state before its first chunk, and so its output block is its part of the result.
-/
module

public import proofs.«01_k».proof.Proof.Gen.KernelIdeal.Value
public import proofs.«01_k».proof.Proof.Body
public import proofs.«01_k».proof.Proof.First
public import proofs.«01_k».proof.Proof.Whole

@[expose] public section

set_option maxRecDepth 16384

noncomputable section

namespace Cert.Sweep

open Idealize.ShloMosaic Idealize.ShloMosaic.TcCoe
open Cert.KernelIdeal Cert.KernelIdeal.Gen Cert.KernelIdeal.Value
open Cert.Whole (Arrays pos chunk)
open Cert.Point (tok col fwd bwd key nth)

/-! One point over its part of the arrays. -/

/-- Row `r` of block `i` among a batch's tokens, and chunk `n` of block `i` among its chunks. -/
def row (i : Fin 16) (r : Fin 512) : Fin 8192 := ⟨512 * i.val + r.val, by omega⟩
def sub (i : Fin 16) (n : Fin 4) : Fin 64 := ⟨4 * i.val + n.val, by omega⟩

theorem row_tok (i : Fin 16) (n : Fin 4) (t : Fin 128) : row i (tok n t) = pos (sub i n) t := by
  apply Fin.ext; show 512 * i.val + (128 * n.val + t.val) = 128 * (4 * i.val + n.val) + t.val; omega

/-- A state continued: after `k` chunks, `n` more are the state from there. -/
theorem state_add (s0 : EReal) (g u : ℕ → EReal) (k n : ℕ) :
    Layer.state (Layer.state s0 g u k) (fun n => g (k + n)) (fun n => u (k + n)) n = Layer.state s0 g u (k + n) := by
  induction n with
  | zero => rfl
  | succ n ih => show Layer.state _ _ _ n * _ + _ = Layer.state s0 g u (k + n) * _ + _; rw [ih]; rfl

/-- Two states that agree in what the first `N` chunks do agree there. -/
theorem state_congr {s0 s1 : EReal} (hs : s0 = s1) {g g' u u' : ℕ → EReal} (N : ℕ) (hg : ∀ n < N, g n = g' n)
    (hu : ∀ n < N, u n = u' n) : ∀ n ≤ N, Layer.state s0 g u n = Layer.state s1 g' u' n
  | 0, _ => hs
  | n + 1, h => by
    show Layer.state s0 g u n * g n + u n = Layer.state s1 g' u' n * g' n + u' n
    rw [state_congr hs N hg hu n (by omega), hg n (by omega), hu n (by omega)]

variable {x0 : Vec Ideal S1x512x1024 .f32} {x1 : Vec Ideal S1x512x1024 .bf16} {x2 x3 : Vec Ideal S1x4x512x128 .bf16}
  {x4 x5 x6 : Vec Ideal S1x512x1024 .bf16} {x7 : Vec Ideal S1x4x512x256 .bf16} {x8 : Vec Ideal S1x4x1024x128 .bf16}
  {x9 : Vec Ideal S1x4x8x512 .f32} {x10 : Vec Ideal S1x3x1024 .f32} {x11 : Vec Ideal S1x1024 .f32}
  {x12 x13 x14 x15 : Vec Ideal S1024x1024 .bf16} {x16 : Vec Ideal S1x1024 .f32} {xs : Vec Ideal S4x256x128 .f32}

/-- The blocks of batch `b`'s block `i`. -/
structure Part (A : Arrays) (b : Fin 8) (i : Fin 16) (x0 : Vec Ideal S1x512x1024 .f32) (x1 : Vec Ideal S1x512x1024 .bf16)
    (x2 x3 : Vec Ideal S1x4x512x128 .bf16) (x4 x5 x6 : Vec Ideal S1x512x1024 .bf16) (x7 : Vec Ideal S1x4x512x256 .bf16)
    (x8 : Vec Ideal S1x4x1024x128 .bf16) (x9 : Vec Ideal S1x4x8x512 .f32) (x10 : Vec Ideal S1x3x1024 .f32)
    (x11 : Vec Ideal S1x1024 .f32) (x12 x13 x14 x15 : Vec Ideal S1024x1024 .bf16) (x16 : Vec Ideal S1x1024 .f32) : Prop where
  x : ∀ r k, x0 (ix3 (0 : Fin 1) r k) = A.x b (row i r) k
  q : ∀ r k, x1 (ix3 (0 : Fin 1) r k) = A.q b (row i r) k
  kf : ∀ n k s, x2 (ix4 (0 : Fin 1) n k s) = A.kf b (sub i n) k s
  kb : ∀ n k s, x3 (ix4 (0 : Fin 1) n k s) = A.kb b (sub i n) k s
  v : ∀ r k, x4 (ix3 (0 : Fin 1) r k) = A.v b (row i r) k
  h : ∀ r k, x5 (ix3 (0 : Fin 1) r k) = A.h b (row i r) k
  y : ∀ r k, x6 (ix3 (0 : Fin 1) r k) = A.y b (row i r) k
  sb : ∀ n k v, x7 (ix4 (0 : Fin 1) n k v) = A.sb b (sub i n) k v
  u : ∀ n k d, x8 (ix4 (0 : Fin 1) n k d) = A.u b (sub i n) k d
  g : ∀ n k d, x9 (ix4 (0 : Fin 1) n k d) = A.g b (sub i n) k d
  md : ∀ n k, x10 (ix3 (0 : Fin 1) n k) = A.md b n k
  gain : ∀ k, x11 (ix2 (0 : Fin 1) k) = A.gain 0 k
  wz : ∀ k l, x12 (ix2 k l) = A.wz k l
  wm : ∀ k l, x13 (ix2 k l) = A.wm k l
  wb : ∀ k l, x14 (ix2 k l) = A.wb k l
  wo : ∀ k l, x15 (ix2 k l) = A.wo k l
  fin : ∀ k, x16 (ix2 (0 : Fin 1) k) = A.fin 0 k

variable {A : Arrays} {b : Fin 8} {i : Fin 16}
  (P : Part A b i x0 x1 x2 x3 x4 x5 x6 x7 x8 x9 x10 x11 x12 x13 x14 x15 x16)
  (hs : ∀ h v d, xs (ix3 h v d) = Whole.stateAt A b h v d (4 * i.val))

include P hs

/-- The state before the point's chunk `n` is the batch's state there. -/
theorem stateAt_eq (h : Fin 4) (v : Fin 256) (d : Fin 128) (n : ℕ) (hn : n ≤ 4) :
    Point.stateAt x8 x9 xs h v d n = Whole.stateAt A b h v d (4 * i.val + n) := by
  unfold Point.stateAt Whole.stateAt
  rw [← state_add]
  have hc : ∀ n < 4, sub i (nth n) = chunk (4 * i.val + n) := fun n hn => by
    apply Fin.ext; show 4 * i.val + n % 4 = (4 * i.val + n) % 64; omega
  refine state_congr (hs h v d) 4 (fun n hn => ?_) (fun n hn => ?_) n hn
  · rw [P.g, hc n hn]
  · rw [P.u, hc n hn]

/-- So is the attention's output. -/
theorem attend_eq (n h : Fin 4) (t : Fin 128) (v : Fin 256) :
    Point.attend x1 x2 x3 x4 x7 x8 x9 xs n h t v = Whole.attend A b (sub i n) h t v := by
  unfold Point.attend Whole.attend
  simp only [P.q, P.g, P.kf, P.kb, P.v, P.sb, row_tok, stateAt_eq P hs h v _ n (by omega)]
  rfl

/-- So is the gated row. -/
theorem gatedAt_eq (r : Fin 512) :
    Point.gatedAt x1 x2 x3 x4 x5 x7 x8 x9 x11 x12 xs r = Whole.gatedAt A b (row i r) := by
  funext j
  unfold Point.gatedAt Whole.gatedAt Point.gated Whole.gated
  simp only [funext (attend_eq P hs _ _ _), P.h, P.wz, P.gain, row_tok]
  have hn : sub i ⟨r.val / 128, by omega⟩ = ⟨(row i r).val / 128, by omega⟩ := by
    apply Fin.ext; show 4 * i.val + r.val / 128 = (512 * i.val + r.val) / 128; omega
  have ht : (⟨r.val % 128, by omega⟩ : Fin 128) = ⟨(row i r).val % 128, by omega⟩ := by
    apply Fin.ext; show r.val % 128 = (512 * i.val + r.val) % 128; omega
  rw [hn, ht]

/-- The point's output is its part of the result. -/
theorem out_eq (r : Fin 512) (j : Fin 1024) :
    Point.out x0 x1 x2 x3 x4 x5 x6 x7 x8 x9 x10 x11 x12 x13 x14 x15 x16 xs r j = Whole.out A b (row i r) j := by
  unfold Point.out Whole.out
  simp only [gatedAt_eq P hs, P.x, P.h, P.y, P.md, P.fin, P.wm, P.wb, P.wo]

omit P hs

/-! The blocks of a point are its parts of the arrays. -/

/-- Point `t`'s batch and block. -/
def batch (t : Fin cfg0.N) : Fin 8 := ⟨t.val / 16, by have := t.isLt; have : cfg0.N = 128 := N_0; omega⟩
def blk (t : Fin cfg0.N) : Fin 16 := ⟨t.val % 16, by omega⟩

/-- Where each window's block lies: decided over the grid's points. -/
theorem index_0 : ∀ t : Fin cfg0.N, win0_0.index t = ![t.val / 16, t.val % 16, 0] :=
  (by decide +kernel : ∀ t : Fin grid0.N, win0_0.index t = ![t.val / 16, t.val % 16, 0])
theorem index_1 : ∀ t : Fin cfg0.N, win0_1.index t = ![t.val / 16, t.val % 16, 0] :=
  (by decide +kernel : ∀ t : Fin grid0.N, win0_1.index t = ![t.val / 16, t.val % 16, 0])
theorem index_4 : ∀ t : Fin cfg0.N, win0_4.index t = ![t.val / 16, t.val % 16, 0] :=
  (by decide +kernel : ∀ t : Fin grid0.N, win0_4.index t = ![t.val / 16, t.val % 16, 0])
theorem index_5 : ∀ t : Fin cfg0.N, win0_5.index t = ![t.val / 16, t.val % 16, 0] :=
  (by decide +kernel : ∀ t : Fin grid0.N, win0_5.index t = ![t.val / 16, t.val % 16, 0])
theorem index_6 : ∀ t : Fin cfg0.N, win0_6.index t = ![t.val / 16, t.val % 16, 0] :=
  (by decide +kernel : ∀ t : Fin grid0.N, win0_6.index t = ![t.val / 16, t.val % 16, 0])
theorem index_2 : ∀ t : Fin cfg0.N, win0_2.index t = ![t.val / 16, t.val % 16, 0, 0] :=
  (by decide +kernel : ∀ t : Fin grid0.N, win0_2.index t = ![t.val / 16, t.val % 16, 0, 0])
theorem index_3 : ∀ t : Fin cfg0.N, win0_3.index t = ![t.val / 16, t.val % 16, 0, 0] :=
  (by decide +kernel : ∀ t : Fin grid0.N, win0_3.index t = ![t.val / 16, t.val % 16, 0, 0])
theorem index_7 : ∀ t : Fin cfg0.N, win0_7.index t = ![t.val / 16, t.val % 16, 0, 0] :=
  (by decide +kernel : ∀ t : Fin grid0.N, win0_7.index t = ![t.val / 16, t.val % 16, 0, 0])
theorem index_8 : ∀ t : Fin cfg0.N, win0_8.index t = ![t.val / 16, t.val % 16, 0, 0] :=
  (by decide +kernel : ∀ t : Fin grid0.N, win0_8.index t = ![t.val / 16, t.val % 16, 0, 0])
theorem index_9 : ∀ t : Fin cfg0.N, win0_9.index t = ![t.val / 16, t.val % 16, 0, 0] :=
  (by decide +kernel : ∀ t : Fin grid0.N, win0_9.index t = ![t.val / 16, t.val % 16, 0, 0])
theorem index_10 : ∀ t : Fin cfg0.N, win0_10.index t = ![t.val / 16, 0, 0] :=
  (by decide +kernel : ∀ t : Fin grid0.N, win0_10.index t = ![t.val / 16, 0, 0])
theorem index_11 : ∀ t : Fin cfg0.N, win0_11.index t = ![0, 0] :=
  (by decide +kernel : ∀ t : Fin grid0.N, win0_11.index t = ![0, 0])
theorem index_12 : ∀ t : Fin cfg0.N, win0_12.index t = ![0, 0] :=
  (by decide +kernel : ∀ t : Fin grid0.N, win0_12.index t = ![0, 0])
theorem index_13 : ∀ t : Fin cfg0.N, win0_13.index t = ![0, 0] :=
  (by decide +kernel : ∀ t : Fin grid0.N, win0_13.index t = ![0, 0])
theorem index_14 : ∀ t : Fin cfg0.N, win0_14.index t = ![0, 0] :=
  (by decide +kernel : ∀ t : Fin grid0.N, win0_14.index t = ![0, 0])
theorem index_15 : ∀ t : Fin cfg0.N, win0_15.index t = ![0, 0] :=
  (by decide +kernel : ∀ t : Fin grid0.N, win0_15.index t = ![0, 0])
theorem index_16 : ∀ t : Fin cfg0.N, win0_16.index t = ![0, 0] :=
  (by decide +kernel : ∀ t : Fin grid0.N, win0_16.index t = ![0, 0])

variable (m : (ℓ : Loc nD τ sig) → Buf (Elt Ideal) ℓ) (c : Dev nD) (t : Fin cfg0.N)

/-- Each window's block, read from its array. -/
theorem iblk_0 (r : Fin 512) (j : Fin 1024) :
    (iblk m c 0 t : Vec Ideal S1x512x1024 .f32) (ix3 (0 : Fin 1) r j) = m ((c : Thread nD τ).loc main_arg0) (ix3 (batch t) (row (blk t) r) j) := by
  unfold iblk
  rw [View.read_apply]
  show V m c main_arg0 _ = m _ _
  unfold V
  congr 1
  funext a
  apply Fin.ext
  match a with
  | ⟨0, _⟩ => show win0_0.index t 0 * 1 + 1 * 0 = t.val / 16; rw [index_0]; show t.val / 16 * 1 + 1 * 0 = t.val / 16; omega
  | ⟨1, _⟩ => show win0_0.index t 1 * 512 + 1 * r.val = 512 * (t.val % 16) + r.val; rw [index_0]; show t.val % 16 * 512 + 1 * r.val = 512 * (t.val % 16) + r.val; omega
  | ⟨2, _⟩ => show win0_0.index t 2 * 1024 + 1 * j.val = j.val; rw [index_0]; show 0 * 1024 + 1 * j.val = j.val; omega

theorem iblk_1 (r : Fin 512) (j : Fin 1024) :
    (iblk m c 1 t : Vec Ideal S1x512x1024 .bf16) (ix3 (0 : Fin 1) r j) = m ((c : Thread nD τ).loc main_arg1) (ix3 (batch t) (row (blk t) r) j) := by
  unfold iblk
  rw [View.read_apply]
  show V m c main_arg1 _ = m _ _
  unfold V
  congr 1
  funext a
  apply Fin.ext
  match a with
  | ⟨0, _⟩ => show win0_1.index t 0 * 1 + 1 * 0 = t.val / 16; rw [index_1]; show t.val / 16 * 1 + 1 * 0 = t.val / 16; omega
  | ⟨1, _⟩ => show win0_1.index t 1 * 512 + 1 * r.val = 512 * (t.val % 16) + r.val; rw [index_1]; show t.val % 16 * 512 + 1 * r.val = 512 * (t.val % 16) + r.val; omega
  | ⟨2, _⟩ => show win0_1.index t 2 * 1024 + 1 * j.val = j.val; rw [index_1]; show 0 * 1024 + 1 * j.val = j.val; omega

theorem iblk_4 (r : Fin 512) (j : Fin 1024) :
    (iblk m c 4 t : Vec Ideal S1x512x1024 .bf16) (ix3 (0 : Fin 1) r j) = m ((c : Thread nD τ).loc main_arg4) (ix3 (batch t) (row (blk t) r) j) := by
  unfold iblk
  rw [View.read_apply]
  show V m c main_arg4 _ = m _ _
  unfold V
  congr 1
  funext a
  apply Fin.ext
  match a with
  | ⟨0, _⟩ => show win0_4.index t 0 * 1 + 1 * 0 = t.val / 16; rw [index_4]; show t.val / 16 * 1 + 1 * 0 = t.val / 16; omega
  | ⟨1, _⟩ => show win0_4.index t 1 * 512 + 1 * r.val = 512 * (t.val % 16) + r.val; rw [index_4]; show t.val % 16 * 512 + 1 * r.val = 512 * (t.val % 16) + r.val; omega
  | ⟨2, _⟩ => show win0_4.index t 2 * 1024 + 1 * j.val = j.val; rw [index_4]; show 0 * 1024 + 1 * j.val = j.val; omega

theorem iblk_5 (r : Fin 512) (j : Fin 1024) :
    (iblk m c 5 t : Vec Ideal S1x512x1024 .bf16) (ix3 (0 : Fin 1) r j) = m ((c : Thread nD τ).loc main_arg5) (ix3 (batch t) (row (blk t) r) j) := by
  unfold iblk
  rw [View.read_apply]
  show V m c main_arg5 _ = m _ _
  unfold V
  congr 1
  funext a
  apply Fin.ext
  match a with
  | ⟨0, _⟩ => show win0_5.index t 0 * 1 + 1 * 0 = t.val / 16; rw [index_5]; show t.val / 16 * 1 + 1 * 0 = t.val / 16; omega
  | ⟨1, _⟩ => show win0_5.index t 1 * 512 + 1 * r.val = 512 * (t.val % 16) + r.val; rw [index_5]; show t.val % 16 * 512 + 1 * r.val = 512 * (t.val % 16) + r.val; omega
  | ⟨2, _⟩ => show win0_5.index t 2 * 1024 + 1 * j.val = j.val; rw [index_5]; show 0 * 1024 + 1 * j.val = j.val; omega

theorem iblk_6 (r : Fin 512) (j : Fin 1024) :
    (iblk m c 6 t : Vec Ideal S1x512x1024 .bf16) (ix3 (0 : Fin 1) r j) = m ((c : Thread nD τ).loc main_arg6) (ix3 (batch t) (row (blk t) r) j) := by
  unfold iblk
  rw [View.read_apply]
  show V m c main_arg6 _ = m _ _
  unfold V
  congr 1
  funext a
  apply Fin.ext
  match a with
  | ⟨0, _⟩ => show win0_6.index t 0 * 1 + 1 * 0 = t.val / 16; rw [index_6]; show t.val / 16 * 1 + 1 * 0 = t.val / 16; omega
  | ⟨1, _⟩ => show win0_6.index t 1 * 512 + 1 * r.val = 512 * (t.val % 16) + r.val; rw [index_6]; show t.val % 16 * 512 + 1 * r.val = 512 * (t.val % 16) + r.val; omega
  | ⟨2, _⟩ => show win0_6.index t 2 * 1024 + 1 * j.val = j.val; rw [index_6]; show 0 * 1024 + 1 * j.val = j.val; omega

theorem iblk_2 (n : Fin 4) (k : Fin 512) (l : Fin 128) :
    (iblk m c 2 t : Vec Ideal S1x4x512x128 .bf16) (ix4 (0 : Fin 1) n k l) = m ((c : Thread nD τ).loc main_arg2) (ix4 (batch t) (sub (blk t) n) k l) := by
  unfold iblk
  rw [View.read_apply]
  show V m c main_arg2 _ = m _ _
  unfold V
  congr 1
  funext a
  apply Fin.ext
  match a with
  | ⟨0, _⟩ => show win0_2.index t 0 * 1 + 1 * 0 = t.val / 16; rw [index_2]; show t.val / 16 * 1 + 1 * 0 = t.val / 16; omega
  | ⟨1, _⟩ => show win0_2.index t 1 * 4 + 1 * n.val = 4 * (t.val % 16) + n.val; rw [index_2]; show t.val % 16 * 4 + 1 * n.val = 4 * (t.val % 16) + n.val; omega
  | ⟨2, _⟩ => show win0_2.index t 2 * 512 + 1 * k.val = k.val; rw [index_2]; show 0 * 512 + 1 * k.val = k.val; omega
  | ⟨3, _⟩ => show win0_2.index t 3 * 128 + 1 * l.val = l.val; rw [index_2]; show 0 * 128 + 1 * l.val = l.val; omega

theorem iblk_3 (n : Fin 4) (k : Fin 512) (l : Fin 128) :
    (iblk m c 3 t : Vec Ideal S1x4x512x128 .bf16) (ix4 (0 : Fin 1) n k l) = m ((c : Thread nD τ).loc main_arg3) (ix4 (batch t) (sub (blk t) n) k l) := by
  unfold iblk
  rw [View.read_apply]
  show V m c main_arg3 _ = m _ _
  unfold V
  congr 1
  funext a
  apply Fin.ext
  match a with
  | ⟨0, _⟩ => show win0_3.index t 0 * 1 + 1 * 0 = t.val / 16; rw [index_3]; show t.val / 16 * 1 + 1 * 0 = t.val / 16; omega
  | ⟨1, _⟩ => show win0_3.index t 1 * 4 + 1 * n.val = 4 * (t.val % 16) + n.val; rw [index_3]; show t.val % 16 * 4 + 1 * n.val = 4 * (t.val % 16) + n.val; omega
  | ⟨2, _⟩ => show win0_3.index t 2 * 512 + 1 * k.val = k.val; rw [index_3]; show 0 * 512 + 1 * k.val = k.val; omega
  | ⟨3, _⟩ => show win0_3.index t 3 * 128 + 1 * l.val = l.val; rw [index_3]; show 0 * 128 + 1 * l.val = l.val; omega

theorem iblk_7 (n : Fin 4) (k : Fin 512) (l : Fin 256) :
    (iblk m c 7 t : Vec Ideal S1x4x512x256 .bf16) (ix4 (0 : Fin 1) n k l) = m ((c : Thread nD τ).loc main_arg7) (ix4 (batch t) (sub (blk t) n) k l) := by
  unfold iblk
  rw [View.read_apply]
  show V m c main_arg7 _ = m _ _
  unfold V
  congr 1
  funext a
  apply Fin.ext
  match a with
  | ⟨0, _⟩ => show win0_7.index t 0 * 1 + 1 * 0 = t.val / 16; rw [index_7]; show t.val / 16 * 1 + 1 * 0 = t.val / 16; omega
  | ⟨1, _⟩ => show win0_7.index t 1 * 4 + 1 * n.val = 4 * (t.val % 16) + n.val; rw [index_7]; show t.val % 16 * 4 + 1 * n.val = 4 * (t.val % 16) + n.val; omega
  | ⟨2, _⟩ => show win0_7.index t 2 * 512 + 1 * k.val = k.val; rw [index_7]; show 0 * 512 + 1 * k.val = k.val; omega
  | ⟨3, _⟩ => show win0_7.index t 3 * 256 + 1 * l.val = l.val; rw [index_7]; show 0 * 256 + 1 * l.val = l.val; omega

theorem iblk_8 (n : Fin 4) (k : Fin 1024) (l : Fin 128) :
    (iblk m c 8 t : Vec Ideal S1x4x1024x128 .bf16) (ix4 (0 : Fin 1) n k l) = m ((c : Thread nD τ).loc main_arg8) (ix4 (batch t) (sub (blk t) n) k l) := by
  unfold iblk
  rw [View.read_apply]
  show V m c main_arg8 _ = m _ _
  unfold V
  congr 1
  funext a
  apply Fin.ext
  match a with
  | ⟨0, _⟩ => show win0_8.index t 0 * 1 + 1 * 0 = t.val / 16; rw [index_8]; show t.val / 16 * 1 + 1 * 0 = t.val / 16; omega
  | ⟨1, _⟩ => show win0_8.index t 1 * 4 + 1 * n.val = 4 * (t.val % 16) + n.val; rw [index_8]; show t.val % 16 * 4 + 1 * n.val = 4 * (t.val % 16) + n.val; omega
  | ⟨2, _⟩ => show win0_8.index t 2 * 1024 + 1 * k.val = k.val; rw [index_8]; show 0 * 1024 + 1 * k.val = k.val; omega
  | ⟨3, _⟩ => show win0_8.index t 3 * 128 + 1 * l.val = l.val; rw [index_8]; show 0 * 128 + 1 * l.val = l.val; omega

theorem iblk_9 (n : Fin 4) (k : Fin 8) (l : Fin 512) :
    (iblk m c 9 t : Vec Ideal S1x4x8x512 .f32) (ix4 (0 : Fin 1) n k l) = m ((c : Thread nD τ).loc main_arg9) (ix4 (batch t) (sub (blk t) n) k l) := by
  unfold iblk
  rw [View.read_apply]
  show V m c main_arg9 _ = m _ _
  unfold V
  congr 1
  funext a
  apply Fin.ext
  match a with
  | ⟨0, _⟩ => show win0_9.index t 0 * 1 + 1 * 0 = t.val / 16; rw [index_9]; show t.val / 16 * 1 + 1 * 0 = t.val / 16; omega
  | ⟨1, _⟩ => show win0_9.index t 1 * 4 + 1 * n.val = 4 * (t.val % 16) + n.val; rw [index_9]; show t.val % 16 * 4 + 1 * n.val = 4 * (t.val % 16) + n.val; omega
  | ⟨2, _⟩ => show win0_9.index t 2 * 8 + 1 * k.val = k.val; rw [index_9]; show 0 * 8 + 1 * k.val = k.val; omega
  | ⟨3, _⟩ => show win0_9.index t 3 * 512 + 1 * l.val = l.val; rw [index_9]; show 0 * 512 + 1 * l.val = l.val; omega

theorem iblk_10 (n : Fin 3) (k : Fin 1024) :
    (iblk m c 10 t : Vec Ideal S1x3x1024 .f32) (ix3 (0 : Fin 1) n k) = m ((c : Thread nD τ).loc main_arg10) (ix3 (batch t) n k) := by
  unfold iblk
  rw [View.read_apply]
  show V m c main_arg10 _ = m _ _
  unfold V
  congr 1
  funext a
  apply Fin.ext
  match a with
  | ⟨0, _⟩ => show win0_10.index t 0 * 1 + 1 * 0 = t.val / 16; rw [index_10]; show t.val / 16 * 1 + 1 * 0 = t.val / 16; omega
  | ⟨1, _⟩ => show win0_10.index t 1 * 3 + 1 * n.val = n.val; rw [index_10]; show 0 * 3 + 1 * n.val = n.val; omega
  | ⟨2, _⟩ => show win0_10.index t 2 * 1024 + 1 * k.val = k.val; rw [index_10]; show 0 * 1024 + 1 * k.val = k.val; omega

theorem iblk_11 (k : Fin 1) (l : Fin 1024) :
    (iblk m c 11 t : Vec Ideal S1x1024 .f32) (ix2 k l) = m ((c : Thread nD τ).loc main_arg11) (ix2 k l) := by
  unfold iblk
  rw [View.read_apply]
  show V m c main_arg11 _ = m _ _
  unfold V
  congr 1
  funext a
  apply Fin.ext
  match a with
  | ⟨0, _⟩ => show win0_11.index t 0 * 1 + 1 * k.val = k.val; rw [index_11]; show 0 * 1 + 1 * k.val = k.val; omega
  | ⟨1, _⟩ => show win0_11.index t 1 * 1024 + 1 * l.val = l.val; rw [index_11]; show 0 * 1024 + 1 * l.val = l.val; omega

theorem iblk_12 (k : Fin 1024) (l : Fin 1024) :
    (iblk m c 12 t : Vec Ideal S1024x1024 .bf16) (ix2 k l) = m ((c : Thread nD τ).loc main_arg12) (ix2 k l) := by
  unfold iblk
  rw [View.read_apply]
  show V m c main_arg12 _ = m _ _
  unfold V
  congr 1
  funext a
  apply Fin.ext
  match a with
  | ⟨0, _⟩ => show win0_12.index t 0 * 1024 + 1 * k.val = k.val; rw [index_12]; show 0 * 1024 + 1 * k.val = k.val; omega
  | ⟨1, _⟩ => show win0_12.index t 1 * 1024 + 1 * l.val = l.val; rw [index_12]; show 0 * 1024 + 1 * l.val = l.val; omega

theorem iblk_13 (k : Fin 1024) (l : Fin 1024) :
    (iblk m c 13 t : Vec Ideal S1024x1024 .bf16) (ix2 k l) = m ((c : Thread nD τ).loc main_arg13) (ix2 k l) := by
  unfold iblk
  rw [View.read_apply]
  show V m c main_arg13 _ = m _ _
  unfold V
  congr 1
  funext a
  apply Fin.ext
  match a with
  | ⟨0, _⟩ => show win0_13.index t 0 * 1024 + 1 * k.val = k.val; rw [index_13]; show 0 * 1024 + 1 * k.val = k.val; omega
  | ⟨1, _⟩ => show win0_13.index t 1 * 1024 + 1 * l.val = l.val; rw [index_13]; show 0 * 1024 + 1 * l.val = l.val; omega

theorem iblk_14 (k : Fin 1024) (l : Fin 1024) :
    (iblk m c 14 t : Vec Ideal S1024x1024 .bf16) (ix2 k l) = m ((c : Thread nD τ).loc main_arg14) (ix2 k l) := by
  unfold iblk
  rw [View.read_apply]
  show V m c main_arg14 _ = m _ _
  unfold V
  congr 1
  funext a
  apply Fin.ext
  match a with
  | ⟨0, _⟩ => show win0_14.index t 0 * 1024 + 1 * k.val = k.val; rw [index_14]; show 0 * 1024 + 1 * k.val = k.val; omega
  | ⟨1, _⟩ => show win0_14.index t 1 * 1024 + 1 * l.val = l.val; rw [index_14]; show 0 * 1024 + 1 * l.val = l.val; omega

theorem iblk_15 (k : Fin 1024) (l : Fin 1024) :
    (iblk m c 15 t : Vec Ideal S1024x1024 .bf16) (ix2 k l) = m ((c : Thread nD τ).loc main_arg15) (ix2 k l) := by
  unfold iblk
  rw [View.read_apply]
  show V m c main_arg15 _ = m _ _
  unfold V
  congr 1
  funext a
  apply Fin.ext
  match a with
  | ⟨0, _⟩ => show win0_15.index t 0 * 1024 + 1 * k.val = k.val; rw [index_15]; show 0 * 1024 + 1 * k.val = k.val; omega
  | ⟨1, _⟩ => show win0_15.index t 1 * 1024 + 1 * l.val = l.val; rw [index_15]; show 0 * 1024 + 1 * l.val = l.val; omega

theorem iblk_16 (k : Fin 1) (l : Fin 1024) :
    (iblk m c 16 t : Vec Ideal S1x1024 .f32) (ix2 k l) = m ((c : Thread nD τ).loc main_arg16) (ix2 k l) := by
  unfold iblk
  rw [View.read_apply]
  show V m c main_arg16 _ = m _ _
  unfold V
  congr 1
  funext a
  apply Fin.ext
  match a with
  | ⟨0, _⟩ => show win0_16.index t 0 * 1 + 1 * k.val = k.val; rw [index_16]; show 0 * 1 + 1 * k.val = k.val; omega
  | ⟨1, _⟩ => show win0_16.index t 1 * 1024 + 1 * l.val = l.val; rw [index_16]; show 0 * 1024 + 1 * l.val = l.val; omega

/-- The call's arrays, as the run finds them. -/
def arrays : Arrays where
  x := fun i j k => m ((c : Thread nD τ).loc main_arg0) (ix3 i j k)
  q := fun i j k => m ((c : Thread nD τ).loc main_arg1) (ix3 i j k)
  kf := fun i j k l => m ((c : Thread nD τ).loc main_arg2) (ix4 i j k l)
  kb := fun i j k l => m ((c : Thread nD τ).loc main_arg3) (ix4 i j k l)
  v := fun i j k => m ((c : Thread nD τ).loc main_arg4) (ix3 i j k)
  h := fun i j k => m ((c : Thread nD τ).loc main_arg5) (ix3 i j k)
  y := fun i j k => m ((c : Thread nD τ).loc main_arg6) (ix3 i j k)
  sb := fun i j k l => m ((c : Thread nD τ).loc main_arg7) (ix4 i j k l)
  u := fun i j k l => m ((c : Thread nD τ).loc main_arg8) (ix4 i j k l)
  g := fun i j k l => m ((c : Thread nD τ).loc main_arg9) (ix4 i j k l)
  md := fun i j k => m ((c : Thread nD τ).loc main_arg10) (ix3 i j k)
  gain := fun i j => m ((c : Thread nD τ).loc main_arg11) (ix2 i j)
  wz := fun i j => m ((c : Thread nD τ).loc main_arg12) (ix2 i j)
  wm := fun i j => m ((c : Thread nD τ).loc main_arg13) (ix2 i j)
  wb := fun i j => m ((c : Thread nD τ).loc main_arg14) (ix2 i j)
  wo := fun i j => m ((c : Thread nD τ).loc main_arg15) (ix2 i j)
  fin := fun i j => m ((c : Thread nD τ).loc main_arg16) (ix2 i j)

/-- A point's blocks are its batch's and block's. -/
theorem part : Part (arrays m c) (batch t) (blk t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) where
  x := iblk_0 m c t
  q := iblk_1 m c t
  kf := iblk_2 m c t
  kb := iblk_3 m c t
  v := iblk_4 m c t
  h := iblk_5 m c t
  y := iblk_6 m c t
  sb := iblk_7 m c t
  u := iblk_8 m c t
  g := iblk_9 m c t
  md := iblk_10 m c t
  gain := iblk_11 m c t 0
  wz := iblk_12 m c t
  wm := iblk_13 m c t
  wb := iblk_14 m c t
  wo := iblk_15 m c t
  fin := iblk_16 m c t 0

/-! The grid, point after point. -/

/-- The cleared state is zero. -/
theorem k0_pay1_zero (h : Fin 4) (v : Fin 256) (d : Fin 128) : (k0_pay1 (F := Ideal)) (ix3 h v d) = 0 := by
  unfold_payloads
  pointwise

/-- What point `t` writes and leaves, when it finds the state `xs`. -/
def after (xs : Vec Ideal S4x256x128 .f32) : Vec Ideal S1x512x1024 .f32 × Vec Ideal S4x256x128 .f32 :=
  (Point.outBlock (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t) (iblk m c 13 t) (iblk m c 14 t) (iblk m c 15 t) (iblk m c 16 t) xs,
   Point.stateAfter (iblk m c 8 t) (iblk m c 9 t) xs)

/-- Past a batch's first point, the point finds what the point before left. -/
theorem outs_carried (h0 : ¬t.val % 16 = 0) :
    outsAt0 m c t.val t.isLt = after m c t (outsAt0 m c (t.val - 1) (by have := t.isLt; omega)).2 := by
  rw [outsAt0_B m c t h0]
  unfold after
  rw [Body.out_carried, Body.state_carried]

/-- A batch's first point finds the state zero. -/
theorem outs_first (h0 : t.val % 16 = 0) : outsAt0 m c t.val t.isLt = after m c t (k0_pay1 (F := Ideal)) := by
  have hN : 1 < grid0.N := by rw [N_0]; omega
  obtain ⟨i', h1⟩ : ∃ i', ¬cond0_0 i' := ⟨grid0.coords ⟨1, hN⟩, fun h => absurd ((hcond0_0 ⟨1, hN⟩).mp h) (by
    show ¬1 % 16 = 0; omega)⟩
  rw [outsAt0_A m c t h0, Body.out_first (i' := i') (hc1 := h1), Body.state_first (i' := i') (hc1 := h1), Body.out_carried,
    Body.state_carried]
  rfl

/-- A point leaves the state after its last chunk, when it finds the state before its first. -/
theorem after_state {xs : Vec Ideal S4x256x128 .f32}
    (hs : ∀ h v d, xs (ix3 h v d) = Whole.stateAt (arrays m c) (batch t) h v d (4 * (blk t).val)) (h : Fin 4) (v : Fin 256)
    (d : Fin 128) :
    (after m c t xs).2 (ix3 h v d) = Whole.stateAt (arrays m c) (batch t) h v d (4 * (blk t).val + 4) :=
  stateAt_eq (part m c t) hs h v d 4 le_rfl

/-- Point `n` finds a state `xs` that is its batch's before its first chunk, and from there writes and leaves what it does. -/
theorem outs_eq : ∀ (n : ℕ) (hn : n < cfg0.N), ∃ xs : Vec Ideal S4x256x128 .f32,
    (∀ h v d, xs (ix3 h v d) = Whole.stateAt (arrays m c) (batch ⟨n, hn⟩) h v d (4 * (blk ⟨n, hn⟩).val)) ∧
      outsAt0 m c n hn = after m c ⟨n, hn⟩ xs := by
  intro n
  induction n with
  | zero =>
    intro hn
    refine ⟨k0_pay1 (F := Ideal), fun h v d => ?_, outs_first m c ⟨0, hn⟩ rfl⟩
    exact k0_pay1_zero h v d
  | succ n ih =>
    intro hn
    by_cases h0 : (n + 1) % 16 = 0
    · refine ⟨k0_pay1 (F := Ideal), fun h v d => ?_, outs_first m c ⟨n + 1, hn⟩ h0⟩
      show _ = Whole.stateAt (arrays m c) _ h v d (4 * ((n + 1) % 16))
      rw [h0]
      exact k0_pay1_zero h v d
    · obtain ⟨xs, hs, e⟩ := ih (Nat.lt_of_succ_lt hn)
      refine ⟨(outsAt0 m c n (Nat.lt_of_succ_lt hn)).2, fun h v d => ?_, outs_carried m c ⟨n + 1, hn⟩ h0⟩
      rw [e, after_state m c _ hs]
      have hb : batch ⟨n, Nat.lt_of_succ_lt hn⟩ = batch ⟨n + 1, hn⟩ := by
        apply Fin.ext; show n / 16 = (n + 1) / 16; omega
      rw [hb, show 4 * (blk ⟨n, Nat.lt_of_succ_lt hn⟩).val + 4 = 4 * (blk ⟨n + 1, hn⟩).val from by
        show 4 * (n % 16) + 4 = 4 * ((n + 1) % 16); omega]

/-- The kernel's result array: the computation over the call's arrays. -/
theorem result : G17 m c = fun y => Whole.out (arrays m c) (y 0) (y 1) (y 2) := by
  funext y
  have hy0 : (y 0).val < 8 := (y 0).isLt
  have hy1 : (y 1).val < 8192 := (y 1).isLt
  have hy2 : (y 2).val < 1024 := (y 2).isLt
  have hN : cfg0.N = 128 := N_0
  have hp : pt17Of y = 16 * (y 0).val + (y 1).val / 512 := by
    show 16 * ((y 0).val / 1 - 0) + 1 * ((y 1).val / 512 - 0) + 1 * ((y 2).val / 1024 - 0) = _
    omega
  have h : pt17Of y < cfg0.N := by omega
  unfold G17
  rw [dif_pos h, ← outsAt0_sweep m c (pt17Of y) h]
  obtain ⟨xs, hs, e⟩ := outs_eq m c (pt17Of y) h
  rw [e]
  refine (out_eq (part m c _) hs (loc17Of y 1) (loc17Of y 2)).trans ?_
  have e0 : batch ⟨pt17Of y, h⟩ = y 0 := by apply Fin.ext; show pt17Of y / 16 = (y 0).val; omega
  have e1 : row (blk ⟨pt17Of y, h⟩) (loc17Of y 1) = y 1 := by
    apply Fin.ext; show 512 * (pt17Of y % 16) + (y 1).val % 512 = (y 1).val; omega
  have e2 : loc17Of y 2 = y 2 := by apply Fin.ext; show (y 2).val % 1024 = (y 2).val; omega
  exact congr (congr (congrArg _ e0) e1) e2

end Cert.Sweep

end
-- ==== Proof.LoopRun.lean ====
/-
  The reference's loop over the 64 chunks. Its one trip, of the values the loop carries, is `Step.step`: the state decays
  and takes a chunk's update, and the state before the chunk is kept in the stack. So the reference's result is what its
  last operations make of the sixty-fourth of any sequence of states that goes on by `step`.
-/
module

public import proofs.«01_k».proof.Proof.Gen.ReferenceIdeal.Run
public import proofs.«01_k».proof.Proof.Gen.ReferenceIdeal.Step

@[expose] public section

set_option maxRecDepth 8192

noncomputable section

namespace Cert.LoopRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers before trip `j`: the carried state, the decays, the updates and the trip's number. -/
structure Carries (V0 : Valuation τ sig (Elt F)) (s : State F) (j : ℕ) : Prop where
  state : V0 (Proc.devRef .tc main_v9_3) = s.main_v9_3
  stack : V0 (Proc.devRef .tc main_v9_4) = s.main_v9_4
  decay : V0 (Proc.devRef .tc main_v9_0) = s.main_v9_0
  update : V0 (Proc.devRef .tc main_v9_1) = s.main_v9_1
  trip : V0 (Proc.devRef .tc main_v9_2) = constantI S_ 32 (BitVec.ofNat 32 j)

/-- One trip carries the next state. -/
theorem Carries.next {V0 : Valuation τ sig (Elt F)} {s : State F} {j : ℕ} (h : Carries V0 s j) :
    Carries (STEP V0) (step j s) (j + 1) where
  state := by
    rw [STEP_main_v9_3, Step.step_main_v9_3]
    unfold step_main_v9_3
    simp only [h.state, h.decay, h.update, h.trip]
    rfl
  stack := by
    rw [STEP_main_v9_4, Step.step_main_v9_4]
    unfold step_main_v9_4
    simp only [h.state, h.stack, h.trip]
    rfl
  decay := (STEP_main_v9_0 V0).trans h.decay
  update := (STEP_main_v9_1 V0).trans h.update
  trip := by
    rw [STEP_main_v9_2]
    unfold step_main_v9_2
    rw [h.trip]
    funext i
    show BitVec.ofNat 32 j + 1#32 = BitVec.ofNat 32 (j + 1)
    simp only [BitVec.ofNat_add]

variable (m : (ℓ : Loc nD τ sig) → Buf (Elt F) ℓ) (c : Dev nD)

/-- The state the first trip finds. -/
abbrev start : State F := init (m ((c.tc : Thread nD τ).loc main_arg8)) (m ((c.tc : Thread nD τ).loc main_arg9))

set_option maxRecDepth 65536 in
/-- What comes before the loop leaves it. -/
theorem carries_start : Carries (entryContents preI m c) (start m c) 0 := by
  constructor <;> (simp only [entryContents, afterL_cons, afterL_nil]; after_reads_simp) <;> rfl

/-- Before trip `k` the buffers carry the `k`-th state. -/
theorem carries (it : ℕ → State F) (h0 : it 0 = start m c) (hs : ∀ n, it (n + 1) = step n (it n)) (k : ℕ) :
    Carries (STEP^[k] (entryContents preI m c)) (it k) k := by
  induction k with
  | zero => rw [h0]; exact carries_start m c
  | succ k ih => rw [Function.iterate_succ_apply', hs k]; exact ih.next

/-- The reference's result, of a sequence of states. -/
theorem result (it : ℕ → State F) (h0 : it 0 = start m c) (hs : ∀ n, it (n + 1) = step n (it n)) :
    out_main_v94 (STEP^[64] (entryContents preI m c))
      = Step.R_main_v94 (it 64) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) := by
  unfold out_main_v94 Step.R_main_v94
  rw [(carries m c it h0 hs 64).stack, iter_main_arg0 m c 64, iter_main_arg1 m c 64, iter_main_arg2 m c 64,
    iter_main_arg3 m c 64, iter_main_arg4 m c 64, iter_main_arg5 m c 64, iter_main_arg6 m c 64, iter_main_arg7 m c 64,
    iter_main_arg9 m c 64, iter_main_arg10 m c 64, iter_main_arg11 m c 64, iter_main_arg12 m c 64, iter_main_arg13 m c 64,
    iter_main_arg14 m c 64, iter_main_arg15 m c 64, iter_main_arg16 m c 64]

end Cert.LoopRun

end
-- ==== Proof.RefTerms.lean ====
/-
  The reference's result, cut at the arrays its mathematics names: the query features, the weights within a chunk, the
  attention, the gated rows, the residual rows, and the last normalisation.
-/
module

public import proofs.«01_k».proof.Proof.Gen.ReferenceIdeal.Step
public import proofs.«01_k».proof.Proof.Whole
public import Idealize.ShloMosaic.Lib.WordCmp

@[expose] public section

set_option maxRecDepth 8192

noncomputable section

namespace Cert.RefTerms

open Idealize.ShloMosaic Idealize.ShloMosaic.TcCoe Idealize.ShloMosaic.Tactic
open Cert.ReferenceIdeal Cert.ReferenceIdeal.Gen
open Cert.ReferenceIdeal.Step (State R_main_v94)

variable (x : FVec Ideal S8x8192x1024 .f32) (q : FVec Ideal S8x8192x1024 .bf16) (kf kb : FVec Ideal S8x64x512x128 .bf16)
  (v h y : FVec Ideal S8x8192x1024 .bf16) (sb : FVec Ideal S8x64x512x256 .bf16) (g : FVec Ideal S8x64x8x512 .f32)
  (md : FVec Ideal S8x3x1024 .f32) (gain : FVec Ideal S1x1024 .f32) (wz wm wb wo : FVec Ideal S1024x1024 .bf16)
  (fin : FVec Ideal S1x1024 .f32) (stack : FVec Ideal S64x8x4x256x128 .f32) (o : FVec Ideal S8x64x4x128x256 .f32)
  (z : FVec Ideal S8x8192x1024 .f32) (gr r : FVec Ideal S8x8192x1024 .f32)

/-- The queries by chunk, token, head and direction. -/
def queries : FVec Ideal S8x64x128x4x2x128 .f32 :=
  shapeCast _ (extf .f32 q bitsLt_bf16_f32) shapeCasts_S8x8192x1024_S8x64x128x4x2x128

/-- The forward ones. -/
def fwd : FVec Ideal S8x64x128x4x128 .f32 :=
  shapeCast _ (extractStridedSlice S8x64x128x4x1x128 ![0, 0, 0, 0, 0, 0] (queries q)
    slices_S8x64x128x4x2x128_S8x64x128x4x1x128_0_0_0_0_0_0) shapeCasts_S8x64x128x4x1x128_S8x64x128x4x128

/-- The backward ones. -/
def bwd : FVec Ideal S8x64x128x4x128 .f32 :=
  shapeCast _ (extractStridedSlice S8x64x128x4x1x128 ![0, 0, 0, 0, 1, 0] (queries q)
    slices_S8x64x128x4x2x128_S8x64x128x4x1x128_0_0_0_0_1_0) shapeCasts_S8x64x128x4x1x128_S8x64x128x4x128

/-- One direction's scores within a chunk. -/
def scores (f : FVec Ideal S8x64x128x4x128 .f32) (k : FVec Ideal S8x64x512x128 .bf16) : FVec Ideal S8x64x4x128x128 .f32 :=
  Host.dotGeneral dot_S8x64x128x4x128_S8x64x4x128x128_S8x64x4x128x128_4_3_2_4_013_012 none f
    (shapeCast _ (extf .f32 k bitsLt_bf16_f32) shapeCasts_S8x64x512x128_S8x64x4x128x128)

/-- Whether token `t` of a chunk is at or after token `s`. -/
def causal : Vec Ideal S8x64x4x128x128 .i1 :=
  broadcastInDim S8x64x4x128x128 ![3, 4] bcast_S128x128_S8x64x4x128x128_3_4
    (cmpi .sge
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))

/-- The second decay row, by head. -/
def reach : FVec Ideal S8x64x128x4x128 .f32 :=
  broadcastInDim S8x64x128x4x128 ![0, 1, 2, 3, 4] bcast_S8x64x1x4x128_S8x64x128x4x128_0_1_2_3_4
    (shapeCast _ (shapeCast _ (extractStridedSlice S8x64x1x512 ![0, 0, 1, 0] g slices_S8x64x8x512_S8x64x1x512_0_0_1_0)
      shapeCasts_S8x64x1x512_S8x64x512) shapeCasts_S8x64x512_S8x64x1x4x128)

/-- The attention's output. -/
def attn : FVec Ideal S8x64x4x128x256 .f32 :=
  addf (addf
    (Host.dotGeneral dot_S8x64x4x128x128_S8x64x128x4x256_S8x64x4x128x256_4_2_3_4_012_013 none
      (select causal (scores (fwd q) kf) (scores (bwd q) kb))
      (shapeCast _ (extf .f32 v bitsLt_bf16_f32) shapeCasts_S8x8192x1024_S8x64x128x4x256))
    (Host.dotGeneral dot_S8x64x128x4x128_S64x8x4x256x128_S8x64x4x128x256_4_4_2_3_013_102 none (mulf (fwd q) (reach g)) stack))
    (Host.dotGeneral dot_S8x64x128x4x128_S8x64x4x128x256_S8x64x4x128x256_4_3_2_4_013_012 none (bwd q)
      (shapeCast _ (extf .f32 sb bitsLt_bf16_f32) shapeCasts_S8x64x512x256_S8x64x4x128x256))

/-- The head normalisation of the attention's output. -/
def normed : FVec Ideal S8x64x4x128x256 .f32 :=
  mulf o (broadcastInDim S8x64x4x128x256 ![0, 1, 2, 3, 4] bcast_S8x64x4x128x1_S8x64x4x128x256_0_1_2_3_4
    (Host.rsqrt (addf
      (Host.divf
        (broadcastInDim S8x64x4x128x1 ![0, 1, 2, 3] bcast_S8x64x4x128_S8x64x4x128x1_0_1_2_3
          (Host.reduceAdd (mulf o o) (constant S_ .f32 0x00000000#32) reducesTo_S8x64x4x128x256_S8x64x4x128_d4 h_S_))
        (broadcastInDim S8x64x4x128x1 ![] bcast_S_S8x64x4x128x1 (constant S_ .f32 0x43800000#32)))
      (broadcastInDim S8x64x4x128x1 ![] bcast_S_S8x64x4x128x1 (constant S_ .f32 0x358637BD#32)))))

/-- The logistic function, elementwise. -/
def sigm : FVec Ideal S8x8192x1024 .f32 :=
  Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf z)))

/-- A row's projection. -/
def proj (w : FVec Ideal S1024x1024 .bf16) : FVec Ideal S8x8192x1024 .f32 :=
  Host.dotGeneral dot_S8x8192x1024_S1024x1024_S8x8192x1024_2_0_01_1_n_n none z (extf .f32 w bitsLt_bf16_f32)

/-- A head gain over every token. -/
def everywhere (w : FVec Ideal S1x1024 .f32) : FVec Ideal S8x8192x1024 .f32 :=
  broadcastInDim S8x8192x1024 ![0, 1, 2] bcast_S1x1x1024_S8x8192x1024_0_1_2
    (broadcastInDim S1x1x1024 ![1, 2] bcast_S1x1024_S1x1x1024_1_2 w)

/-- The attention's rows by token, with gain and gate. -/
def gatedRows : FVec Ideal S8x8192x1024 .f32 :=
  mulf (mulf (shapeCast _ (transpose S8x64x128x4x256 [0, 1, 3, 2, 4] (normed o) transposes_S8x64x4x128x256_S8x64x128x4x256_0_1_3_2_4)
      shapeCasts_S8x64x128x4x256_S8x8192x1024) (everywhere gain))
    (mulf (proj (extf .f32 h bitsLt_bf16_f32) wz) (sigm (proj (extf .f32 h bitsLt_bf16_f32) wz)))

/-- The residual rows. -/
def resid : FVec Ideal S8x8192x1024 .f32 :=
  addf x (mulf (broadcastInDim S8x8192x1024 ![0, 1, 2] bcast_S8x1x1024_S8x8192x1024_0_1_2
      (extractStridedSlice S8x1x1024 ![0, 2, 0] md slices_S8x3x1024_S8x1x1024_0_2_0))
    (proj (addf (extf .f32 y bitsLt_bf16_f32) (mulf (sigm (proj (extf .f32 h bitsLt_bf16_f32) wm)) (proj gr wb))) wo))

/-- The last normalisation, with the final gain. -/
def final : FVec Ideal S8x8192x1024 .f32 :=
  mulf (mulf r (broadcastInDim S8x8192x1024 ![0, 1, 2] bcast_S8x8192x1_S8x8192x1024_0_1_2
      (Host.rsqrt (addf
        (Host.divf (broadcastInDim S8x8192x1 ![0, 1] bcast_S8x8192_S8x8192x1_0_1
            (Host.reduceAdd (mulf r r) (constant S_ .f32 0x00000000#32) reducesTo_S8x8192x1024_S8x8192_d2 h_S_))
          (broadcastInDim S8x8192x1 ![] bcast_S_S8x8192x1 (constant S_ .f32 0x44800000#32)))
        (broadcastInDim S8x8192x1 ![] bcast_S_S8x8192x1 (constant S_ .f32 0x358637BD#32))))))
    (everywhere fin)

/-- The reference's result is these, one after another. -/
theorem result_eq (s : State Ideal) :
    R_main_v94 s x q kf kb v h y sb g md gain wz wm wb wo fin
      = final fin (resid x h y md wm wb wo (gatedRows h gain wz (attn q kf kb v sb g s.main_v9_4))) := rfl

/-! Each, read at an index. -/

/-- A place among the tokens' rows, by its coordinates. -/
theorem place (b : Fin 8) {r r' : Fin 8192} {j j' : Fin 1024} (hr : r.val = r'.val) (hj : j.val = j'.val) :
    ix3 b r j = ix3 b r' j' := by
  rw [Fin.ext hr, Fin.ext hj]

/-- A key feature, a token and a column, by their numbers. -/
theorem key_mk (a : Fin 4) (d : Fin 128) (p : a.val * 128 + d.val < 512) : (⟨a.val * 128 + d.val, p⟩ : Fin 512) = Point.key a d := by
  apply Fin.ext; show a.val * 128 + d.val = 128 * a.val + d.val; omega
theorem pos_mk (n : Fin 64) (t : Fin 128) (p : n.val * 128 + t.val < 8192) :
    (⟨n.val * 128 + t.val, p⟩ : Fin 8192) = Whole.pos n t := by
  apply Fin.ext; show n.val * 128 + t.val = 128 * n.val + t.val; omega
theorem col_mk (a : Fin 4) (w : Fin 256) (p : a.val * 256 + w.val < 1024) :
    (⟨a.val * 256 + w.val, p⟩ : Fin 1024) = Point.col a w := by
  apply Fin.ext; show a.val * 256 + w.val = 256 * a.val + w.val; omega

/-- The forward queries. -/
theorem fwd_apply (b : Fin 8) (n : Fin 64) (t : Fin 128) (a : Fin 4) (d : Fin 128) :
    fwd q (ix5 b n t a d) = q (ix3 b (Whole.pos n t) (Point.fwd a d)) := by
  unfold fwd queries
  pointwise
  exact congrArg q (place b (by show n.val * 128 + t.val = 128 * n.val + t.val; omega)
    (by show a.val * 256 + d.val = 256 * a.val + d.val; omega))

/-- The backward queries. -/
theorem bwd_apply (b : Fin 8) (n : Fin 64) (t : Fin 128) (a : Fin 4) (d : Fin 128) :
    bwd q (ix5 b n t a d) = q (ix3 b (Whole.pos n t) (Point.bwd a d)) := by
  unfold bwd queries
  pointwise
  exact congrArg q (place b (by show n.val * 128 + t.val = 128 * n.val + t.val; omega)
    (by show a.val * 256 + 128 + d.val = 256 * a.val + (128 + d.val); omega))

/-- The scores. -/
theorem scores_apply (f : FVec Ideal S8x64x128x4x128 .f32) (k : FVec Ideal S8x64x512x128 .bf16) (b : Fin 8) (n : Fin 64)
    (a : Fin 4) (t s : Fin 128) :
    scores f k (ix5 b n a t s) = ∑ d, f (ix5 b n t a d) * k (ix4 b n (Point.key a d) s) := by
  unfold scores
  pointwise
  simp only [key_mk]

/-- The order of two tokens. -/
theorem causal_apply (b : Fin 8) (n : Fin 64) (a : Fin 4) (t s : Fin 128) :
    causal (ix5 b n a t s) = if s ≤ t then 1#1 else 0#1 := by
  unfold causal
  pointwise
  rw [WordCmp.cmpi_sge_ofNat (by omega) (by omega)]
  by_cases hs : s ≤ t
  · rw [if_pos hs, decide_eq_true (show s.val ≤ t.val from hs)]; rfl
  · rw [if_neg hs, decide_eq_false (show ¬s.val ≤ t.val from hs)]; rfl

/-- A choice by that word. -/
theorem select_if (s t : Fin 128) (a b : EReal) : Scalar.select (if s ≤ t then 1#1 else 0#1) a b = if s ≤ t then a else b := by
  by_cases h : s ≤ t
  · rw [if_pos h, if_pos h]; rfl
  · rw [if_neg h, if_neg h]; rfl

/-- The second decay row. -/
theorem reach_apply (b : Fin 8) (n : Fin 64) (t : Fin 128) (a : Fin 4) (d : Fin 128) :
    reach g (ix5 b n t a d) = g (ix4 b n (1 : Fin 8) (Point.key a d)) := by
  unfold reach
  pointwise
  rw [key_mk]

/-- The normalised heads. -/
theorem normed_apply (b : Fin 8) (n : Fin 64) (a : Fin 4) (t : Fin 128) (w : Fin 256) :
    normed o (ix5 b n a t w) = Layer.rms Layer.headWidth (fun w => o (ix5 b n a t w)) w := by
  unfold normed
  pointwise
  rfl

/-- The logistic function. -/
theorem sigm_apply (b : Fin 8) (t : Fin 8192) (j : Fin 1024) : sigm z (ix3 b t j) = Layer.logistic (z (ix3 b t j)) := by
  unfold sigm
  pointwise
  rfl

/-- A projection. -/
theorem proj_apply (w : FVec Ideal S1024x1024 .bf16) (b : Fin 8) (t : Fin 8192) (j : Fin 1024) :
    proj z w (ix3 b t j) = ∑ k, z (ix3 b t k) * w (ix2 k j) := by
  unfold proj
  pointwise

/-- A gain. -/
theorem everywhere_apply (w : FVec Ideal S1x1024 .f32) (b : Fin 8) (t : Fin 8192) (j : Fin 1024) :
    everywhere w (ix3 b t j) = w (ix2 (0 : Fin 1) j) := by
  unfold everywhere
  pointwise

/-- The attention's output at an element, over a stack of states read at it. -/
theorem attn_apply (b : Fin 8) (n : Fin 64) (a : Fin 4) (t : Fin 128) (w : Fin 256) :
    attn q kf kb v sb g stack (ix5 b n a t w)
      = Layer.attend t (fun d => q (ix3 b (Whole.pos n t) (Point.fwd a d))) (fun d => q (ix3 b (Whole.pos n t) (Point.bwd a d)))
        (fun d => g (ix4 b n (1 : Fin 8) (Point.key a d))) (fun d s => kf (ix4 b n (Point.key a d) s))
        (fun d s => kb (ix4 b n (Point.key a d) s)) (fun s => v (ix3 b (Whole.pos n s) (Point.col a w)))
        (fun d => stack (ix5 n b a w d)) (fun d => sb (ix4 b n (Point.key a d) w)) := by
  unfold attn
  pointwise
  simp only [causal_apply, scores_apply, fwd_apply, bwd_apply, reach_apply, key_mk, pos_mk, col_mk, select_if]
  unfold Layer.attend Layer.weight
  rw [add_assoc]
  refine congrArg₂ _ rfl (congrArg₂ _ (Finset.sum_congr rfl fun d _ => ?_) rfl)
  rw [mul_assoc, mul_comm (g _)]

/-- The gated rows. -/
theorem gatedRows_apply (b : Fin 8) (n : Fin 64) (t : Fin 128) (a : Fin 4) (w : Fin 256) :
    gatedRows h gain wz o (ix3 b (Whole.pos n t) (Point.col a w))
      = Layer.rms Layer.headWidth (fun w => o (ix5 b n a t w)) w * gain (ix2 (0 : Fin 1) (Point.col a w))
        * ((∑ k, h (ix3 b (Whole.pos n t) k) * wz (ix2 k (Point.col a w)))
          * Layer.logistic (∑ k, h (ix3 b (Whole.pos n t) k) * wz (ix2 k (Point.col a w)))) := by
  unfold gatedRows
  pointwise
  rw [sigm_apply, everywhere_apply, proj_apply]
  have hn : (⟨(Whole.pos n t).val / 128, by omega⟩ : Fin 64) = n := by
    apply Fin.ext; show (128 * n.val + t.val) / 128 = n.val; omega
  have ht : (⟨(Whole.pos n t).val % 128, by omega⟩ : Fin 128) = t := by
    apply Fin.ext; show (128 * n.val + t.val) % 128 = t.val; omega
  have ha : (⟨(Point.col a w).val / 256, by omega⟩ : Fin 4) = a := by
    apply Fin.ext; show (256 * a.val + w.val) / 256 = a.val; omega
  have hw : (⟨(Point.col a w).val % 256, by omega⟩ : Fin 256) = w := by
    apply Fin.ext; show (256 * a.val + w.val) % 256 = w.val; omega
  rw [hn, ht, ha, hw, normed_apply]
  rfl

/-- The merged branches. -/
theorem merged_apply (b : Fin 8) (t : Fin 8192) (k : Fin 1024) :
    addf (extf .f32 y bitsLt_bf16_f32) (mulf (sigm (proj (extf .f32 h bitsLt_bf16_f32) wm)) (proj gr wb)) (ix3 b t k)
      = y (ix3 b t k) + Layer.logistic (∑ l, h (ix3 b t l) * wm (ix2 l k)) * ∑ l, gr (ix3 b t l) * wb (ix2 l k) := by
  pointwise
  rw [sigm_apply, proj_apply, proj_apply]
  rfl

/-- The residual rows. -/
theorem resid_apply (b : Fin 8) (t : Fin 8192) (j : Fin 1024) :
    resid x h y md wm wb wo gr (ix3 b t j)
      = Layer.residual (fun k => x (ix3 b t k)) (fun k => h (ix3 b t k)) (fun k => y (ix3 b t k))
        (fun k => md (ix3 b (2 : Fin 3) k)) (fun k => gr (ix3 b t k)) (fun l k => wm (ix2 l k)) (fun l k => wb (ix2 l k))
        (fun l k => wo (ix2 l k)) j := by
  unfold resid
  pointwise
  simp only [proj_apply, merged_apply]
  rfl

/-- The last normalisation. -/
theorem final_apply (b : Fin 8) (t : Fin 8192) (j : Fin 1024) :
    final fin r (ix3 b t j) = Layer.rms Layer.modelWidth (fun k => r (ix3 b t k)) j * fin (ix2 (0 : Fin 1) j) := by
  unfold final
  pointwise
  rw [everywhere_apply]
  rfl

end Cert.RefTerms

end
-- ==== Proof.States.lean ====
/-
  The reference's states: the sequence its loop goes through from zero. Before trip `k` the carried array is the forward
  state before chunk `k`, and the stack holds the states before the chunks already passed.
-/
module

public import proofs.«01_k».proof.Proof.Gen.ReferenceIdeal.Step
public import proofs.«01_k».proof.Proof.Whole
public import proofs.«01_k».proof.Proof.RefTerms
public import Idealize.ShloMosaic.Lib.WordCmp

@[expose] public section

set_option maxRecDepth 8192

noncomputable section

namespace Cert.States

open Idealize.ShloMosaic Idealize.ShloMosaic.TcCoe Idealize.ShloMosaic.Tactic
open Cert.ReferenceIdeal Cert.ReferenceIdeal.Gen Cert.ReferenceIdeal.Step

variable (u : FVec Ideal S8x64x1024x128 .bf16) (g : FVec Ideal S8x64x8x512 .f32)

/-- The states, one trip after another. -/
def states : ℕ → State Ideal
  | 0 => init u g
  | n + 1 => step n (states n)

/-- A trip changes neither the decays nor the updates. -/
theorem decay_kept (k : ℕ) : (states u g k).main_v9_0 = A_main_v6 u g := by
  induction k with
  | zero => rfl
  | succ k ih => exact ih
theorem update_kept (k : ℕ) : (states u g k).main_v9_1 = A_main_v7 u g := by
  induction k with
  | zero => rfl
  | succ k ih => exact ih

/-- Chunk `n`'s decay and update. -/
theorem decay_apply (n : Fin 64) (b : Fin 8) (a : Fin 4) (z : Fin 1) (d : Fin 128) :
    A_main_v6 (F := Ideal) u g (ix5 n b a z d) = g (ix4 b n (0 : Fin 8) (Point.key a d)) := by
  unfold A_main_v6 A_main_v4 A_main_v3 A_main_v2
  pointwise
  rw [RefTerms.key_mk]
theorem update_apply (n : Fin 64) (b : Fin 8) (a : Fin 4) (w : Fin 256) (d : Fin 128) :
    A_main_v7 (F := Ideal) u g (ix5 n b a w d) = u (ix4 b n (Point.col a w) d) := by
  unfold A_main_v7 A_main_v1 A_main_v0
  pointwise
  rw [RefTerms.col_mk]

/-- A trip's number is its start along the chunks; along the other axes the start is 0. -/
theorem start_eq (j : ℕ) (hj : j < 64) (c : Fin 5 → (⟨S_, .i32⟩ : BufTy).Contents (Elt Ideal))
    (hc : c = ![constantI S_ 32 (BitVec.ofNat 32 j), constantI S_ 32 0#32, constantI S_ 32 0#32, constantI S_ 32 0#32, constantI S_ 32 0#32])
    (k : Fin 5) : (c k (Shape.Idx.first h_S_)).toInt = (((![j, 0, 0, 0, 0] : Fin 5 → ℕ) k : ℕ) : ℤ) := by
  subst hc
  match k with
  | 0 => exact WordCmp.toInt_ofNat_of_lt (by omega)
  | 1 => rfl
  | 2 => rfl
  | 3 => rfl
  | 4 => rfl

/-- Chunk `j`'s part of an array over the chunks lies in it. -/
theorem fits (j : ℕ) (hj : j < 64) (w : ℕ) :
    Shape.Slices ⟨5, ![64, 8, 4, w, 128]⟩ (![j, 0, 0, 0, 0] : Fin 5 → ℕ) ⟨5, ![1, 8, 4, w, 128]⟩ := by
  refine ⟨rfl, fun k => ?_⟩
  match k with
  | 0 => show j + 1 ≤ 64; omega
  | 1 => exact le_of_eq (Nat.zero_add 8)
  | 2 => exact le_of_eq (Nat.zero_add 4)
  | 3 => exact le_of_eq (Nat.zero_add w)
  | 4 => exact le_of_eq (Nat.zero_add 128)

/-- The carried array after trip `j`. -/
theorem carried_apply (j : ℕ) (hj : j < 64) (s : State Ideal) (b : Fin 8) (a : Fin 4) (w : Fin 256) (d : Fin 128) :
    b14 j s (ix4 b a w d)
      = s.main_v9_3 (ix4 b a w d) * s.main_v9_0 (ix5 (⟨j, hj⟩ : Fin 64) b a (0 : Fin 1) d) + s.main_v9_1 (ix5 (⟨j, hj⟩ : Fin 64) b a w d) := by
  unfold b14 b13 b12 b11 b10 b5 b4
  rw [WordCmp.dynamicSlice_eq_extract _ _ _ _ (![j, 0, 0, 0, 0] : Fin 5 → ℕ) (fits j hj 1) (start_eq j hj _ rfl),
    WordCmp.dynamicSlice_eq_extract _ _ _ _ (![j, 0, 0, 0, 0] : Fin 5 → ℕ) (fits j hj 256) (start_eq j hj _ rfl)]
  pointwise

/-- The stack after trip `j`: at chunk `j` the carried array the trip found, elsewhere what it held. -/
theorem stack_apply (j : ℕ) (hj : j < 64) (s : State Ideal) (n : Fin 64) (b : Fin 8) (a : Fin 4) (w : Fin 256) (d : Fin 128) :
    b20 j s (ix5 n b a w d) = if n.val = j then s.main_v9_3 (ix4 b a w d) else s.main_v9_4 (ix5 n b a w d) := by
  unfold b20 b15
  rw [WordCmp.dynamicUpdateSlice_eq_update _ _ _ _ (![j, 0, 0, 0, 0] : Fin 5 → ℕ) (fits j hj 256) (start_eq j hj _ rfl)]
  pointwise
  by_cases h : n.val = j
  · rw [if_pos h, dif_pos ⟨h.ge, by omega⟩]
  · rw [if_neg h, dif_neg (by omega)]

/-- Before trip `k` the carried array is the state before chunk `k`. -/
theorem states_carried (A : Whole.Arrays) (hg : ∀ b n r d, g (ix4 b n r d) = A.g b n r d) (hu : ∀ b n j d, u (ix4 b n j d) = A.u b n j d)
    (b : Fin 8) (a : Fin 4) (w : Fin 256) (d : Fin 128) :
    ∀ k ≤ 64, (states u g k).main_v9_3 (ix4 b a w d) = Whole.stateAt A b a w d k
  | 0, _ => by
    show K_main_v5 (F := Ideal) (ix4 b a w d) = 0
    unfold K_main_v5 K_main_cst
    pointwise
  | k + 1, hk => by
    show b14 k (states u g k) (ix4 b a w d) = _
    rw [carried_apply k (by omega), states_carried A hg hu b a w d k (by omega), decay_kept, update_kept, decay_apply,
      update_apply, hg, hu]
    have hc : (⟨k, by omega⟩ : Fin 64) = Whole.chunk k := by apply Fin.ext; show k = k % 64; omega
    rw [hc]
    rfl

/-- After `k` trips the stack holds the states before the first `k` chunks. -/
theorem states_stack (A : Whole.Arrays) (hg : ∀ b n r d, g (ix4 b n r d) = A.g b n r d) (hu : ∀ b n j d, u (ix4 b n j d) = A.u b n j d)
    (n : Fin 64) (b : Fin 8) (a : Fin 4) (w : Fin 256) (d : Fin 128) :
    ∀ k ≤ 64, n.val < k → (states u g k).main_v9_4 (ix5 n b a w d) = Whole.stateAt A b a w d n
  | 0, _, h => absurd h (Nat.not_lt_zero _)
  | k + 1, hk, h => by
    show b20 k (states u g k) (ix5 n b a w d) = _
    rw [stack_apply k (by omega)]
    by_cases e : n.val = k
    · rw [if_pos e, states_carried u g A hg hu b a w d k (by omega), e]
    · rw [if_neg e]
      exact states_stack A hg hu n b a w d k (by omega) (by omega)

end Cert.States

end
-- ==== Proof.Finite.lean ====
/-
  The precondition, read: the hidden states and the gate's weights hold finite numbers. Then the gate's argument is a real
  number, and the gate by the hyperbolic tangent is the gate by the logistic function.
-/
module

public import proofs.«01_k».proof.Pre_gate_finite
public import proofs.«01_k».proof.Proof.Layer
public import Idealize.ShloMosaic.Lib.ReduceAll

@[expose] public section

noncomputable section

namespace Cert.Finite

open Idealize.ShloMosaic Idealize.ShloMosaic.Tactic
open Cert.Pre_gate_finite

/-- The side conditions of the precondition's operations. -/
instance facts : Cert.Pre_gate_finite.Facts where
  bitsLt_bf16_f32 := by decide
  bcast_S_S8x8192x1024 := by decide
  reducesTo_S8x8192x1024_S_d0_1_2 := by decide
  h_S_ := by decide
  bcast_S_S1024x1024 := by decide
  reducesTo_S1024x1024_S_d0_1 := by decide

/-- The shape of a single number has one index. -/
instance single : Subsingleton S_.Idx := ⟨fun i j => funext fun k => k.elim0⟩

/-- A comparison with `+∞` that holds bounds the absolute value below it. -/
theorem lt_top_of_cmp {z : EReal}
    (h : Ideal.cmp .olt (max z (-z)) (Ideal.ofBits .f32 0x7F800000#32) = 1#1) : ∃ r : ℝ, z = (r : EReal) := by
  rw [Scalar.inf_bits] at h
  refine Scalar.real_of_abs_lt_top ?_
  by_contra hn
  have e : Ideal.cmp .olt (max z (-z)) ⊤ = 0#1 := by
    show BitVec.ofBool (decide (max z (-z) < ⊤)) = 0#1
    rw [decide_eq_false hn]
    rfl
  rw [e] at h
  exact absurd h (by decide)

variable (x : FVec Ideal S8x8192x1024 .f32) (q : FVec Ideal S8x8192x1024 .bf16) (kf kb : FVec Ideal S8x64x512x128 .bf16)
  (v h y : FVec Ideal S8x8192x1024 .bf16) (sb : FVec Ideal S8x64x512x256 .bf16) (u : FVec Ideal S8x64x1024x128 .bf16)
  (g : FVec Ideal S8x64x8x512 .f32) (md : FVec Ideal S8x3x1024 .f32) (gain : FVec Ideal S1x1024 .f32)
  (wz wm wb wo : FVec Ideal S1024x1024 .bf16) (fin : FVec Ideal S1x1024 .f32)

/-- Under the precondition the hidden states and the gate's weights are real numbers. -/
theorem reals (e : fn (F := Ideal) x q kf kb v h y sb u g md gain wz wm wb wo fin = fun _ => 1#1) :
    (∀ i, ∃ r : ℝ, h i = (r : EReal)) ∧ ∀ i, ∃ r : ℝ, wz i = (r : EReal) := by
  have e0 := congrFun e (Shape.Idx.first Facts.h_S_)
  obtain ⟨eh, ew⟩ := IntOp.andi_eq_one.1 e0
  constructor
  · intro i
    exact lt_top_of_cmp (Host.reduce_andi_all _ _ _ _ _ eh i)
  · intro i
    exact lt_top_of_cmp (Host.reduce_andi_all _ _ _ _ _ ew i)

/-- The two gates agree at a real number. -/
theorem gate_eq {z : EReal} (hz : ∃ r : ℝ, z = (r : EReal)) : z * Layer.logistic z = Layer.gate z := by
  obtain ⟨r, rfl⟩ := hz
  exact (Scalar.silu_eq r).symm

end Cert.Finite

end
-- ==== Proof.RefValue.lean ====
/-
  The reference's result is the whole computation (Whole.lean) over its arguments, wherever the gate's argument is a real
  number.
-/
module

public import proofs.«01_k».proof.Proof.States
public import proofs.«01_k».proof.Proof.Finite

@[expose] public section

noncomputable section

namespace Cert.RefValue

open Idealize.ShloMosaic Idealize.ShloMosaic.Tactic
open Cert.ReferenceIdeal Cert.ReferenceIdeal.Gen
open Cert.ReferenceIdeal.Step (R_main_v94)
open Cert.RefTerms Cert.States

variable (x : FVec Ideal S8x8192x1024 .f32) (q : FVec Ideal S8x8192x1024 .bf16) (kf kb : FVec Ideal S8x64x512x128 .bf16)
  (v h y : FVec Ideal S8x8192x1024 .bf16) (sb : FVec Ideal S8x64x512x256 .bf16) (u : FVec Ideal S8x64x1024x128 .bf16)
  (g : FVec Ideal S8x64x8x512 .f32) (md : FVec Ideal S8x3x1024 .f32) (gain : FVec Ideal S1x1024 .f32)
  (wz wm wb wo : FVec Ideal S1024x1024 .bf16) (fin : FVec Ideal S1x1024 .f32)

/-- The arguments, as the computation's arrays. -/
def arrays : Whole.Arrays where
  x := fun i j k => x (ix3 i j k)
  q := fun i j k => q (ix3 i j k)
  kf := fun i j k l => kf (ix4 i j k l)
  kb := fun i j k l => kb (ix4 i j k l)
  v := fun i j k => v (ix3 i j k)
  h := fun i j k => h (ix3 i j k)
  y := fun i j k => y (ix3 i j k)
  sb := fun i j k l => sb (ix4 i j k l)
  u := fun i j k l => u (ix4 i j k l)
  g := fun i j k l => g (ix4 i j k l)
  md := fun i j k => md (ix3 i j k)
  gain := fun i j => gain (ix2 i j)
  wz := fun i j => wz (ix2 i j)
  wm := fun i j => wm (ix2 i j)
  wb := fun i j => wb (ix2 i j)
  wo := fun i j => wo (ix2 i j)
  fin := fun i j => fin (ix2 i j)

/-- The attention over the stack the loop leaves. -/
theorem attend_eq (b : Fin 8) (n : Fin 64) (a : Fin 4) (t : Fin 128) (w : Fin 256) :
    attn q kf kb v sb g (states u g 64).main_v9_4 (ix5 b n a t w)
      = Whole.attend (arrays x q kf kb v h y sb u g md gain wz wm wb wo fin) b n a t w := by
  rw [attn_apply]
  have hs : (fun d => (states u g 64).main_v9_4 (ix5 n b a w d))
      = fun d => Whole.stateAt (arrays x q kf kb v h y sb u g md gain wz wm wb wo fin) b a w d n :=
    funext fun d => states_stack u g (arrays x q kf kb v h y sb u g md gain wz wm wb wo fin) (fun _ _ _ _ => rfl)
      (fun _ _ _ _ => rfl) n b a w d 64 le_rfl n.isLt
  rw [hs]
  rfl

/-- The gated rows by chunk and head. -/
theorem gated_eq (hh : ∀ i, ∃ r : ℝ, h i = (r : EReal)) (hw : ∀ i, ∃ r : ℝ, wz i = (r : EReal)) (b : Fin 8) (n : Fin 64)
    (a : Fin 4) (t : Fin 128) (w : Fin 256) :
    gatedRows h gain wz (attn q kf kb v sb g (states u g 64).main_v9_4) (ix3 b (Whole.pos n t) (Point.col a w))
      = Whole.gated (arrays x q kf kb v h y sb u g md gain wz wm wb wo fin) b n a t w := by
  rw [gatedRows_apply, Finite.gate_eq (Scalar.sum_mul_real _ _ _ (fun _ => hh _) fun _ => hw _)]
  have ho : (fun w => attn q kf kb v sb g (states u g 64).main_v9_4 (ix5 b n a t w))
      = Whole.attend (arrays x q kf kb v h y sb u g md gain wz wm wb wo fin) b n a t :=
    funext fun w => attend_eq x q kf kb v h y sb u g md gain wz wm wb wo fin b n a t w
  rw [ho]
  rfl

/-- The same by token and model column. -/
theorem gatedAt_eq (hh : ∀ i, ∃ r : ℝ, h i = (r : EReal)) (hw : ∀ i, ∃ r : ℝ, wz i = (r : EReal)) (b : Fin 8)
    (r : Fin 8192) (j : Fin 1024) :
    gatedRows h gain wz (attn q kf kb v sb g (states u g 64).main_v9_4) (ix3 b r j)
      = Whole.gatedAt (arrays x q kf kb v h y sb u g md gain wz wm wb wo fin) b r j := by
  have hr : Whole.pos ⟨r.val / 128, by omega⟩ ⟨r.val % 128, by omega⟩ = r := by
    apply Fin.ext; show 128 * (r.val / 128) + r.val % 128 = r.val; omega
  have hj : Point.col ⟨j.val / 256, by omega⟩ ⟨j.val % 256, by omega⟩ = j := by
    apply Fin.ext; show 256 * (j.val / 256) + j.val % 256 = j.val; omega
  have e := gated_eq x q kf kb v h y sb u g md gain wz wm wb wo fin hh hw b ⟨r.val / 128, by omega⟩ ⟨j.val / 256, by omega⟩
    ⟨r.val % 128, by omega⟩ ⟨j.val % 256, by omega⟩
  rw [hr, hj] at e
  exact e

/-- The reference's result. -/
theorem result (hh : ∀ i, ∃ r : ℝ, h i = (r : EReal)) (hw : ∀ i, ∃ r : ℝ, wz i = (r : EReal)) :
    R_main_v94 (states u g 64) x q kf kb v h y sb g md gain wz wm wb wo fin
      = fun i => Whole.out (arrays x q kf kb v h y sb u g md gain wz wm wb wo fin) (i 0) (i 1) (i 2) := by
  rw [result_eq]
  funext i
  obtain ⟨b, r, j, rfl⟩ : ∃ (b : Fin 8) (r : Fin 8192) (j : Fin 1024), i = ix3 b r j :=
    ⟨i 0, i 1, i 2, by funext k; match k with | 0 => rfl | 1 => rfl | 2 => rfl⟩
  rw [final_apply]
  have hres : (fun k => resid x h y md wm wb wo (gatedRows h gain wz (attn q kf kb v sb g (states u g 64).main_v9_4)) (ix3 b r k))
      = fun k => Layer.residual (fun k => x (ix3 b r k)) (fun k => h (ix3 b r k)) (fun k => y (ix3 b r k))
        (fun k => md (ix3 b (2 : Fin 3) k)) (Whole.gatedAt (arrays x q kf kb v h y sb u g md gain wz wm wb wo fin) b r)
        (fun l k => wm (ix2 l k)) (fun l k => wb (ix2 l k)) (fun l k => wo (ix2 l k)) k := by
    funext k
    rw [resid_apply, funext fun k => gatedAt_eq x q kf kb v h y sb u g md gain wz wm wb wo fin hh hw b r k]
  rw [hres]
  rfl

end Cert.RefValue

end
-- ==== Proof.Branch.lean ====
/-
  The convolution branch's mathematics on extended reals, over plain functions of positions: the modulated normalisation
  of a token's row, the gated short convolution, its projection and its merge gate, over the first call's arrays. Neither
  program's tiling appears here.
-/
module

public import proofs.«01_k».proof.Proof.Layer

@[expose] public section

noncomputable section

namespace Cert.Branch

open Idealize.ShloMosaic

/-- A token's normalised row with gain, modulated by a scale and a shift. -/
def modulated (x gain scale shift : Fin 1024 → EReal) (j : Fin 1024) : EReal :=
  Layer.rms Layer.modelWidth x j * (gain j * (1 + scale j)) + shift j

/-- A row against a column. -/
def proj (h c : Fin 1024 → EReal) : EReal := ∑ k, h k * c k

/-- The convolution's input at a token: the product of two projections of its row. -/
def input (h cc cx : Fin 1024 → EReal) : EReal := proj h cc * proj h cx

/-- The three taps of the convolution with its bias. -/
def taps (w : Fin 3 → EReal) (bias before here after : EReal) : EReal := w 0 * before + w 1 * here + w 2 * after + bias

/-- The gated branch: the convolution `u` between one projection of the row and the silu of another. -/
def gated (h wb wz : Fin 1024 → EReal) (u : EReal) : EReal := proj h wb * u * Layer.gate (proj h wz)

/-- The branch's contribution to the merge, from the gated row `g`. -/
def merged (h g wm wo : Fin 1024 → EReal) : EReal := Layer.logistic (proj h wm) * proj g wo

/-- A row of zeros gives the convolution nothing. -/
theorem input_zero (cc cx : Fin 1024 → EReal) : input (fun _ => 0) cc cx = 0 := by simp [input, proj]

/-- The call's arrays: the layer's input, the modulation, the norm's gain, the joined input projection, the merge gate's
    weight, the convolution's taps and bias, and the branch's output projection. -/
structure Arrays where
  x : Fin 8 → Fin 8192 → Fin 1024 → EReal
  md : Fin 8 → Fin 3 → Fin 1024 → EReal
  gain : Fin 1024 → EReal
  w : Fin 1024 → Fin 9248 → EReal
  wm : Fin 1024 → Fin 1024 → EReal
  cw : Fin 3 → Fin 1024 → EReal
  cb : Fin 1024 → EReal
  wo : Fin 1024 → Fin 1024 → EReal

/-- Column `j` of part `n` of the joined projection. -/
def col (n : Fin 9) (j : Fin 1024) : Fin 9248 := ⟨1024 * n.val + j.val, by omega⟩

variable (A : Arrays)

/-- A column of one part of the joined projection. -/
def weight (n : Fin 9) (j k : Fin 1024) : EReal := A.w k (col n j)

/-- The hidden state of a token. -/
def hidden (b : Fin 8) (r : Fin 8192) : Fin 1024 → EReal := modulated (A.x b r) A.gain (A.md b 1) (A.md b 0)

/-- The hidden state of the sequence's position `p - 1`; outside the sequence it is a row of zeros. -/
def padded (b : Fin 8) (p : ℕ) : Fin 1024 → EReal :=
  if h : 0 < p ∧ p ≤ 8192 then hidden A b ⟨p - 1, by omega⟩ else fun _ => 0

/-- The value row of a token. -/
def value (b : Fin 8) (r : Fin 8192) (j : Fin 1024) : EReal := proj (hidden A b r) (weight A 5 j)

/-- The convolution's input at the sequence's position `p - 1`. -/
def inputAt (b : Fin 8) (p : ℕ) (j : Fin 1024) : EReal := input (padded A b p) (weight A 1 j) (weight A 2 j)

/-- The input before a token, at it, and after it: nothing outside the sequence. -/
theorem inputAt_before (b : Fin 8) (r : Fin 8192) (j : Fin 1024) :
    inputAt A b r.val j = if h : 0 < r.val then input (hidden A b ⟨r.val - 1, by omega⟩) (weight A 1 j) (weight A 2 j) else 0 := by
  unfold inputAt padded
  by_cases h : 0 < r.val
  · rw [dif_pos h, dif_pos ⟨h, by omega⟩]
  · rw [dif_neg h, dif_neg fun h' => h h'.1, input_zero]
theorem inputAt_here (b : Fin 8) (r : Fin 8192) (j : Fin 1024) :
    inputAt A b (r.val + 1) j = input (hidden A b r) (weight A 1 j) (weight A 2 j) := by
  unfold inputAt padded
  rw [dif_pos ⟨by omega, by omega⟩]
  rfl
theorem inputAt_after (b : Fin 8) (r : Fin 8192) (j : Fin 1024) :
    inputAt A b (r.val + 2) j = if h : r.val + 1 < 8192 then input (hidden A b ⟨r.val + 1, h⟩) (weight A 1 j) (weight A 2 j) else 0 := by
  unfold inputAt padded
  by_cases h : r.val + 1 < 8192
  · rw [dif_pos h, dif_pos ⟨by omega, by omega⟩]
    rfl
  · rw [dif_neg h, dif_neg fun h' => h (by omega), input_zero]

/-- The convolution at a token, from the inputs before it, at it and after it. -/
def conv (b : Fin 8) (r : Fin 8192) (j : Fin 1024) : EReal :=
  taps (fun n => A.cw n j) (A.cb j) (inputAt A b r.val j) (inputAt A b (r.val + 1) j) (inputAt A b (r.val + 2) j)

/-- The gated branch row of a token. -/
def row (b : Fin 8) (r : Fin 8192) (j : Fin 1024) : EReal :=
  gated (hidden A b r) (weight A 0 j) (weight A 3 j) (conv A b r j)

/-- The branch's contribution at a token. -/
def out (b : Fin 8) (r : Fin 8192) (j : Fin 1024) : EReal :=
  merged (hidden A b r) (row A b r) (fun k => A.wm k j) (fun k => A.wo k j)

end Cert.Branch

end
-- ==== Proof.Tile.lean ====
/-
  One grid point of the first call: a tile of 512 tokens with a halo row block on either side, read down to the
  convolution branch's mathematics.
-/
module

public import proofs.«01_k».proof.Proof.Gen.Kernel2Ideal.Skeleton
public import proofs.«01_k».proof.Proof.Branch

@[expose] public section

set_option maxRecDepth 16384

noncomputable section

namespace Cert.Tile

open Idealize.ShloMosaic Idealize.ShloMosaic.TcCoe Idealize.ShloMosaic.Tactic
open Cert.Kernel2Ideal Cert.Kernel2Ideal.Gen

variable
  (n : ℕ) (x0 : Vec Ideal S1x512x1024 .f32) (x1 x2 : Vec Ideal S1x16x1024 .f32) (x3 : Vec Ideal S1x3x1024 .f32)
  (x4 : Vec Ideal S1x1024 .f32) (x5 x6 x7 x8 x10 x12 x17 : Vec Ideal S1024x1024 .bf16) (x13 : Vec Ideal S3x1024 .f32)
  (x14 : Vec Ideal S1x1024 .f32)

/-- A row of the layer's input, normalised and modulated. -/
def modulated (x : Fin 1024 → EReal) : Fin 1024 → EReal :=
  Branch.modulated x (fun k => x4 (ix2 (0 : Fin 1) k)) (fun k => x3 (ix3 (0 : Fin 1) (1 : Fin 3) k))
    (fun k => x3 (ix3 (0 : Fin 1) (0 : Fin 3) k))

/-- The hidden state of a token of the tile. -/
def hidden (t : Fin 512) : Fin 1024 → EReal := modulated x3 x4 fun k => x0 (ix3 (0 : Fin 1) t k)

/-- The hidden states of tile `n` between their halos. The first tile has none before it, the last none after it. -/
def haloed (i : Fin 544) : Fin 1024 → EReal :=
  if h : i.val < 16 then if 0 < n then modulated x3 x4 fun k => x1 (ix3 (0 : Fin 1) ⟨i.val, h⟩ k) else fun _ => 0
  else if h' : i.val - 16 < 512 then hidden x0 x3 x4 ⟨i.val - 16, h'⟩
  else if n < 15 then modulated x3 x4 fun k => x2 (ix3 (0 : Fin 1) ⟨i.val - 16 - 512, by omega⟩ k) else fun _ => 0

/-- The convolution's input at a row of the haloed tile. -/
def input (i : Fin 544) (j : Fin 1024) : EReal :=
  Branch.input (haloed n x0 x1 x2 x3 x4 i) (fun k => x6 (ix2 k j)) (fun k => x7 (ix2 k j))

/-- The gated branch row of a token of the tile. -/
def row (t : Fin 512) (j : Fin 1024) : EReal :=
  Branch.gated (hidden x0 x3 x4 t) (fun k => x5 (ix2 k j)) (fun k => x8 (ix2 k j))
    (Branch.taps (fun m => x13 (ix2 m j)) (x14 (ix2 (0 : Fin 1) j)) (input n x0 x1 x2 x3 x4 x6 x7 ⟨t.val + 15, by omega⟩ j)
      (input n x0 x1 x2 x3 x4 x6 x7 ⟨t.val + 16, by omega⟩ j) (input n x0 x1 x2 x3 x4 x6 x7 ⟨t.val + 17, by omega⟩ j))

/-- The tile's gated rows, as the array the kernel keeps them in. -/
def rows : Vec Ideal S512x1024 .bf16 := fun y => row n x0 x1 x2 x3 x4 x5 x6 x7 x8 x13 x14 (y 0) (y 1)

/-- The hidden states, the values and the branch's contributions the tile writes. -/
def hiddenBlock : Vec Ideal S1x512x1024 .bf16 := fun y => hidden x0 x3 x4 (y 1) (y 2)
def valueBlock : Vec Ideal S1x512x1024 .bf16 := fun y => Branch.proj (hidden x0 x3 x4 (y 1)) fun k => x10 (ix2 k (y 2))
def outBlock : Vec Ideal S1x512x1024 .bf16 := fun y =>
  Branch.merged (hidden x0 x3 x4 (y 1)) (row n x0 x1 x2 x3 x4 x5 x6 x7 x8 x13 x14 (y 1)) (fun k => x12 (ix2 k (y 2)))
    (fun k => x17 (ix2 k (y 2)))

/-- The hidden states, and the haloed ones, as the arrays the kernel holds. -/
def hiddenRows : FVec Ideal S512x1024 .bf16 := fun y => hidden x0 x3 x4 (y 0) (y 1)
def haloedRows : FVec Ideal S544x1024 .bf16 := fun y => haloed n x0 x1 x2 x3 x4 (y 0) (y 1)

theorem hiddenRows_mk (t : Fin 512) (k : Fin 1024) : hiddenRows x0 x3 x4 (ix2 t k) = hidden x0 x3 x4 t k := rfl
theorem haloedRows_mk (i : Fin 544) (k : Fin 1024) :
    haloedRows n x0 x1 x2 x3 x4 (ix2 i k) = haloed n x0 x1 x2 x3 x4 i k := rfl
theorem rows_mk (t : Fin 512) (j : Fin 1024) :
    rows n x0 x1 x2 x3 x4 x5 x6 x7 x8 x13 x14 (ix2 t j) = row n x0 x1 x2 x3 x4 x5 x6 x7 x8 x13 x14 t j := rfl
theorem outBlock_mk (a : Fin 1) (t : Fin 512) (j : Fin 1024) :
    outBlock n x0 x1 x2 x3 x4 x5 x6 x7 x8 x12 x17 x13 x14 (ix3 a t j)
      = Branch.merged (hidden x0 x3 x4 t) (row n x0 x1 x2 x3 x4 x5 x6 x7 x8 x13 x14 t) (fun k => x12 (ix2 k j))
          (fun k => x17 (ix2 k j)) := rfl

section
variable (v0 : BitVec 32) (v4 v7 : Vec Ideal S1x1x1024 .f32) (v6 : Vec Ideal S1x1024 .f32)
  (v12 : Vec Ideal S1x512x1024 .f32) (v34 v53 : Vec Ideal S1x16x1024 .f32)
  (h4 : ∀ k : Fin 1024, v4 (ix3 (0 : Fin 1) (0 : Fin 1) k) = x3 (ix3 (0 : Fin 1) (0 : Fin 3) k))
  (h6 : ∀ k : Fin 1024, v6 (ix2 (0 : Fin 1) k) = x4 (ix2 (0 : Fin 1) k))
  (h7 : ∀ k : Fin 1024, v7 (ix3 (0 : Fin 1) (0 : Fin 1) k) = x3 (ix3 (0 : Fin 1) (1 : Fin 3) k))
  (h12 : ∀ (t : Fin 512) (k : Fin 1024), v12 (ix3 (0 : Fin 1) t k) = x0 (ix3 (0 : Fin 1) t k))
  (h34 : ∀ (t : Fin 16) (k : Fin 1024), v34 (ix3 (0 : Fin 1) t k) = x1 (ix3 (0 : Fin 1) t k))
  (h53 : ∀ (t : Fin 16) (k : Fin 1024), v53 (ix3 (0 : Fin 1) t k) = x2 (ix3 (0 : Fin 1) t k))
include h4 h6 h7 h12

/-- The kernel computes the hidden states, from what it loads. -/
theorem hidden_eq : k0_pay5 v4 v6 v7 v12 = hiddenRows x0 x3 x4 := by
  funext y
  idx_vars y
  unfold k0_pay5 k0_pay4 k0_pay3
  pointwise
  simp only [h4, h6, h7, h12]
  rfl

include h34 h53

/-- The kernel computes the haloed ones, where its tests on the tile's number say what they should. -/
theorem haloed_eq (hf : Scalar.cmpi .sgt v0 0#32 = 1 ↔ 0 < n) (hl : Scalar.cmpi .slt v0 15#32 = 1 ↔ n < 15) :
    k0_pay8 v0 (k0_pay3 v4) (k0_pay4 v6 v7) (k0_pay5 v4 v6 v7 v12) k0_pay7 0#32 v34 v53
      = haloedRows n x0 x1 x2 x3 x4 := by
  rw [hidden_eq x0 x3 x4 v4 v7 v6 v12 h4 h6 h7 h12]
  funext y
  idx_vars y
  unfold k0_pay8 k0_pay7 k0_pay4 k0_pay3
  pointwise
  simp only [Scalar.select, hf, hl, h4, h6, h7, h34, h53]
  show _ = haloed n x0 x1 x2 x3 x4 y0 y1
  simp only [haloed]
  split_ifs <;> rfl

end

/-- The kernel's tests on its tile number, counted down from the last. -/
theorem first_tile (a : Fin 16) : Scalar.cmpi .sgt (Scalar.subi 15#32 (BitVec.ofNat 32 a.val)) 0#32 = 1 ↔ 0 < 15 - a.val := by
  revert a; decide
theorem last_tile (a : Fin 16) : Scalar.cmpi .slt (Scalar.subi 15#32 (BitVec.ofNat 32 a.val)) 15#32 = 1 ↔ 15 - a.val < 15 := by
  revert a; decide

end Cert.Tile

end
-- ==== Proof.TileBody.lean ====
/-
  The first call's body at one grid point: the blocks of hidden states, of values and of the convolution branch's
  contributions it writes are those of Tile.lean. The gated rows are kept in a scratch, four slabs of columns, before
  they are projected; the scratch is read back as one array. A batch's first point and any other write the same blocks.
-/
module

public import proofs.«01_k».proof.Proof.Gen.Kernel2Ideal.Frame
public import proofs.«01_k».proof.Proof.Tile
public import Idealize.ShloMosaic.Lib.Pipeline.ReadBack

@[expose] public section

set_option maxRecDepth 16384

noncomputable section

namespace Cert.TileBody

open Idealize.ShloMosaic Idealize.ShloMosaic.TcCoe Idealize.ShloMosaic.Tactic
open Cert.Kernel2Ideal Cert.Kernel2Ideal.Gen

/-! Where the body's rectangles lie. -/

/-- A whole block. -/
theorem emb_block (inb) (a : Fin 1) (b : Fin 512) (d : Fin 1024) :
    (Rect.unit (s := S1x512x1024) ![0, 0, 0] S1x512x1024.size inb).emb (ix3 a b d) = ix3 (0 : Fin 1) b d := by
  funext k
  apply Fin.ext
  match k with
  | 0 => show 0 + 1 * a.val = 0; omega
  | 1 => show 0 + 1 * b.val = b; omega
  | 2 => show 0 + 1 * d.val = d; omega

/-- A slab of columns of the gated rows. -/
theorem emb_slab (o : ℕ) (ho : o + 256 ≤ 1024) (inb) (a : Fin 512) (b : Fin 256) :
    (Rect.unit (s := S512x1024) ![0, o] S512x256.size inb).emb (ix2 a b) = ix2 a ⟨o + b.val, by omega⟩ := by
  funext k
  apply Fin.ext
  match k with
  | 0 => show 0 + 1 * a.val = a; omega
  | 1 => show o + 1 * b.val = o + b; omega

/-- A half of the columns of the contributions. -/
theorem emb_half (o : ℕ) (ho : o + 512 ≤ 1024) (inb) (a : Fin 1) (b : Fin 512) (d : Fin 512) :
    (Rect.unit (s := S1x512x1024) ![0, 0, o] S1x512x512.size inb).emb (ix3 a b d)
      = ix3 (0 : Fin 1) b ⟨o + d.val, by omega⟩ := by
  funext k
  apply Fin.ext
  match k with
  | 0 => show 0 + 1 * a.val = 0; omega
  | 1 => show 0 + 1 * b.val = b; omega
  | 2 => show o + 1 * d.val = o + d; omega

/-- A load of stored pieces reads the array the pieces make up. -/
theorem readCov_ld {κ : Kind} {sp : Space} {s : Shape} {e : EltTy} (v : View sig κ sp s e)
    (L : List (View.Piece (Elt Ideal) s e)) (r : Rect s) :
    v.readCov L r.toLoadRect = View.ld (View.canon L) r :=
  View.readCov_eq_canon' v L r.toLoadRect

section
variable
  (c : Dev nD) (i : grid0.Coords) (arg2 : Memref sig .tc .vmem S1x512x1024 .f32) (harg2 : arg2.IsWhole) (arg3 :
  Memref sig .tc .vmem S1x16x1024 .f32) (harg3 : arg3.IsWhole) (arg4 : Memref sig .tc .vmem S1x16x1024 .f32) (harg4
  : arg4.IsWhole) (arg5 : Memref sig .tc .vmem S1x3x1024 .f32) (harg5 : arg5.IsWhole) (arg6 : Memref sig .tc .vmem
  S1x1024 .f32) (harg6 : arg6.IsWhole) (arg7 : Memref sig .tc .vmem S1024x1024 .bf16) (harg7 : arg7.IsWhole) (arg8 :
  Memref sig .tc .vmem S1024x1024 .bf16) (harg8 : arg8.IsWhole) (arg9 : Memref sig .tc .vmem S1024x1024 .bf16)
  (harg9 : arg9.IsWhole) (arg10 : Memref sig .tc .vmem S1024x1024 .bf16) (harg10 : arg10.IsWhole) (arg11 : Memref
  sig .tc .vmem S1024x1024 .bf16) (harg11 : arg11.IsWhole) (arg12 : Memref sig .tc .vmem S1024x1024 .bf16) (harg12 :
  arg12.IsWhole) (arg13 : Memref sig .tc .vmem S1024x128 .bf16) (harg13 : arg13.IsWhole) (arg14 : Memref sig .tc
  .vmem S1024x1024 .bf16) (harg14 : arg14.IsWhole) (arg15 : Memref sig .tc .vmem S3x1024 .f32) (harg15 :
  arg15.IsWhole) (arg16 : Memref sig .tc .vmem S1x1024 .f32) (harg16 : arg16.IsWhole) (arg17 : Memref sig .tc .vmem
  S128x1024 .bf16) (harg17 : arg17.IsWhole) (arg18 : Memref sig .tc .vmem S1x1024 .f32) (harg18 : arg18.IsWhole)
  (arg19 : Memref sig .tc .vmem S1024x1024 .bf16) (harg19 : arg19.IsWhole) (arg20 : Memref sig .tc .vmem S1x512x1024
  .bf16) (harg20 : arg20.IsWhole) (arg21 : Memref sig .tc .vmem S1x4x512x128 .bf16) (harg21 : arg21.IsWhole) (arg22
  : Memref sig .tc .vmem S1x4x512x128 .bf16) (harg22 : arg22.IsWhole) (arg23 : Memref sig .tc .vmem S1x512x1024
  .bf16) (harg23 : arg23.IsWhole) (arg24 : Memref sig .tc .vmem S1x512x1024 .bf16) (harg24 : arg24.IsWhole) (arg25 :
  Memref sig .tc .vmem S1x512x1024 .bf16) (harg25 : arg25.IsWhole) (arg26 : Memref sig .tc .vmem S1x4x512x256 .bf16)
  (harg26 : arg26.IsWhole) (arg27 : Memref sig .tc .vmem S1x4x1024x128 .bf16) (harg27 : arg27.IsWhole) (arg28 :
  Memref sig .tc .vmem S1x4x8x512 .f32) (harg28 : arg28.IsWhole) (arg29 : Memref sig .tc .vmem S4x256x128 .f32)
  (harg29 : arg29.IsWhole) (arg30 : Memref sig .tc .vmem S512x1024 .bf16) (harg30 : arg30.IsWhole)
  (x0 : Vec Ideal S1x512x1024 .f32) (x1 x2 : Vec Ideal S1x16x1024 .f32) (x3 : Vec Ideal S1x3x1024 .f32)
  (x4 : Vec Ideal S1x1024 .f32) (x5 x6 x7 x8 x9 x10 : Vec Ideal S1024x1024 .bf16) (x11 : Vec Ideal S1024x128 .bf16)
  (x12 : Vec Ideal S1024x1024 .bf16) (x13 : Vec Ideal S3x1024 .f32) (x14 : Vec Ideal S1x1024 .f32)
  (x15 : Vec Ideal S128x1024 .bf16) (x16 : Vec Ideal S1x1024 .f32) (x17 : Vec Ideal S1024x1024 .bf16)

/-- The hidden states. -/
theorem hidden_block :
    (∀ h : cond0_0 i,
      out0_A_22 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17
        = Tile.hiddenBlock x0 x3 x4)
    ∧ ∀ (h : ¬cond0_0 i) (xs : Vec Ideal S4x256x128 .f32),
      out0_B_22 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17 xs
        = Tile.hiddenBlock x0 x3 x4 := by
  constructor
  all_goals
    intros
    first
      | (unfold out0_A_22; rw [View.read_writes_junk_eq_canon]; funext y
         refine View.canon_apply_of_pieces _ _ (View.PiecesOf.mem ?_) y (by apply cover0_A_22); unfold kernelRun0_A)
      | (unfold out0_B_22; rw [View.read_writes_junk_eq_canon]; funext y
         refine View.canon_apply_of_pieces _ _ (View.PiecesOf.mem ?_) y (by apply cover0_B_22); unfold kernelRun0_B)
    dsimp only
    sl_unfold_words
    simp only [View.readAt_eq_ld, readCov_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    have eh := Tile.hidden_eq x0 x3 x4
    unfold k0_pay5 k0_pay4 k0_pay3 at eh
    dsimp only at eh
    rw [eh _ _ _ _ (fun k => by pointwise) (fun k => by pointwise) (fun k => by pointwise) (fun t k => by pointwise)]
    refine ⟨?_, trivial⟩
    intro z
    idx_vars z
    rw [emb_block]
    pointwise
    rfl

/-- The values. -/
theorem value_block :
    (∀ h : cond0_0 i,
      out0_A_21 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17
        = Tile.valueBlock x0 x3 x4 x10)
    ∧ ∀ (h : ¬cond0_0 i) (xs : Vec Ideal S4x256x128 .f32),
      out0_B_21 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17 xs
        = Tile.valueBlock x0 x3 x4 x10 := by
  constructor
  all_goals
    intros
    first
      | (unfold out0_A_21; rw [View.read_writes_junk_eq_canon]; funext y
         refine View.canon_apply_of_pieces _ _ (View.PiecesOf.mem ?_) y (by apply cover0_A_21); unfold kernelRun0_A)
      | (unfold out0_B_21; rw [View.read_writes_junk_eq_canon]; funext y
         refine View.canon_apply_of_pieces _ _ (View.PiecesOf.mem ?_) y (by apply cover0_B_21); unfold kernelRun0_B)
    dsimp only
    sl_unfold_words
    simp only [View.readAt_eq_ld, readCov_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    have eh := Tile.hidden_eq x0 x3 x4
    unfold k0_pay5 k0_pay4 k0_pay3 at eh
    dsimp only at eh
    rw [eh _ _ _ _ (fun k => by pointwise) (fun k => by pointwise) (fun k => by pointwise) (fun t k => by pointwise)]
    refine ⟨?_, trivial⟩
    intro z
    idx_vars z
    rw [emb_block]
    unfold_payloads
    pointwise
    rfl

set_option maxHeartbeats 1000000 in
/-- The branch's contributions. -/
theorem out_block :
    (∀ h : cond0_0 i,
      out0_A_23 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17
        = Tile.outBlock (15 - (i 1).val) x0 x1 x2 x3 x4 x5 x6 x7 x8 x12 x17 x13 x14)
    ∧ ∀ (h : ¬cond0_0 i) (xs : Vec Ideal S4x256x128 .f32),
      out0_B_23 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17 xs
        = Tile.outBlock (15 - (i 1).val) x0 x1 x2 x3 x4 x5 x6 x7 x8 x12 x17 x13 x14 := by
  constructor
  all_goals
    intros
    first
      | (unfold out0_A_23; rw [View.read_writes_junk_eq_canon]; funext y
         refine View.canon_apply_of_pieces _ _ (View.PiecesOf.mem ?_) y (by apply cover0_A_23); unfold kernelRun0_A)
      | (unfold out0_B_23; rw [View.read_writes_junk_eq_canon]; funext y
         refine View.canon_apply_of_pieces _ _ (View.PiecesOf.mem ?_) y (by apply cover0_B_23); unfold kernelRun0_B)
    dsimp only
    sl_unfold_words
    simp only [View.readAt_eq_ld, readCov_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread]
    have ea := Tile.haloed_eq (15 - (i 1).val) x0 x1 x2 x3 x4
    unfold k0_pay8 k0_pay7 k0_pay5 k0_pay4 k0_pay3 at ea
    dsimp only at ea
    rw [ea _ _ _ _ _ _ _ (fun k => by pointwise [harg5.read_unread]) (fun k => by pointwise [harg6.read_unread])
      (fun k => by pointwise [harg5.read_unread]) (fun t k => by pointwise [harg2.read_unread])
      (fun t k => by pointwise [harg3.read_unread]) (fun t k => by pointwise [harg4.read_unread])
      (Tile.first_tile _) (Tile.last_tile _)]
    have eh := Tile.hidden_eq x0 x3 x4
    unfold k0_pay5 k0_pay4 k0_pay3 at eh
    dsimp only at eh
    rw [eh _ _ _ _ (fun k => by pointwise) (fun k => by pointwise) (fun k => by pointwise) (fun t k => by pointwise)]
    have key : ∀ L, View.PiecesOf (Tile.rows (15 - (i 1).val) x0 x1 x2 x3 x4 x5 x6 x7 x8 x13 x14) L →
        (∀ y, ∃ p ∈ L, y ∈ p.1.set) → View.canon L = Tile.rows (15 - (i 1).val) x0 x1 x2 x3 x4 x5 x6 x7 x8 x13 x14 :=
      fun L hL hc => funext fun y => View.canon_apply_of_pieces _ _ (View.PiecesOf.mem hL) y (hc y)
    rw [key _ ?_ (View.cover_of_tiledL _ S512x256.size (by sl_kernel_rfl))]
    rotate_left
    · refine ⟨?_, ?_, ?_, ?_, trivial⟩
      all_goals
        intro z
        idx_vars z
        rw [emb_slab _ (by decide)]
        unfold_payloads
        pointwise
        have e1 : (z0.val + 16 + 544 - 1) % 544 = z0.val + 15 := by omega
        have e2 : (z0.val + 16 + 544 - 543) % 544 = z0.val + 17 := by omega
        have e3 : 16 + z0.val = z0.val + 16 := by omega
        simp only [Scalar.half_bits, e3, e1, e2, Tile.hiddenRows_mk, Tile.haloedRows_mk, Tile.rows_mk, Tile.row,
          Tile.input, Branch.gated, Branch.taps, Branch.input, Branch.proj, Layer.gate, Nat.zero_add]
    · refine ⟨?_, ?_, trivial⟩
      all_goals
        intro z
        idx_vars z
        rw [emb_half _ (by decide)]
        unfold_payloads
        pointwise
        simp only [Scalar.half_bits, Scalar.sigmoid_eq, Tile.hiddenRows_mk, Tile.outBlock_mk, Branch.merged, Branch.proj,
          Layer.logistic, Tile.rows_mk, Nat.zero_add]

end

end Cert.TileBody

end
-- ==== Proof.TileSweep.lean ====
/-
  The first call's grid: point `16 b + i` takes tile `15 - i` of 512 tokens of batch `b`, with the sixteen rows before the
  tile and the sixteen after it. Its blocks are parts of the call's arrays, and what it writes is its part of the results.
-/
module

public import proofs.«01_k».proof.Proof.Gen.Kernel2Ideal.Value
public import proofs.«01_k».proof.Proof.TileBody

@[expose] public section

set_option maxRecDepth 16384

noncomputable section

namespace Cert.TileSweep

open Idealize.ShloMosaic Idealize.ShloMosaic.TcCoe Idealize.ShloMosaic.Tactic
open Cert.Kernel2Ideal Cert.Kernel2Ideal.Gen Cert.Kernel2Ideal.Value
open Cert.Branch (Arrays col)

/-! One tile over its part of the arrays. -/

/-- Row `r` of tile `q` among a batch's tokens. -/
def row (q : Fin 16) (r : Fin 512) : Fin 8192 := ⟨512 * q.val + r.val, by omega⟩

variable {x0 : Vec Ideal S1x512x1024 .f32} {x1 x2 : Vec Ideal S1x16x1024 .f32} {x3 : Vec Ideal S1x3x1024 .f32}
  {x4 : Vec Ideal S1x1024 .f32} {x5 x6 x7 x8 x10 x12 x17 : Vec Ideal S1024x1024 .bf16} {x13 : Vec Ideal S3x1024 .f32}
  {x14 : Vec Ideal S1x1024 .f32}

/-- The blocks of batch `b`'s tile `q`. Of a halo only the row next to the tile counts. -/
structure Part (A : Arrays) (b : Fin 8) (q : Fin 16) (x0 : Vec Ideal S1x512x1024 .f32) (x1 x2 : Vec Ideal S1x16x1024 .f32)
    (x3 : Vec Ideal S1x3x1024 .f32) (x4 : Vec Ideal S1x1024 .f32) (x5 x6 x7 x8 x10 x12 x17 : Vec Ideal S1024x1024 .bf16)
    (x13 : Vec Ideal S3x1024 .f32) (x14 : Vec Ideal S1x1024 .f32) : Prop where
  x : ∀ r k, x0 (ix3 (0 : Fin 1) r k) = A.x b (row q r) k
  before : 0 < q.val → ∀ k, x1 (ix3 (0 : Fin 1) (15 : Fin 16) k) = A.x b ⟨512 * q.val - 1, by omega⟩ k
  after : ∀ (h : q.val < 15) k, x2 (ix3 (0 : Fin 1) (0 : Fin 16) k) = A.x b ⟨512 * q.val + 512, by omega⟩ k
  md : ∀ n k, x3 (ix3 (0 : Fin 1) n k) = A.md b n k
  gain : ∀ k, x4 (ix2 (0 : Fin 1) k) = A.gain k
  w0 : ∀ k j, x5 (ix2 k j) = A.w k (col 0 j)
  w1 : ∀ k j, x6 (ix2 k j) = A.w k (col 1 j)
  w2 : ∀ k j, x7 (ix2 k j) = A.w k (col 2 j)
  w3 : ∀ k j, x8 (ix2 k j) = A.w k (col 3 j)
  w5 : ∀ k j, x10 (ix2 k j) = A.w k (col 5 j)
  wm : ∀ k j, x12 (ix2 k j) = A.wm k j
  cw : ∀ n j, x13 (ix2 n j) = A.cw n j
  cb : ∀ j, x14 (ix2 (0 : Fin 1) j) = A.cb j
  wo : ∀ k j, x17 (ix2 k j) = A.wo k j

variable {A : Arrays} {b : Fin 8} {q : Fin 16} (P : Part A b q x0 x1 x2 x3 x4 x5 x6 x7 x8 x10 x12 x17 x13 x14)

include P

/-- A row of the input gives the hidden state of the token it is the row of. -/
theorem modulated_eq {x : Fin 1024 → EReal} {r : Fin 8192} (h : ∀ k, x k = A.x b r k) :
    Tile.modulated x3 x4 x = Branch.hidden A b r := by
  unfold Tile.modulated Branch.hidden
  simp only [funext h, P.gain, P.md]

theorem hidden_eq (r : Fin 512) : Tile.hidden x0 x3 x4 r = Branch.hidden A b (row q r) := modulated_eq P (P.x r)

/-- The haloed tile is the padded sequence around it. -/
theorem haloed_eq (i : Fin 544) (h : 15 ≤ i.val) (h' : i.val ≤ 528) :
    Tile.haloed q.val x0 x1 x2 x3 x4 i = Branch.padded A b (512 * q.val + i.val - 15) := by
  unfold Tile.haloed
  by_cases ha : i.val < 16
  · rw [dif_pos ha]
    have e : i.val = 15 := by omega
    by_cases hq : 0 < q.val
    · rw [if_pos hq]
      have f : (⟨i.val, ha⟩ : Fin 16) = 15 := Fin.ext e
      simp only [f]
      rw [modulated_eq P (P.before hq), Branch.padded, dif_pos ⟨by omega, by omega⟩]
      congr 1
      apply Fin.ext
      show 512 * q.val - 1 = 512 * q.val + i.val - 15 - 1
      omega
    · rw [if_neg hq, Branch.padded, dif_neg (by omega)]
  · rw [dif_neg ha]
    by_cases hb : i.val - 16 < 512
    · rw [dif_pos hb, hidden_eq P, Branch.padded, dif_pos ⟨by omega, by omega⟩]
      congr 1
      apply Fin.ext
      show 512 * q.val + (i.val - 16) = 512 * q.val + i.val - 15 - 1
      omega
    · rw [dif_neg hb]
      by_cases hq : q.val < 15
      · rw [if_pos hq]
        have f : (⟨i.val - 16 - 512, by omega⟩ : Fin 16) = 0 := Fin.ext (by show i.val - 16 - 512 = 0; omega)
        simp only [f]
        rw [modulated_eq P (P.after hq), Branch.padded, dif_pos ⟨by omega, by omega⟩]
        congr 1
        apply Fin.ext
        show 512 * q.val + 512 = 512 * q.val + i.val - 15 - 1
        omega
      · rw [if_neg hq, Branch.padded, dif_neg (by omega)]

/-- So the convolution's input is the sequence's. -/
theorem input_eq (r : Fin 512) (o : ℕ) (ho : o < 3) (j : Fin 1024) :
    Tile.input q.val x0 x1 x2 x3 x4 x6 x7 ⟨r.val + (15 + o), by omega⟩ j = Branch.inputAt A b ((row q r).val + o) j := by
  unfold Tile.input Branch.inputAt
  rw [haloed_eq P _ (by show 15 ≤ r.val + (15 + o); omega) (by show r.val + (15 + o) ≤ 528; omega)]
  simp only [P.w1, P.w2]
  rw [show 512 * q.val + (r.val + (15 + o)) - 15 = (row q r).val + o by show _ = 512 * q.val + r.val + o; omega]
  rfl

/-- So is the gated row. -/
theorem row_eq (r : Fin 512) :
    Tile.row q.val x0 x1 x2 x3 x4 x5 x6 x7 x8 x13 x14 r = Branch.row A b (row q r) := by
  funext j
  unfold Tile.row Branch.row Branch.conv
  rw [input_eq P r 0 (by omega), input_eq P r 1 (by omega), input_eq P r 2 (by omega), hidden_eq P]
  simp only [P.w0, P.w3, P.cw, P.cb]
  rfl

theorem value_eq (r : Fin 512) (j : Fin 1024) :
    Branch.proj (Tile.hidden x0 x3 x4 r) (fun k => x10 (ix2 k j)) = Branch.value A b (row q r) j := by
  rw [hidden_eq P]
  simp only [P.w5]
  rfl

theorem out_eq (r : Fin 512) (j : Fin 1024) :
    Branch.merged (Tile.hidden x0 x3 x4 r) (Tile.row q.val x0 x1 x2 x3 x4 x5 x6 x7 x8 x13 x14 r) (fun k => x12 (ix2 k j))
        (fun k => x17 (ix2 k j)) = Branch.out A b (row q r) j := by
  rw [hidden_eq P, row_eq P]
  simp only [P.wm, P.wo]
  rfl

omit P

/-! The blocks of a point are its parts of the arrays. -/

/-- Point `t`'s batch and tile. -/
def batch (t : Fin cfg0.N) : Fin 8 := ⟨t.val / 16, by have := t.isLt; have : cfg0.N = 128 := N_0; omega⟩
def tile (t : Fin cfg0.N) : Fin 16 := ⟨15 - t.val % 16, by omega⟩

/-- Where each window's block lies: decided over the grid's points. -/
theorem index_0 : ∀ t : Fin cfg0.N, win0_0.index t 0 = t.val / 16 ∧ win0_0.index t 1 = 15 - t.val % 16 ∧ win0_0.index t 2 = 0 :=
  (by decide +kernel : ∀ t : Fin grid0.N, win0_0.index t 0 = t.val / 16 ∧ win0_0.index t 1 = 15 - t.val % 16 ∧ win0_0.index t 2 = 0)
theorem index_1 : ∀ t : Fin cfg0.N, win0_1.index t 0 = t.val / 16 ∧ win0_1.index t 1 = 32 * (15 - t.val % 16) - 1 ∧ win0_1.index t 2 = 0 :=
  (by decide +kernel : ∀ t : Fin grid0.N, win0_1.index t 0 = t.val / 16 ∧ win0_1.index t 1 = 32 * (15 - t.val % 16) - 1 ∧ win0_1.index t 2 = 0)
theorem index_2 : ∀ t : Fin cfg0.N, win0_2.index t 0 = t.val / 16 ∧ win0_2.index t 1 = min (32 * (16 - t.val % 16)) 511 ∧ win0_2.index t 2 = 0 :=
  (by decide +kernel : ∀ t : Fin grid0.N, win0_2.index t 0 = t.val / 16 ∧ win0_2.index t 1 = min (32 * (16 - t.val % 16)) 511 ∧ win0_2.index t 2 = 0)
theorem index_3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem index_4 : ∀ t : Fin cfg0.N, win0_4.index t 0 = 0 ∧ win0_4.index t 1 = 0 :=
  (by decide +kernel : ∀ t : Fin grid0.N, win0_4.index t 0 = 0 ∧ win0_4.index t 1 = 0)
theorem index_5 : ∀ t : Fin cfg0.N, win0_5.index t 0 = 0 ∧ win0_5.index t 1 = 0 :=
  (by decide +kernel : ∀ t : Fin grid0.N, win0_5.index t 0 = 0 ∧ win0_5.index t 1 = 0)
theorem index_6 : ∀ t : Fin cfg0.N, win0_6.index t 0 = 0 ∧ win0_6.index t 1 = 1 :=
  (by decide +kernel : ∀ t : Fin grid0.N, win0_6.index t 0 = 0 ∧ win0_6.index t 1 = 1)
theorem index_7 : ∀ t : Fin cfg0.N, win0_7.index t 0 = 0 ∧ win0_7.index t 1 = 2 :=
  (by decide +kernel : ∀ t : Fin grid0.N, win0_7.index t 0 = 0 ∧ win0_7.index t 1 = 2)
theorem index_8 : ∀ t : Fin cfg0.N, win0_8.index t 0 = 0 ∧ win0_8.index t 1 = 3 :=
  (by decide +kernel : ∀ t : Fin grid0.N, win0_8.index t 0 = 0 ∧ win0_8.index t 1 = 3)
theorem index_10 : ∀ t : Fin cfg0.N, win0_10.index t 0 = 0 ∧ win0_10.index t 1 = 5 :=
  (by decide +kernel : ∀ t : Fin grid0.N, win0_10.index t 0 = 0 ∧ win0_10.index t 1 = 5)
theorem index_12 : ∀ t : Fin cfg0.N, win0_12.index t 0 = 0 ∧ win0_12.index t 1 = 0 :=
  (by decide +kernel : ∀ t : Fin grid0.N, win0_12.index t 0 = 0 ∧ win0_12.index t 1 = 0)
theorem index_13 : ∀ t : Fin cfg0.N, win0_13.index t 0 = 0 ∧ win0_13.index t 1 = 0 :=
  (by decide +kernel : ∀ t : Fin grid0.N, win0_13.index t 0 = 0 ∧ win0_13.index t 1 = 0)
theorem index_14 : ∀ t : Fin cfg0.N, win0_14.index t 0 = 0 ∧ win0_14.index t 1 = 0 :=
  (by decide +kernel : ∀ t : Fin grid0.N, win0_14.index t 0 = 0 ∧ win0_14.index t 1 = 0)
theorem index_17 : ∀ t : Fin cfg0.N, win0_17.index t 0 = 0 ∧ win0_17.index t 1 = 0 :=
  (by decide +kernel : ∀ t : Fin grid0.N, win0_17.index t 0 = 0 ∧ win0_17.index t 1 = 0)
theorem index_21 : ∀ t : Fin cfg0.N, win0_21.index t 0 = t.val / 16 ∧ win0_21.index t 1 = 15 - t.val % 16 ∧ win0_21.index t 2 = 0 :=
  (by decide +kernel : ∀ t : Fin grid0.N, win0_21.index t 0 = t.val / 16 ∧ win0_21.index t 1 = 15 - t.val % 16 ∧ win0_21.index t 2 = 0)
theorem index_22 : ∀ t : Fin cfg0.N, win0_22.index t 0 = t.val / 16 ∧ win0_22.index t 1 = 15 - t.val % 16 ∧ win0_22.index t 2 = 0 :=
  (by decide +kernel : ∀ t : Fin grid0.N, win0_22.index t 0 = t.val / 16 ∧ win0_22.index t 1 = 15 - t.val % 16 ∧ win0_22.index t 2 = 0)
theorem index_23 : ∀ t : Fin cfg0.N, win0_23.index t 0 = t.val / 16 ∧ win0_23.index t 1 = 15 - t.val % 16 ∧ win0_23.index t 2 = 0 :=
  (by decide +kernel : ∀ t : Fin grid0.N, win0_23.index t 0 = t.val / 16 ∧ win0_23.index t 1 = 15 - t.val % 16 ∧ win0_23.index t 2 = 0)

/-- An index of a rank-3 array, and of a rank-2 one, by its coordinates. -/
theorem ix3_of {a b c : ℕ} {y : Shape.Idx ⟨3, ![a, b, c]⟩} {i : Fin a} {j : Fin b} {k : Fin c} (h0 : (y 0).val = i.val)
    (h1 : (y 1).val = j.val) (h2 : (y 2).val = k.val) : y = ix3 i j k := by
  funext d
  apply Fin.ext
  match d with
  | ⟨0, _⟩ => exact h0
  | ⟨1, _⟩ => exact h1
  | ⟨2, _⟩ => exact h2
theorem ix2_of {a b : ℕ} {y : Shape.Idx ⟨2, ![a, b]⟩} {i : Fin a} {j : Fin b} (h0 : (y 0).val = i.val)
    (h1 : (y 1).val = j.val) : y = ix2 i j := by
  funext d
  apply Fin.ext
  match d with
  | ⟨0, _⟩ => exact h0
  | ⟨1, _⟩ => exact h1

variable (m : (ℓ : Loc nD τ sig) → Buf (Elt Ideal) ℓ) (c : Dev nD) (t : Fin cfg0.N)

/-- The call's arrays, as the run finds them. -/
def arrays : Arrays where
  x := fun i j k => m ((c : Thread nD τ).loc main_arg0) (ix3 i j k)
  md := fun i j k => m ((c : Thread nD τ).loc main_arg1) (ix3 i j k)
  gain := fun j => m ((c : Thread nD τ).loc main_arg2) (ix2 (0 : Fin 1) j)
  w := fun i j => m ((c : Thread nD τ).loc main_arg3) (ix2 i j)
  wm := fun i j => m ((c : Thread nD τ).loc main_arg5) (ix2 i j)
  cw := fun i j => m ((c : Thread nD τ).loc main_arg6) (ix2 i j)
  cb := fun j => m ((c : Thread nD τ).loc main_arg7) (ix2 (0 : Fin 1) j)
  wo := fun i j => m ((c : Thread nD τ).loc main_arg10) (ix2 i j)

/-- Each window's block, read from its array. -/
theorem iblk_0 (r : Fin 512) (k : Fin 1024) :
    (iblk m c 0 t : Vec Ideal S1x512x1024 .f32) (ix3 (0 : Fin 1) r k) = (arrays m c).x (batch t) (row (tile t) r) k := by
  obtain ⟨e0, e1, e2⟩ := index_0 t
  unfold iblk
  rw [View.read_apply]
  exact congrArg (m ((c : Thread nD τ).loc main_arg0)) (ix3_of
    (by show win0_0.index t 0 * 1 + 1 * 0 = t.val / 16; omega)
    (by show win0_0.index t 1 * 512 + 1 * r.val = 512 * (15 - t.val % 16) + r.val; omega)
    (by show win0_0.index t 2 * 1024 + 1 * k.val = k.val; omega))
theorem iblk_1 (h : 0 < (tile t).val) (k : Fin 1024) :
    (iblk m c 1 t : Vec Ideal S1x16x1024 .f32) (ix3 (0 : Fin 1) (15 : Fin 16) k) = (arrays m c).x (batch t) ⟨512 * (tile t).val - 1, by omega⟩ k := by
  obtain ⟨e0, e1, e2⟩ := index_1 t
  have ht : (tile t).val = 15 - t.val % 16 := rfl
  unfold iblk
  rw [View.read_apply]
  exact congrArg (m ((c : Thread nD τ).loc main_arg0)) (ix3_of
    (by show win0_1.index t 0 * 1 + 1 * 0 = t.val / 16; omega)
    (by show win0_1.index t 1 * 16 + 1 * 15 = 512 * (15 - t.val % 16) - 1; omega)
    (by show win0_1.index t 2 * 1024 + 1 * k.val = k.val; omega))
theorem iblk_2 (h : (tile t).val < 15) (k : Fin 1024) :
    (iblk m c 2 t : Vec Ideal S1x16x1024 .f32) (ix3 (0 : Fin 1) (0 : Fin 16) k) = (arrays m c).x (batch t) ⟨512 * (tile t).val + 512, by omega⟩ k := by
  obtain ⟨e0, e1, e2⟩ := index_2 t
  have ht : (tile t).val = 15 - t.val % 16 := rfl
  unfold iblk
  rw [View.read_apply]
  exact congrArg (m ((c : Thread nD τ).loc main_arg0)) (ix3_of
    (by show win0_2.index t 0 * 1 + 1 * 0 = t.val / 16; omega)
    (by show win0_2.index t 1 * 16 + 1 * 0 = 512 * (15 - t.val % 16) + 512; omega)
    (by show win0_2.index t 2 * 1024 + 1 * k.val = k.val; omega))
theorem iblk_3 (n : Fin 3) (k : Fin 1024) :
    (iblk m c 3 t : Vec Ideal S1x3x1024 .f32) (ix3 (0 : Fin 1) n k) = (arrays m c).md (batch t) n k := by
  obtain ⟨e0, e1, e2⟩ := index_3 t
  unfold iblk
  rw [View.read_apply]
  exact congrArg (m ((c : Thread nD τ).loc main_arg1)) (ix3_of
    (by show win0_3.index t 0 * 1 + 1 * 0 = t.val / 16; omega)
    (by show win0_3.index t 1 * 3 + 1 * n.val = n.val; omega)
    (by show win0_3.index t 2 * 1024 + 1 * k.val = k.val; omega))
theorem iblk_4 (k : Fin 1024) :
    (iblk m c 4 t : Vec Ideal S1x1024 .f32) (ix2 (0 : Fin 1) k) = (arrays m c).gain k := by
  obtain ⟨e0, e1⟩ := index_4 t
  unfold iblk
  rw [View.read_apply]
  exact congrArg (m ((c : Thread nD τ).loc main_arg2)) (ix2_of
    (by show win0_4.index t 0 * 1 + 1 * 0 = 0; omega)
    (by show win0_4.index t 1 * 1024 + 1 * k.val = k.val; omega))
theorem iblk_5 (k j : Fin 1024) :
    (X0_5 m c t : Vec Ideal S1024x1024 .bf16) (ix2 k j) = (arrays m c).w k (col 0 j) := by
  obtain ⟨e0, e1⟩ := index_5 t
  unfold X0_5 Pipeline.Window.fill
  rw [dif_pos (moved0_5 t _)]
  unfold iblk
  rw [View.read_apply]
  exact congrArg (m ((c : Thread nD τ).loc main_arg3)) (ix2_of
    (by show win0_5.index t 0 * 1024 + 1 * k.val = k.val; omega)
    (by show win0_5.index t 1 * 1024 + 1 * j.val = 1024 * 0 + j.val; omega))
theorem iblk_6 (k j : Fin 1024) :
    (X0_6 m c t : Vec Ideal S1024x1024 .bf16) (ix2 k j) = (arrays m c).w k (col 1 j) := by
  obtain ⟨e0, e1⟩ := index_6 t
  unfold X0_6 Pipeline.Window.fill
  rw [dif_pos (moved0_6 t _)]
  unfold iblk
  rw [View.read_apply]
  exact congrArg (m ((c : Thread nD τ).loc main_arg3)) (ix2_of
    (by show win0_6.index t 0 * 1024 + 1 * k.val = k.val; omega)
    (by show win0_6.index t 1 * 1024 + 1 * j.val = 1024 * 1 + j.val; omega))
theorem iblk_7 (k j : Fin 1024) :
    (X0_7 m c t : Vec Ideal S1024x1024 .bf16) (ix2 k j) = (arrays m c).w k (col 2 j) := by
  obtain ⟨e0, e1⟩ := index_7 t
  unfold X0_7 Pipeline.Window.fill
  rw [dif_pos (moved0_7 t _)]
  unfold iblk
  rw [View.read_apply]
  exact congrArg (m ((c : Thread nD τ).loc main_arg3)) (ix2_of
    (by show win0_7.index t 0 * 1024 + 1 * k.val = k.val; omega)
    (by show win0_7.index t 1 * 1024 + 1 * j.val = 1024 * 2 + j.val; omega))
theorem iblk_8 (k j : Fin 1024) :
    (X0_8 m c t : Vec Ideal S1024x1024 .bf16) (ix2 k j) = (arrays m c).w k (col 3 j) := by
  obtain ⟨e0, e1⟩ := index_8 t
  unfold X0_8 Pipeline.Window.fill
  rw [dif_pos (moved0_8 t _)]
  unfold iblk
  rw [View.read_apply]
  exact congrArg (m ((c : Thread nD τ).loc main_arg3)) (ix2_of
    (by show win0_8.index t 0 * 1024 + 1 * k.val = k.val; omega)
    (by show win0_8.index t 1 * 1024 + 1 * j.val = 1024 * 3 + j.val; omega))
theorem iblk_10 (k j : Fin 1024) :
    (X0_10 m c t : Vec Ideal S1024x1024 .bf16) (ix2 k j) = (arrays m c).w k (col 5 j) := by
  obtain ⟨e0, e1⟩ := index_10 t
  unfold X0_10 Pipeline.Window.fill
  rw [dif_pos (moved0_10 t _)]
  unfold iblk
  rw [View.read_apply]
  exact congrArg (m ((c : Thread nD τ).loc main_arg3)) (ix2_of
    (by show win0_10.index t 0 * 1024 + 1 * k.val = k.val; omega)
    (by show win0_10.index t 1 * 1024 + 1 * j.val = 1024 * 5 + j.val; omega))
theorem iblk_12 (k j : Fin 1024) :
    (iblk m c 12 t : Vec Ideal S1024x1024 .bf16) (ix2 k j) = (arrays m c).wm k j := by
  obtain ⟨e0, e1⟩ := index_12 t
  unfold iblk
  rw [View.read_apply]
  exact congrArg (m ((c : Thread nD τ).loc main_arg5)) (ix2_of
    (by show win0_12.index t 0 * 1024 + 1 * k.val = k.val; omega)
    (by show win0_12.index t 1 * 1024 + 1 * j.val = j.val; omega))
theorem iblk_13 (n : Fin 3) (j : Fin 1024) :
    (iblk m c 13 t : Vec Ideal S3x1024 .f32) (ix2 n j) = (arrays m c).cw n j := by
  obtain ⟨e0, e1⟩ := index_13 t
  unfold iblk
  rw [View.read_apply]
  exact congrArg (m ((c : Thread nD τ).loc main_arg6)) (ix2_of
    (by show win0_13.index t 0 * 3 + 1 * n.val = n.val; omega)
    (by show win0_13.index t 1 * 1024 + 1 * j.val = j.val; omega))
theorem iblk_14 (j : Fin 1024) :
    (iblk m c 14 t : Vec Ideal S1x1024 .f32) (ix2 (0 : Fin 1) j) = (arrays m c).cb j := by
  obtain ⟨e0, e1⟩ := index_14 t
  unfold iblk
  rw [View.read_apply]
  exact congrArg (m ((c : Thread nD τ).loc main_arg7)) (ix2_of
    (by show win0_14.index t 0 * 1 + 1 * 0 = 0; omega)
    (by show win0_14.index t 1 * 1024 + 1 * j.val = j.val; omega))
theorem iblk_17 (k j : Fin 1024) :
    (iblk m c 17 t : Vec Ideal S1024x1024 .bf16) (ix2 k j) = (arrays m c).wo k j := by
  obtain ⟨e0, e1⟩ := index_17 t
  unfold iblk
  rw [View.read_apply]
  exact congrArg (m ((c : Thread nD τ).loc main_arg10)) (ix2_of
    (by show win0_17.index t 0 * 1024 + 1 * k.val = k.val; omega)
    (by show win0_17.index t 1 * 1024 + 1 * j.val = j.val; omega))

/-- A point's blocks are its batch's and tile's. -/
theorem part : Part (arrays m c) (batch t) (tile t) (iblk m c 0 t) (iblk m c 1 t) (iblk m c 2 t) (iblk m c 3 t) (iblk m c 4 t)
    (X0_5 m c t) (X0_6 m c t) (X0_7 m c t) (X0_8 m c t) (X0_10 m c t) (iblk m c 12 t) (iblk m c 17 t) (iblk m c 13 t)
    (iblk m c 14 t) where
  x := iblk_0 m c t
  before := iblk_1 m c t
  after := iblk_2 m c t
  md := iblk_3 m c t
  gain := iblk_4 m c t
  w0 := iblk_5 m c t
  w1 := iblk_6 m c t
  w2 := iblk_7 m c t
  w3 := iblk_8 m c t
  w5 := iblk_10 m c t
  wm := iblk_12 m c t
  cw := iblk_13 m c t
  cb := iblk_14 m c t
  wo := iblk_17 m c t

/-! What a point writes, and the result arrays. -/

/-- A point's coordinate along the tiles. -/
theorem coord_1 : ∀ t : Fin cfg0.N, 15 - (grid0.coords t 1).val = (tile t).val :=
  (by decide +kernel : ∀ t : Fin grid0.N, 15 - (grid0.coords t 1).val = 15 - t.val % 16)

/-- Every point writes each of its output blocks back. -/
theorem flush_all : ∀ t : Fin cfg0.N, (cfg0.win 21).flush t = true ∧ (cfg0.win 22).flush t = true ∧ (cfg0.win 23).flush t = true := by
  decide +kernel

/-- The hidden states a point writes, the values and the branch's contributions. -/
theorem flushed_hidden (r : Fin 512) (j : Fin 1024) :
    (dats m 0 c).flushed 22 t (ix3 (0 : Fin 1) r j) = Branch.hidden (arrays m c) (batch t) (row (tile t) r) j := by
  have e : ∀ y, (dats m 0 c).flushed 22 t y = Tile.hiddenBlock (iblk m c 0 t) (iblk m c 3 t) (iblk m c 4 t) y := fun y => by
    by_cases h0 : t.val % 16 = 0
    · rw [flushed22_A m c t h0, (TileBody.hidden_block ..).1]
    · rw [flushed22_B m c t h0, (TileBody.hidden_block ..).2]
  exact (e _).trans (congrFun (hidden_eq (part m c t) r) j)
theorem flushed_value (r : Fin 512) (j : Fin 1024) :
    (dats m 0 c).flushed 21 t (ix3 (0 : Fin 1) r j) = Branch.value (arrays m c) (batch t) (row (tile t) r) j := by
  have e : ∀ y, (dats m 0 c).flushed 21 t y
      = Tile.valueBlock (iblk m c 0 t) (iblk m c 3 t) (iblk m c 4 t) (X0_10 m c t) y := fun y => by
    by_cases h0 : t.val % 16 = 0
    · rw [flushed21_A m c t h0, (TileBody.value_block ..).1]
    · rw [flushed21_B m c t h0, (TileBody.value_block ..).2]
  exact (e _).trans (value_eq (part m c t) r j)
theorem flushed_out (r : Fin 512) (j : Fin 1024) :
    (dats m 0 c).flushed 23 t (ix3 (0 : Fin 1) r j) = Branch.out (arrays m c) (batch t) (row (tile t) r) j := by
  have e : ∀ y, (dats m 0 c).flushed 23 t y
      = Tile.outBlock (tile t).val (iblk m c 0 t) (iblk m c 1 t) (iblk m c 2 t) (iblk m c 3 t) (iblk m c 4 t) (X0_5 m c t)
          (X0_6 m c t) (X0_7 m c t) (X0_8 m c t) (iblk m c 12 t) (iblk m c 17 t) (iblk m c 13 t) (iblk m c 14 t) y := fun y => by
    rw [← coord_1]
    by_cases h0 : t.val % 16 = 0
    · rw [flushed23_A m c t h0, (TileBody.out_block ..).1]
    · rw [flushed23_B m c t h0, (TileBody.out_block ..).2]
  exact (e _).trans (out_eq (part m c t) r j)

/-- The point whose block holds a token's row, and the row's place in it. -/
def point (b : Fin 8) (r : Fin 8192) : Fin cfg0.N :=
  ⟨16 * b.val + (15 - r.val / 512), by have : cfg0.N = 128 := N_0; omega⟩
def place (r : Fin 8192) : Fin 512 := ⟨r.val % 512, by omega⟩
theorem point_batch (b : Fin 8) (r : Fin 8192) : batch (point b r) = b := by
  apply Fin.ext; show (16 * b.val + (15 - r.val / 512)) / 16 = b.val; omega
theorem point_row (b : Fin 8) (r : Fin 8192) : row (tile (point b r)) (place r) = r := by
  apply Fin.ext; show 512 * (15 - (16 * b.val + (15 - r.val / 512)) % 16) + r.val % 512 = r.val; omega
/-- The index a block's index is in its array. -/
theorem at_point {y : Shape.Idx ⟨3, ![8, 8192, 1024]⟩} (b : Fin 8) (r : Fin 8192) (j : Fin 1024)
    (h0 : (y 0).val = (point b r).val / 16 * 1 + 1 * 0)
    (h1 : (y 1).val = (15 - (point b r).val % 16) * 512 + 1 * (place r).val) (h2 : (y 2).val = 0 * 1024 + 1 * j.val) :
    y = ix3 b r j := by
  have hb : (point b r).val / 16 = b.val := congrArg Fin.val (point_batch b r)
  have hr : 512 * (15 - (point b r).val % 16) + (place r).val = r.val := congrArg Fin.val (point_row b r)
  exact ix3_of (by omega) (by omega) (by omega)

/-- The hidden states, as the run leaves them. -/
theorem result_hidden :
    ((dats m 0 c).arrAt 22 cfg0.N : Vec Ideal S8x8192x1024 .bf16) = fun y => Branch.hidden (arrays m c) (y 0) (y 1) (y 2) := by
  funext y
  idx_vars y
  have e := congrFun (blocks22 m c (point y0 y1) (flush_all _).2.1) (ix3 (0 : Fin 1) (place y1) y2)
  rw [View.read_apply] at e
  rw [flushed_hidden, point_batch, point_row] at e
  obtain ⟨e0, e1, e2⟩ := index_22 (point y0 y1)
  refine Eq.trans (congrArg _ (at_point y0 y1 y2 ?_ ?_ ?_).symm) e
  · show win0_22.index (point y0 y1) 0 * 1 + 1 * 0 = _; rw [e0]
  · show win0_22.index (point y0 y1) 1 * 512 + 1 * (place y1).val = _; rw [e1]
  · show win0_22.index (point y0 y1) 2 * 1024 + 1 * y2.val = _; rw [e2]

/-- The values, as the run leaves them. -/
theorem result_value :
    ((dats m 0 c).arrAt 21 cfg0.N : Vec Ideal S8x8192x1024 .bf16) = fun y => Branch.value (arrays m c) (y 0) (y 1) (y 2) := by
  funext y
  idx_vars y
  have e := congrFun (blocks21 m c (point y0 y1) (flush_all _).1) (ix3 (0 : Fin 1) (place y1) y2)
  rw [View.read_apply] at e
  rw [flushed_value, point_batch, point_row] at e
  obtain ⟨e0, e1, e2⟩ := index_21 (point y0 y1)
  refine Eq.trans (congrArg _ (at_point y0 y1 y2 ?_ ?_ ?_).symm) e
  · show win0_21.index (point y0 y1) 0 * 1 + 1 * 0 = _; rw [e0]
  · show win0_21.index (point y0 y1) 1 * 512 + 1 * (place y1).val = _; rw [e1]
  · show win0_21.index (point y0 y1) 2 * 1024 + 1 * y2.val = _; rw [e2]

/-- The branch's contributions, as the run leaves them. -/
theorem result_out :
    ((dats m 0 c).arrAt 23 cfg0.N : Vec Ideal S8x8192x1024 .bf16) = fun y => Branch.out (arrays m c) (y 0) (y 1) (y 2) := by
  funext y
  idx_vars y
  have e := congrFun (blocks23 m c (point y0 y1) (flush_all _).2.2) (ix3 (0 : Fin 1) (place y1) y2)
  rw [View.read_apply] at e
  rw [flushed_out, point_batch, point_row] at e
  obtain ⟨e0, e1, e2⟩ := index_23 (point y0 y1)
  refine Eq.trans (congrArg _ (at_point y0 y1 y2 ?_ ?_ ?_).symm) e
  · show win0_23.index (point y0 y1) 0 * 1 + 1 * 0 = _; rw [e0]
  · show win0_23.index (point y0 y1) 1 * 512 + 1 * (place y1).val = _; rw [e1]
  · show win0_23.index (point y0 y1) 2 * 1024 + 1 * y2.val = _; rw [e2]

end Cert.TileSweep

end
-- ==== Proof.Decay.lean ====
/-
  The decay of the features on extended reals: a token's gate, the gates summed over a chunk up to a token or before it,
  and the bounded exponentials of their differences. The kernel keeps the gates in units of the binary logarithm, splits
  each into a rounded part and the rest, and takes powers of two; here are the equations between the spellings.
-/
module

public import Idealize.ShloMosaic.Lib.Pointwise

@[expose] public section

noncomputable section

namespace Cert.Decay

open Idealize.ShloMosaic

/-- The logarithm of the logistic function. -/
def softLog (z : EReal) : EReal := min z 0 - Ideal.log1p (Ideal.exp (-max z (-z)))

/-- A token's gate. -/
def gate (z : EReal) : EReal := Ideal.div (softLog z) (Ideal.ofBits .f32 0x41800000#32)

/-- The gates of a chunk summed up to a token, and before it. -/
def upto (g : Fin 128 → EReal) (t : Fin 128) : EReal := ∑ s : Fin 128, g s * if s ≤ t then 1 else 0
def before (g : Fin 128 → EReal) (t : Fin 128) : EReal := ∑ s : Fin 128, g s * if s < t then 1 else 0

/-- An exponential kept between two powers of two. -/
def bounded (d : EReal) : EReal :=
  min (max (Ideal.exp d) (Ideal.ofBits .f32 0x06000000#32)) (Ideal.ofBits .f32 0x79000000#32)

/-- A token's decay from the chunk's middle, forward and backward. -/
def fwd (g : Fin 128 → EReal) (t : Fin 128) : EReal := bounded (upto g t - upto g 63)
def bwd (g : Fin 128 → EReal) (t : Fin 128) : EReal := bounded (before g 64 - before g t)

/-- The unit of the binary logarithm. -/
def unit : ℝ := (Real.log 2)⁻¹

theorem log_two_pos : 0 < Real.log 2 := Real.log_pos (by norm_num)
theorem unit_pos : 0 < unit := inv_pos.mpr log_two_pos

/-- The larger and the smaller of two real numbers. -/
theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-! The literals. -/

theorem sixteen_bits : (Ideal.ofBits .f32 0x41800000#32 : EReal) = ((16 : ℝ) : EReal) := by
  simp [Ideal.ofBits, Ideal.ieee, -EReal.coe_mul]; norm_num
theorem low_bits : (Ideal.ofBits .f32 0xC2E60000#32 : EReal) = ((-115 : ℝ) : EReal) := by
  simp [Ideal.ofBits, Ideal.ieee, -EReal.coe_mul]; norm_num
theorem high_bits : (Ideal.ofBits .f32 0x42E60000#32 : EReal) = ((115 : ℝ) : EReal) := by
  simp [Ideal.ofBits, Ideal.ieee, -EReal.coe_mul]; norm_num
theorem least_bits : (Ideal.ofBits .f32 0x06000000#32 : EReal) = (((2 : ℝ) ^ (-115 : ℝ) : ℝ) : EReal) := by
  have e : (2 : ℝ) ^ (-115 : ℝ) = ((2 : ℝ) ^ 115)⁻¹ := by
    rw [Real.rpow_neg (by norm_num)]; norm_cast
  rw [e]
  simp [Ideal.ofBits, Ideal.ieee, -EReal.coe_mul]; norm_num
theorem most_bits : (Ideal.ofBits .f32 0x79000000#32 : EReal) = (((2 : ℝ) ^ (115 : ℝ) : ℝ) : EReal) := by
  have e : (2 : ℝ) ^ (115 : ℝ) = (2 : ℝ) ^ 115 := by norm_cast
  rw [e]
  simp [Ideal.ofBits, Ideal.ieee, -EReal.coe_mul, -EReal.coe_pow]; norm_num

/-! The gate. -/

/-- In the kernel's unit. -/
theorem rate_eq (z : EReal) : softLog z * ((unit * 16⁻¹ : ℝ) : EReal) = (unit : EReal) * gate z := by
  unfold gate
  rw [sixteen_bits, Ideal.div_coe (by norm_num), EReal.coe_mul, one_div, mul_left_comm]

/-- The logarithm in it is a real number. -/
theorem log1p_real (z : EReal) : ∃ r : ℝ, Ideal.log1p (Ideal.exp (-max z (-z))) = (r : EReal) := by
  have h : ∃ e : ℝ, 0 ≤ e ∧ Ideal.exp (-max z (-z)) = (e : EReal) := by
    induction z with
    | bot => exact ⟨0, le_refl _, by simp⟩
    | top => exact ⟨0, le_refl _, by simp⟩
    | coe r =>
      refine ⟨Real.exp (-max r (-r)), (Real.exp_pos _).le, ?_⟩
      rw [← EReal.coe_neg, ← coe_max, ← EReal.coe_neg]
      rfl
  obtain ⟨e, he, h⟩ := h
  refine ⟨Real.log (1 + e), ?_⟩
  rw [h]
  unfold Ideal.log1p
  rw [← EReal.coe_one, ← EReal.coe_add]
  show (if (1 + e : ℝ) ≤ 0 then ⊥ else ((Real.log (1 + e) : ℝ) : EReal)) = _
  rw [if_neg (by linarith)]

/-- The reference's spelling, by the softplus of the negated argument. -/
theorem softLog_eq (z : EReal) : -(max (-z) 0 + Ideal.log1p (Ideal.exp (-max (-z) (- -z)))) = softLog z := by
  unfold softLog
  rw [neg_neg, max_comm (-z) z]
  obtain ⟨r, h⟩ := log1p_real z
  rw [h, EReal.neg_add (Or.inr (EReal.coe_ne_top r)) (Or.inr (EReal.coe_ne_bot r))]
  congr 1
  rcases le_total z 0 with hz | hz
  · rw [min_eq_left hz, max_eq_left (EReal.neg_nonneg.mpr hz), neg_neg]
  · rw [min_eq_right hz, max_eq_right (by simpa using EReal.neg_le_neg_iff.mpr hz), neg_zero]

theorem gate_ne_top (z : EReal) : (unit : EReal) * gate z ≠ ⊤ := by
  rw [← rate_eq]
  obtain ⟨r, h⟩ := log1p_real z
  unfold softLog
  rw [h]
  have hp : 0 < unit * 16⁻¹ := mul_pos unit_pos (by norm_num)
  have hm : min z 0 ≠ ⊤ := ne_of_lt (lt_of_le_of_lt (min_le_right _ _) (EReal.coe_lt_top 0))
  generalize min z 0 = m at hm
  induction m with
  | bot => rw [sub_eq_add_neg, EReal.bot_add, EReal.bot_mul_coe_of_pos hp]; exact bot_ne_top
  | top => exact absurd rfl hm
  | coe a => rw [← EReal.coe_sub, ← EReal.coe_mul]; exact EReal.coe_ne_top _

/-! The sums. -/

/-- A rounded part and the rest, each weighed by one or zero, are the whole so weighed. -/
theorem parts (r : EReal) (h : r ≠ ⊤) (p : Prop) [Decidable p] :
    (if p then (1 : EReal) else 0) * r + (if p then (1 : EReal) else 0) * (r - r) = (if p then (1 : EReal) else 0) * r := by
  split
  · rw [one_mul, one_mul]
    induction r with
    | bot => simp
    | top => exact absurd rfl h
    | coe a => rw [← EReal.coe_sub, ← EReal.coe_add]; simp
  · simp

/-- A positive real factor comes out of a sum. -/
theorem mul_sum (f : Fin 128 → EReal) : ∑ s, (unit : EReal) * f s = (unit : EReal) * ∑ s, f s := by
  have hu : (0 : EReal) ≤ (unit : EReal) := EReal.coe_nonneg.mpr unit_pos.le
  have h : ∀ S : Finset (Fin 128), ∑ s ∈ S, (unit : EReal) * f s = (unit : EReal) * ∑ s ∈ S, f s := fun S => by
    induction S using Finset.induction_on with
    | empty => simp
    | insert s S hs ih =>
      rw [Finset.sum_insert hs, Finset.sum_insert hs, ih, EReal.left_distrib_of_nonneg_of_ne_top hu (EReal.coe_ne_top _)]
  exact h Finset.univ

/-- The kernel's two sums of a chunk, of the rounded parts and of the rests. -/
theorem joined (z : Fin 128 → EReal) (p : Fin 128 → Prop) [DecidablePred p] :
    (∑ s, (if p s then (1 : EReal) else 0) * ((unit : EReal) * gate (z s)))
        + ∑ s, (if p s then (1 : EReal) else 0) * ((unit : EReal) * gate (z s) - (unit : EReal) * gate (z s))
      = (unit : EReal) * ∑ s, gate (z s) * if p s then 1 else 0 := by
  rw [← Finset.sum_add_distrib, ← mul_sum]
  exact Finset.sum_congr rfl fun s _ => (parts _ (gate_ne_top _) _).trans (by rw [mul_comm, mul_assoc])

/-! The exponentials. -/

/-- A difference in the kernel's unit. -/
theorem sub_eq (a b : EReal) : (unit : EReal) * a - (unit : EReal) * b = (unit : EReal) * (a - b) := by
  have hu : (0 : EReal) ≤ (unit : EReal) := EReal.coe_nonneg.mpr unit_pos.le
  rw [sub_eq_add_neg, sub_eq_add_neg, EReal.left_distrib_of_nonneg_of_ne_top hu (EReal.coe_ne_top _), mul_neg]

/-- A power of two of a real number in the kernel's unit is its exponential. -/
theorem rpow_unit (r : ℝ) : (2 : ℝ) ^ (unit * r) = Real.exp r := by
  rw [Real.rpow_def_of_pos (by norm_num), unit, ← mul_assoc, mul_inv_cancel₀ log_two_pos.ne', one_mul]

theorem exp2_eq (a : EReal) : Ideal.exp2 ((unit : EReal) * a) = Ideal.exp a := by
  induction a with
  | bot => rw [EReal.coe_mul_bot_of_pos unit_pos]; rfl
  | top => rw [EReal.coe_mul_top_of_pos unit_pos]; rfl
  | coe r =>
    rw [← EReal.coe_mul]
    exact congrArg (fun x : ℝ => (x : EReal)) (rpow_unit r)

/-- A clamped exponent is a bounded power. -/
theorem clamped (d : EReal) :
    Ideal.exp2 (min (max ((unit : EReal) * d) (Ideal.ofBits .f32 0xC2E60000#32)) (Ideal.ofBits .f32 0x42E60000#32)) = bounded d := by
  unfold bounded
  rw [low_bits, high_bits, least_bits, most_bits]
  have mono : Monotone fun x : ℝ => (2 : ℝ) ^ x := fun a b h => Real.rpow_le_rpow_of_exponent_le (by norm_num) h
  have lh : (2 : ℝ) ^ (-115 : ℝ) ≤ (2 : ℝ) ^ (115 : ℝ) := mono (by norm_num)
  induction d with
  | bot =>
    rw [EReal.coe_mul_bot_of_pos unit_pos, max_eq_right bot_le, min_eq_left (EReal.coe_le_coe_iff.mpr (by norm_num)),
      Ideal.exp_bot, max_eq_right (EReal.coe_nonneg.mpr (Real.rpow_nonneg (by norm_num) _)), min_eq_left (EReal.coe_le_coe_iff.mpr lh)]
    rfl
  | top =>
    rw [EReal.coe_mul_top_of_pos unit_pos, max_eq_left le_top, min_eq_right le_top, Ideal.exp_top, max_eq_left le_top,
      min_eq_right le_top]
    rfl
  | coe r =>
    rw [Ideal.exp_coe, ← EReal.coe_mul, ← coe_max, ← coe_min, ← coe_max, ← coe_min]
    show (((2 : ℝ) ^ (min (max (unit * r) (-115)) 115) : ℝ) : EReal) = _
    rw [mono.map_min, mono.map_max, ← rpow_unit]

/-- A product with the reciprocal is the quotient. -/
theorem recip_eq (k d : EReal) : k * Ideal.div 1 (bounded d) = Ideal.div k (bounded d) := by
  have h : bounded d ≠ 0 := by
    unfold bounded
    rw [least_bits, most_bits]
    refine ne_of_gt (lt_min (lt_max_of_lt_right ?_) ?_) <;> exact EReal.coe_pos.mpr (Real.rpow_pos_of_pos (by norm_num) _)
  unfold Ideal.div
  rw [if_neg h, if_neg h, one_mul]

end Cert.Decay

end
-- ==== Proof.Features.lean ====
/-
  The query and key features of a chunk of 128 tokens on extended reals, and the rows of its decay: each is the query or
  key times or over the decay from the chunk's middle (Decay.lean), a column of it by the gates of the same column.
-/
module

public import proofs.«01_k».proof.Proof.Branch
public import proofs.«01_k».proof.Proof.Decay

@[expose] public section

noncomputable section

namespace Cert.Features

open Idealize.ShloMosaic

/-- A gate's argument: a row projected through the low-rank weights, with a bias. -/
def gateArg (h : Fin 1024 → EReal) (lr : Fin 128 → Fin 1024 → EReal) (wg : Fin 128 → EReal) (bias : EReal) : EReal :=
  (∑ l, Branch.proj h (lr l) * wg l) + bias

/-- The scale of the queries. -/
def scale : EReal := Ideal.ofBits .f32 0x3DB504F3#32

/-- A chunk: the arguments of its gates, its queries and its keys, by column and token. -/
structure Chunk where
  z : Fin 1024 → Fin 128 → EReal
  q : Fin 512 → Fin 128 → EReal
  k : Fin 512 → Fin 128 → EReal

/-- The forward gates of a column, and its backward ones. -/
def left (j : Fin 512) : Fin 1024 := ⟨j.val, by omega⟩
def right (j : Fin 512) : Fin 1024 := ⟨512 + j.val, by omega⟩

variable (C : Chunk)

def fwd (j : Fin 512) (t : Fin 128) : EReal := Decay.fwd (fun s => Decay.gate (C.z (left j) s)) t
def bwd (j : Fin 512) (t : Fin 128) : EReal := Decay.bwd (fun s => Decay.gate (C.z (right j) s)) t

/-- The key features. -/
def keyF (j : Fin 512) (t : Fin 128) : EReal := Ideal.div (C.k j t) (fwd C j t)
def keyB (j : Fin 512) (t : Fin 128) : EReal := Ideal.div (C.k j t) (bwd C j t)

/-- The query features: of each head the forward ones, then the backward ones. -/
def query (t : Fin 128) (a : Fin 4) (n : Fin 2) (d : Fin 128) : EReal :=
  if n.val = 0 then C.q ⟨128 * a.val + d.val, by omega⟩ t * fwd C ⟨128 * a.val + d.val, by omega⟩ t
  else C.q ⟨128 * a.val + d.val, by omega⟩ t * bwd C ⟨128 * a.val + d.val, by omega⟩ t

/-- The decay of the whole chunk, that of its first half, and six rows of zeros. -/
def decay (i : Fin 8) (j : Fin 512) : EReal :=
  if i.val < 1 then Ideal.exp (Decay.upto (fun s => Decay.gate (C.z (left j) s)) 127)
  else if i.val < 2 then Ideal.exp (Decay.upto (fun s => Decay.gate (C.z (left j) s)) 63)
  else 0

/-- The weights of the gates. -/
structure Gates where
  lr : Fin 128 → Fin 1024 → EReal
  wg : Fin 1024 → Fin 128 → EReal
  bias : Fin 1024 → EReal

variable (A : Branch.Arrays) (G : Gates)

/-- Token `t` of chunk `n`. -/
def token (n : Fin 64) (t : Fin 128) : Fin 8192 := ⟨128 * n.val + t.val, by omega⟩

/-- A chunk of a sequence. -/
def chunk (b : Fin 8) (n : Fin 64) : Chunk where
  z j t := gateArg (Branch.hidden A b (token n t)) G.lr (G.wg j) (G.bias j)
  q j t := Branch.proj (Branch.hidden A b (token n t)) (Branch.weight A 4 (left j)) * scale
  k j t := Branch.proj (Branch.hidden A b (token n t)) (Branch.weight A 4 (right j))

end Cert.Features

end
-- ==== Proof.TileFeatures.lean ====
/-
  One grid point of the first call: the gates, queries and keys of its tile's four chunks, as the arrays the kernel holds
  them in, and the triangles it sums the gates with.
-/
module

public import proofs.«01_k».proof.Proof.Tile
public import proofs.«01_k».proof.Proof.Features
public import Idealize.ShloMosaic.Lib.WordCmp

@[expose] public section

set_option maxRecDepth 16384

noncomputable section

namespace Cert.Tile

open Idealize.ShloMosaic Idealize.ShloMosaic.TcCoe Idealize.ShloMosaic.Tactic
open Cert.Kernel2Ideal Cert.Kernel2Ideal.Gen

variable
  (x0 : Vec Ideal S1x512x1024 .f32) (x3 : Vec Ideal S1x3x1024 .f32) (x4 : Vec Ideal S1x1024 .f32)
  (x9 : Vec Ideal S1024x1024 .bf16) (x11 : Vec Ideal S1024x128 .bf16) (x15 : Vec Ideal S128x1024 .bf16)
  (x16 : Vec Ideal S1x1024 .f32)

/-- The argument of a token's gate. -/
def gateArg (t : Fin 512) (j : Fin 1024) : EReal :=
  Features.gateArg (hidden x0 x3 x4 t) (fun l k => x11 (ix2 k l)) (fun l => x15 (ix2 l j)) (x16 (ix2 (0 : Fin 1) j))

/-- A chunk of the tile. -/
def chunk (n : Fin 4) : Features.Chunk where
  z j t := gateArg x0 x3 x4 x11 x15 x16 ⟨128 * n.val + t.val, by omega⟩ j
  q j t := Branch.proj (hidden x0 x3 x4 ⟨128 * n.val + t.val, by omega⟩) (fun k => x9 (ix2 k (Features.left j))) * Features.scale
  k j t := Branch.proj (hidden x0 x3 x4 ⟨128 * n.val + t.val, by omega⟩) fun k => x9 (ix2 k (Features.right j))

/-- The gates in the kernel's unit, the queries and the keys, as the arrays the kernel holds. -/
def rateRows : FVec Ideal S512x1024 .f32 := fun y => (Decay.unit : EReal) * Decay.gate (gateArg x0 x3 x4 x11 x15 x16 (y 0) (y 1))
def queryRows : FVec Ideal S512x512 .f32 := fun y =>
  Branch.proj (hidden x0 x3 x4 (y 0)) (fun k => x9 (ix2 k (Features.left (y 1)))) * Features.scale
def keyRows : FVec Ideal S512x512 .f32 := fun y =>
  Branch.proj (hidden x0 x3 x4 (y 0)) fun k => x9 (ix2 k (Features.right (y 1)))

theorem rateRows_mk (t : Fin 512) (j : Fin 1024) : rateRows x0 x3 x4 x11 x15 x16 (ix2 t j)
    = (Decay.unit : EReal) * Decay.gate (gateArg x0 x3 x4 x11 x15 x16 t j) := rfl
theorem queryRows_mk (t j : Fin 512) : queryRows x0 x3 x4 x9 (ix2 t j)
    = Branch.proj (hidden x0 x3 x4 t) (fun k => x9 (ix2 k (Features.left j))) * Features.scale := rfl
theorem keyRows_mk (t j : Fin 512) : keyRows x0 x3 x4 x9 (ix2 t j)
    = Branch.proj (hidden x0 x3 x4 t) fun k => x9 (ix2 k (Features.right j)) := rfl

/-- The kernel's named constant. -/
theorem decay_unit : Named.named (F := Ideal) κ "decay_unit" (φ := .f32) 0x3DB8AA3B#32 = ((Decay.unit * 16⁻¹ : ℝ) : EReal) :=
  IdealRules.named_const.ideal_named_scalar _ _ _ _ rfl

section
variable (v72 : Vec Ideal S1024x128 .bf16) (v75 : Vec Ideal S1024x1024 .bf16) (v77 : Vec Ideal S128x1024 .bf16)
  (v79 : Vec Ideal S1x1024 .f32) (h72 : ∀ a b, v72 (ix2 a b) = x11 (ix2 a b)) (h75 : ∀ a b, v75 (ix2 a b) = x9 (ix2 a b))
  (h77 : ∀ a b, v77 (ix2 a b) = x15 (ix2 a b)) (h79 : ∀ b, v79 (ix2 (0 : Fin 1) b) = x16 (ix2 (0 : Fin 1) b))

include h72 h77 h79 in
/-- The kernel computes the gates, from what it loads. -/
theorem rates_eq : k0_pay11 (k0_pay9 (hiddenRows x0 x3 x4) v72) v77 v79 = rateRows x0 x3 x4 x11 x15 x16 := by
  funext y
  idx_vars y
  rw [rateRows_mk, ← Decay.rate_eq]
  unfold k0_pay11 k0_pay9
  pointwise
  simp only [h72, h77, h79, hiddenRows_mk, decay_unit, zero_sub]
  rfl

include h72 h77 h79 in
/-- And from the hidden states' own loads. -/
theorem rates_eq_loads (v4 v7 : Vec Ideal S1x1x1024 .f32) (v6 : Vec Ideal S1x1024 .f32) (v12 : Vec Ideal S1x512x1024 .f32)
    (h4 : ∀ k : Fin 1024, v4 (ix3 (0 : Fin 1) (0 : Fin 1) k) = x3 (ix3 (0 : Fin 1) (0 : Fin 3) k))
    (h6 : ∀ k : Fin 1024, v6 (ix2 (0 : Fin 1) k) = x4 (ix2 (0 : Fin 1) k))
    (h7 : ∀ k : Fin 1024, v7 (ix3 (0 : Fin 1) (0 : Fin 1) k) = x3 (ix3 (0 : Fin 1) (1 : Fin 3) k))
    (h12 : ∀ (t : Fin 512) (k : Fin 1024), v12 (ix3 (0 : Fin 1) t k) = x0 (ix3 (0 : Fin 1) t k)) :
    k0_pay11 (k0_pay9 (k0_pay5 v4 v6 v7 v12) v72) v77 v79 = rateRows x0 x3 x4 x11 x15 x16 := by
  rw [hidden_eq x0 x3 x4 v4 v7 v6 v12 h4 h6 h7 h12]
  exact rates_eq x0 x3 x4 x11 x15 x16 v72 v77 v79 h72 h77 h79

include h75

/-- And the queries and the keys. -/
theorem queries_eq : k0_pay12 (hiddenRows x0 x3 x4) v75 = queryRows x0 x3 x4 x9 := by
  funext y
  idx_vars y
  unfold k0_pay12 k0_pay10
  pointwise
  simp only [h75]
  rfl
theorem keys_eq : k0_pay13 (hiddenRows x0 x3 x4) v75 = keyRows x0 x3 x4 x9 := by
  funext y
  idx_vars y
  unfold k0_pay13 k0_pay10
  pointwise
  simp only [h75]
  rfl

end

/-! The triangles: position `n` of two chunks' worth, wrapped to one, against a token. -/

theorem period_word : Scalar.select (Scalar.cmpi .eq 128#32 0#32) 1#32 128#32 = 128#32 := by decide
theorem sign_word : Scalar.cmpi .slt 128#32 0#32 = 0#1 := by decide

/-- A position's word, wrapped. -/
abbrev wrapped (n : ℕ) : BitVec 32 :=
  Scalar.select
    (IntOp.andi (IntOp.xori (IntOp.cmpi .slt (IntOp.remsi .vector (BitVec.ofNat 32 n) 128#32) 0#32) 0#1)
      (IntOp.cmpi .ne (IntOp.remsi .vector (BitVec.ofNat 32 n) 128#32) 0#32))
    (IntOp.addi (IntOp.remsi .vector (BitVec.ofNat 32 n) 128#32) 128#32)
    (IntOp.remsi .vector (BitVec.ofNat 32 n) 128#32)

theorem wrapped_here : ∀ s : Fin 128, wrapped s.val = BitVec.ofNat 32 s.val := by decide +kernel
theorem wrapped_again : ∀ s : Fin 128, wrapped (128 + s.val) = BitVec.ofNat 32 s.val := by decide +kernel

theorem one_word : (FloatOps.sitofp .f32 (BitVec.setWidth 32 (BitVec.ofBool true)) : Ideal .f32) = (1 : EReal) := by
  show (((BitVec.setWidth 32 (BitVec.ofBool true)).toInt : ℝ) : EReal) = 1
  rw [show (BitVec.setWidth 32 (BitVec.ofBool true)).toInt = 1 by decide]
  norm_num
theorem zero_word : (FloatOps.sitofp .f32 (BitVec.setWidth 32 (BitVec.ofBool false)) : Ideal .f32) = (0 : EReal) := by
  show (((BitVec.setWidth 32 (BitVec.ofBool false)).toInt : ℝ) : EReal) = 0
  norm_num

theorem exp2_def (x : EReal) : (FloatOps.exp2 (F := Ideal) (φ := .f32) x : EReal) = Ideal.exp2 x := rfl

/-- A comparison of two positions, read as a number. -/
theorem incl_eq (s t : Fin 128) :
    (FloatOps.sitofp .f32 (BitVec.setWidth 32 (IntOp.cmpi .sle (BitVec.ofNat 32 s.val) (BitVec.ofNat 32 t.val))) : Ideal .f32)
      = if s ≤ t then 1 else 0 := by
  rw [WordCmp.cmpi_sle_ofNat (by omega) (by omega)]
  by_cases h : s ≤ t
  · rw [if_pos h, decide_eq_true (show s.val ≤ t.val from h)]; exact one_word
  · rw [if_neg h, decide_eq_false (show ¬s.val ≤ t.val from h)]; exact zero_word
theorem strict_eq (s t : Fin 128) :
    (FloatOps.sitofp .f32 (BitVec.setWidth 32 (IntOp.cmpi .slt (BitVec.ofNat 32 s.val) (BitVec.ofNat 32 t.val))) : Ideal .f32)
      = if s < t then 1 else 0 := by
  rw [WordCmp.cmpi_slt_ofNat (by omega) (by omega)]
  by_cases h : s < t
  · rw [if_pos h, decide_eq_true (show s.val < t.val from h)]; exact one_word
  · rw [if_neg h, decide_eq_false (show ¬s.val < t.val from h)]; exact zero_word

theorem incl_mid (s : Fin 128) :
    (FloatOps.sitofp .f32 (BitVec.setWidth 32 (IntOp.cmpi .sle (BitVec.ofNat 32 s.val) 63#32)) : Ideal .f32)
      = if s ≤ 63 then 1 else 0 := incl_eq s 63
theorem incl_end (s : Fin 128) :
    (FloatOps.sitofp .f32 (BitVec.setWidth 32 (IntOp.cmpi .sle (BitVec.ofNat 32 s.val) 127#32)) : Ideal .f32)
      = if s ≤ 127 then 1 else 0 := incl_eq s 127
theorem strict_mid (s : Fin 128) :
    (FloatOps.sitofp .f32 (BitVec.setWidth 32 (IntOp.cmpi .slt (BitVec.ofNat 32 s.val) 64#32)) : Ideal .f32)
      = if s < 64 then 1 else 0 := strict_eq s 64

/-- A row of a chunk, and a column of a head's features. -/
def chunkRow (n : Fin 4) (t : Fin 128) : Fin 512 := ⟨128 * n.val + t.val, by omega⟩
def column (a : Fin 4) (b : Fin 2) (d : Fin 128) : Fin 1024 := ⟨256 * a.val + 128 * b.val + d.val, by omega⟩

/-- The blocks of features. -/
def queryBlock : Vec Ideal S1x512x1024 .bf16 := fun y =>
  Features.query (chunk x0 x3 x4 x9 x11 x15 x16 ⟨(y 1).val / 128, Nat.div_lt_of_lt_mul (y 1).isLt⟩)
    ⟨(y 1).val % 128, Nat.mod_lt _ (by decide)⟩ ⟨(y 2).val / 256, Nat.div_lt_of_lt_mul (y 2).isLt⟩
    ⟨(y 2).val / 128 % 2, Nat.mod_lt _ (by decide)⟩ ⟨(y 2).val % 128, Nat.mod_lt _ (by decide)⟩
def keyBlockF : Vec Ideal S1x4x512x128 .bf16 := fun y => Features.keyF (chunk x0 x3 x4 x9 x11 x15 x16 (y 1)) (y 2) (y 3)
def keyBlockB : Vec Ideal S1x4x512x128 .bf16 := fun y => Features.keyB (chunk x0 x3 x4 x9 x11 x15 x16 (y 1)) (y 2) (y 3)
def decayBlock : Vec Ideal S1x4x8x512 .f32 := fun y => Features.decay (chunk x0 x3 x4 x9 x11 x15 x16 (y 1)) (y 2) (y 3)

theorem keyBlockF_mk (z : Fin 1) (n : Fin 4) (j : Fin 512) (t : Fin 128) :
    keyBlockF x0 x3 x4 x9 x11 x15 x16 (ix4 z n j t)
      = Ideal.div (Branch.proj (hidden x0 x3 x4 ⟨128 * n.val + t.val, by omega⟩) fun k => x9 (ix2 k (Features.right j)))
        (Decay.bounded ((∑ s : Fin 128, Decay.gate (gateArg x0 x3 x4 x11 x15 x16 ⟨128 * n.val + s.val, by omega⟩ ⟨j.val, by omega⟩) * if s ≤ t then 1 else 0)
          - ∑ s : Fin 128, Decay.gate (gateArg x0 x3 x4 x11 x15 x16 ⟨128 * n.val + s.val, by omega⟩ ⟨j.val, by omega⟩) * if s ≤ 63 then 1 else 0)) := rfl

theorem keyBlockB_mk (z : Fin 1) (n : Fin 4) (j : Fin 512) (t : Fin 128) :
    keyBlockB x0 x3 x4 x9 x11 x15 x16 (ix4 z n j t)
      = Ideal.div (Branch.proj (hidden x0 x3 x4 ⟨128 * n.val + t.val, by omega⟩) fun k => x9 (ix2 k (Features.right j)))
        (Decay.bounded ((∑ s : Fin 128, Decay.gate (gateArg x0 x3 x4 x11 x15 x16 ⟨128 * n.val + s.val, by omega⟩ ⟨512 + j.val, by omega⟩) * if s < 64 then 1 else 0)
          - ∑ s : Fin 128, Decay.gate (gateArg x0 x3 x4 x11 x15 x16 ⟨128 * n.val + s.val, by omega⟩ ⟨512 + j.val, by omega⟩) * if s < t then 1 else 0)) := rfl

theorem decayBlock_mk (z : Fin 1) (n : Fin 4) (r : Fin 8) (j : Fin 512) :
    decayBlock x0 x3 x4 x9 x11 x15 x16 (ix4 z n r j)
      = if r.val < 1 then
          Ideal.exp (∑ s : Fin 128, Decay.gate (gateArg x0 x3 x4 x11 x15 x16 ⟨128 * n.val + s.val, by omega⟩ ⟨j.val, by omega⟩) * if s ≤ 127 then 1 else 0)
        else if r.val < 2 then
          Ideal.exp (∑ s : Fin 128, Decay.gate (gateArg x0 x3 x4 x11 x15 x16 ⟨128 * n.val + s.val, by omega⟩ ⟨j.val, by omega⟩) * if s ≤ 63 then 1 else 0)
        else 0 := rfl

theorem queryBlock_mk (z : Fin 1) (n a : Fin 4) (b : Fin 2) (t d : Fin 128) :
    queryBlock x0 x3 x4 x9 x11 x15 x16 (ix3 z (chunkRow n t) (column a b d))
      = Features.query (chunk x0 x3 x4 x9 x11 x15 x16 n) t a b d := by
  have e : ∀ (n' a' : Fin 4) (b' : Fin 2) (t' d' : Fin 128), n' = n → t' = t → a' = a → b' = b → d' = d →
      Features.query (chunk x0 x3 x4 x9 x11 x15 x16 n') t' a' b' d' = Features.query (chunk x0 x3 x4 x9 x11 x15 x16 n) t a b d := by
    rintro _ _ _ _ _ rfl rfl rfl rfl rfl; rfl
  refine e _ _ _ _ _ (Fin.ext ?_) (Fin.ext ?_) (Fin.ext ?_) (Fin.ext ?_) (Fin.ext ?_)
  · show (128 * n.val + t.val) / 128 = n.val; omega
  · show (128 * n.val + t.val) % 128 = t.val; omega
  · show (256 * a.val + 128 * b.val + d.val) / 256 = a.val; omega
  · show (256 * a.val + 128 * b.val + d.val) / 128 % 2 = b.val; omega
  · show (256 * a.val + 128 * b.val + d.val) % 128 = d.val; omega

end Cert.Tile

end
-- ==== Proof.FeatureBody.lean ====
/-
  The first call's body at one grid point, its query and key features and its decays: the blocks it writes are those of
  TileFeatures.lean. It computes a chunk and half the columns at a time; a batch's first point and any other write the
  same blocks.
-/
module

public import proofs.«01_k».proof.Proof.TileBody
public import proofs.«01_k».proof.Proof.TileFeatures

@[expose] public section

set_option maxRecDepth 16384

noncomputable section

namespace Cert.TileBody

open Idealize.ShloMosaic Idealize.ShloMosaic.TcCoe Idealize.ShloMosaic.Tactic
open Cert.Kernel2Ideal Cert.Kernel2Ideal.Gen

/-! Where the features' rectangles lie. -/

/-- Half the key features of a chunk. -/
theorem emb_keys (n o : ℕ) (hn : n < 4) (ho : o + 256 ≤ 512) (inb) (a b : Fin 1) (j : Fin 256) (t : Fin 128) :
    (Rect.unit (s := S1x4x512x128) ![0, n, o, 0] S1x1x256x128.size inb).emb (ix4 a b j t)
      = ix4 (0 : Fin 1) (⟨n, hn⟩ : Fin 4) ⟨o + j.val, by omega⟩ t := by
  funext k
  apply Fin.ext
  match k with
  | 0 => show 0 + 1 * a.val = 0; omega
  | 1 => show n + 1 * b.val = n; omega
  | 2 => show o + 1 * j.val = o + j; omega
  | 3 => show 0 + 1 * t.val = t; omega

/-- Half the decays of a chunk. -/
theorem emb_decays (n o : ℕ) (hn : n < 4) (ho : o + 256 ≤ 512) (inb) (a b : Fin 1) (r : Fin 8) (j : Fin 256) :
    (Rect.unit (s := S1x4x8x512) ![0, n, 0, o] S1x1x8x256.size inb).emb (ix4 a b r j)
      = ix4 (0 : Fin 1) (⟨n, hn⟩ : Fin 4) r ⟨o + j.val, by omega⟩ := by
  funext k
  apply Fin.ext
  match k with
  | 0 => show 0 + 1 * a.val = 0; omega
  | 1 => show n + 1 * b.val = n; omega
  | 2 => show 0 + 1 * r.val = r; omega
  | 3 => show o + 1 * j.val = o + j; omega

/-- One direction of a head's query features in a chunk. -/
theorem emb_queries (o p : ℕ) (ho : o / 128 < 4) (hp : p / 256 < 4) (ho' : o % 128 = 0) (hp' : p % 128 = 0) (inb)
    (a : Fin 1) (t d : Fin 128) :
    (Rect.unit (s := S1x512x1024) ![0, o, p] S1x128x128.size inb).emb (ix3 a t d)
      = ix3 (0 : Fin 1) (Tile.chunkRow ⟨o / 128, ho⟩ t) (Tile.column ⟨p / 256, hp⟩ ⟨p / 128 % 2, Nat.mod_lt _ (by decide)⟩ d) := by
  funext k
  apply Fin.ext
  match k with
  | 0 => show 0 + 1 * a.val = 0; omega
  | 1 => show o + 1 * t.val = 128 * (o / 128) + t; omega
  | 2 => show p + 1 * d.val = 256 * (p / 256) + 128 * (p / 128 % 2) + d; omega

section
variable
  (c : Dev nD) (i : grid0.Coords) (arg2 : Memref sig .tc .vmem S1x512x1024 .f32) (harg2 : arg2.IsWhole) (arg3 :
  Memref sig .tc .vmem S1x16x1024 .f32) (harg3 : arg3.IsWhole) (arg4 : Memref sig .tc .vmem S1x16x1024 .f32) (harg4
  : arg4.IsWhole) (arg5 : Memref sig .tc .vmem S1x3x1024 .f32) (harg5 : arg5.IsWhole) (arg6 : Memref sig .tc .vmem
  S1x1024 .f32) (harg6 : arg6.IsWhole) (arg7 : Memref sig .tc .vmem S1024x1024 .bf16) (harg7 : arg7.IsWhole) (arg8 :
  Memref sig .tc .vmem S1024x1024 .bf16) (harg8 : arg8.IsWhole) (arg9 : Memref sig .tc .vmem S1024x1024 .bf16)
  (harg9 : arg9.IsWhole) (arg10 : Memref sig .tc .vmem S1024x1024 .bf16) (harg10 : arg10.IsWhole) (arg11 : Memref
  sig .tc .vmem S1024x1024 .bf16) (harg11 : arg11.IsWhole) (arg12 : Memref sig .tc .vmem S1024x1024 .bf16) (harg12 :
  arg12.IsWhole) (arg13 : Memref sig .tc .vmem S1024x128 .bf16) (harg13 : arg13.IsWhole) (arg14 : Memref sig .tc
  .vmem S1024x1024 .bf16) (harg14 : arg14.IsWhole) (arg15 : Memref sig .tc .vmem S3x1024 .f32) (harg15 :
  arg15.IsWhole) (arg16 : Memref sig .tc .vmem S1x1024 .f32) (harg16 : arg16.IsWhole) (arg17 : Memref sig .tc .vmem
  S128x1024 .bf16) (harg17 : arg17.IsWhole) (arg18 : Memref sig .tc .vmem S1x1024 .f32) (harg18 : arg18.IsWhole)
  (arg19 : Memref sig .tc .vmem S1024x1024 .bf16) (harg19 : arg19.IsWhole) (arg20 : Memref sig .tc .vmem S1x512x1024
  .bf16) (harg20 : arg20.IsWhole) (arg21 : Memref sig .tc .vmem S1x4x512x128 .bf16) (harg21 : arg21.IsWhole) (arg22
  : Memref sig .tc .vmem S1x4x512x128 .bf16) (harg22 : arg22.IsWhole) (arg23 : Memref sig .tc .vmem S1x512x1024
  .bf16) (harg23 : arg23.IsWhole) (arg24 : Memref sig .tc .vmem S1x512x1024 .bf16) (harg24 : arg24.IsWhole) (arg25 :
  Memref sig .tc .vmem S1x512x1024 .bf16) (harg25 : arg25.IsWhole) (arg26 : Memref sig .tc .vmem S1x4x512x256 .bf16)
  (harg26 : arg26.IsWhole) (arg27 : Memref sig .tc .vmem S1x4x1024x128 .bf16) (harg27 : arg27.IsWhole) (arg28 :
  Memref sig .tc .vmem S1x4x8x512 .f32) (harg28 : arg28.IsWhole) (arg29 : Memref sig .tc .vmem S4x256x128 .f32)
  (harg29 : arg29.IsWhole) (arg30 : Memref sig .tc .vmem S512x1024 .bf16) (harg30 : arg30.IsWhole)
  (x0 : Vec Ideal S1x512x1024 .f32) (x1 x2 : Vec Ideal S1x16x1024 .f32) (x3 : Vec Ideal S1x3x1024 .f32)
  (x4 : Vec Ideal S1x1024 .f32) (x5 x6 x7 x8 x9 x10 : Vec Ideal S1024x1024 .bf16) (x11 : Vec Ideal S1024x128 .bf16)
  (x12 : Vec Ideal S1024x1024 .bf16) (x13 : Vec Ideal S3x1024 .f32) (x14 : Vec Ideal S1x1024 .f32)
  (x15 : Vec Ideal S128x1024 .bf16) (x16 : Vec Ideal S1x1024 .f32) (x17 : Vec Ideal S1024x1024 .bf16)

set_option maxHeartbeats 1000000 in
/-- The query features. -/
theorem query_block :
    (∀ h : cond0_0 i,
      out0_A_18 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17
        = Tile.queryBlock x0 x3 x4 x9 x11 x15 x16)
    ∧ ∀ (h : ¬cond0_0 i) (xs : Vec Ideal S4x256x128 .f32),
      out0_B_18 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17 xs
        = Tile.queryBlock x0 x3 x4 x9 x11 x15 x16 := by
  constructor
  all_goals
    intros
    first
      | (unfold out0_A_18; rw [View.read_writes_junk_eq_canon]; funext y
         refine View.canon_apply_of_pieces _ _ (View.PiecesOf.mem ?_) y (by apply cover0_A_18); unfold kernelRun0_A)
      | (unfold out0_B_18; rw [View.read_writes_junk_eq_canon]; funext y
         refine View.canon_apply_of_pieces _ _ (View.PiecesOf.mem ?_) y (by apply cover0_B_18); unfold kernelRun0_B)
    dsimp only
    sl_unfold_words
    simp only [View.readAt_eq_ld, harg2.read_unread, harg3.read_unread, harg5.read_unread, harg6.read_unread,
      harg11.read_unread, harg13.read_unread, harg17.read_unread, harg18.read_unread]
    have er := Tile.rates_eq_loads x0 x3 x4 x11 x15 x16
    unfold k0_pay9 k0_pay5 k0_pay4 k0_pay3 at er
    dsimp only at er
    rw [er _ _ _ (fun a b => by pointwise [harg13.read_unread]) (fun a b => by pointwise [harg17.read_unread])
      (fun a => by pointwise [harg18.read_unread]) _ _ _ _ (fun k => by pointwise [harg5.read_unread])
      (fun k => by pointwise [harg6.read_unread]) (fun k => by pointwise [harg5.read_unread])
      fun t k => by pointwise [harg2.read_unread]]
    have eh := Tile.hidden_eq x0 x3 x4
    unfold k0_pay5 k0_pay4 k0_pay3 at eh
    dsimp only at eh
    rw [eh _ _ _ _ (fun k => by pointwise) (fun k => by pointwise) (fun k => by pointwise) (fun t k => by pointwise)]
    rw [Tile.queries_eq x0 x3 x4 x9 _ fun a b => by pointwise]
    refine ⟨?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, trivial⟩
    all_goals
      intro z
      idx_vars z
      rw [emb_queries _ _ (by decide) (by decide) (by decide) (by decide), Tile.queryBlock_mk]
      unfold_payloads
      pointwise
      simp only [Tile.period_word, Tile.sign_word, Tile.wrapped_here, Tile.wrapped_again, Tile.incl_eq, Tile.incl_mid,
        Tile.incl_end, Tile.strict_eq, Tile.strict_mid, Tile.rateRows_mk, Decay.joined]
      simp only [Tile.queryRows_mk, Decay.sub_eq, Tile.exp2_def, Decay.clamped, Decay.recip_eq, Nat.reduceMul, Nat.zero_add,
        ← Nat.add_assoc, Nat.reduceAdd,
        Features.query, Nat.reduceDiv, Nat.reduceMod, Nat.reduceEqDiff, reduceIte, one_ne_zero, Fin.coe_ofNat_eq_mod, Features.fwd, Features.bwd,
        Decay.fwd, Decay.bwd, Decay.upto, Decay.before, Tile.chunk, Features.left, Features.right, -Fin.reduceFinMk]

/-- The forward key features. -/
theorem keysF_block :
    (∀ h : cond0_0 i,
      out0_A_19 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17
        = Tile.keyBlockF x0 x3 x4 x9 x11 x15 x16)
    ∧ ∀ (h : ¬cond0_0 i) (xs : Vec Ideal S4x256x128 .f32),
      out0_B_19 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17 xs
        = Tile.keyBlockF x0 x3 x4 x9 x11 x15 x16 := by
  constructor
  all_goals
    intros
    first
      | (unfold out0_A_19; rw [View.read_writes_junk_eq_canon]; funext y
         refine View.canon_apply_of_pieces _ _ (View.PiecesOf.mem ?_) y (by apply cover0_A_19); unfold kernelRun0_A)
      | (unfold out0_B_19; rw [View.read_writes_junk_eq_canon]; funext y
         refine View.canon_apply_of_pieces _ _ (View.PiecesOf.mem ?_) y (by apply cover0_B_19); unfold kernelRun0_B)
    dsimp only
    sl_unfold_words
    simp only [View.readAt_eq_ld, harg2.read_unread, harg3.read_unread, harg5.read_unread, harg6.read_unread,
      harg11.read_unread, harg13.read_unread, harg17.read_unread, harg18.read_unread]
    have er := Tile.rates_eq_loads x0 x3 x4 x11 x15 x16
    unfold k0_pay9 k0_pay5 k0_pay4 k0_pay3 at er
    dsimp only at er
    rw [er _ _ _ (fun a b => by pointwise [harg13.read_unread]) (fun a b => by pointwise [harg17.read_unread])
      (fun a => by pointwise [harg18.read_unread]) _ _ _ _ (fun k => by pointwise [harg5.read_unread])
      (fun k => by pointwise [harg6.read_unread]) (fun k => by pointwise [harg5.read_unread])
      fun t k => by pointwise [harg2.read_unread]]
    have eh := Tile.hidden_eq x0 x3 x4
    unfold k0_pay5 k0_pay4 k0_pay3 at eh
    dsimp only at eh
    rw [eh _ _ _ _ (fun k => by pointwise) (fun k => by pointwise) (fun k => by pointwise) (fun t k => by pointwise)]
    rw [Tile.keys_eq x0 x3 x4 x9 _ fun a b => by pointwise]
    refine ⟨?_, ?_, ?_, ?_, ?_, ?_, ?_, ?_, trivial⟩
    all_goals
      intro z
      idx_vars z
      rw [emb_keys _ _ (by decide) (by decide), Tile.keyBlockF_mk]
      unfold_payloads
      pointwise
      simp only [Tile.period_word, Tile.sign_word, Tile.wrapped_here, Tile.wrapped_again, Tile.incl_eq, Tile.incl_mid,
        Tile.incl_end, Tile.strict_eq, Tile.strict_mid, Tile.rateRows_mk, Decay.joined]
      simp only [Tile.keyRows_mk, Decay.sub_eq, Tile.exp2_def, Decay.clamped, Decay.recip_eq, Nat.reduceMul, Nat.zero_add,
        ← Nat.add_assoc, Nat.reduceAdd]

/-- The backward key features. -/
theorem keysB_block :
    (∀ h : cond0_0 i,
      out0_A_20 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17
        = Tile.keyBlockB x0 x3 x4 x9 x11 x15 x16)
    ∧ ∀ (h : ¬cond0_0 i) (xs : Vec Ideal S4x256x128 .f32),
      out0_B_20 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17 xs
        = Tile.keyBlockB x0 x3 x4 x9 x11 x15 x16 := by
  constructor
  all_goals
    intros
    first
      | (unfold out0_A_20; rw [View.read_writes_junk_eq_canon]; funext y
         refine View.canon_apply_of_pieces _ _ (View.PiecesOf.mem ?_) y (by apply cover0_A_20); unfold kernelRun0_A)
      | (unfold out0_B_20; rw [View.read_writes_junk_eq_canon]; funext y
         refine View.canon_apply_of_pieces _ _ (View.PiecesOf.mem ?_) y (by apply cover0_B_20); unfold kernelRun0_B)
    dsimp only
    sl_unfold_words
    simp only [View.readAt_eq_ld, harg2.read_unread, harg3.read_unread, harg5.read_unread, harg6.read_unread,
      harg11.read_unread, harg13.read_unread, harg17.read_unread, harg18.read_unread]
    have er := Tile.rates_eq_loads x0 x3 x4 x11 x15 x16
    unfold k0_pay9 k0_pay5 k0_pay4 k0_pay3 at er
    dsimp only at er
    rw [er _ _ _ (fun a b => by pointwise [harg13.read_unread]) (fun a b => by pointwise [harg17.read_unread])
      (fun a => by pointwise [harg18.read_unread]) _ _ _ _ (fun k => by pointwise [harg5.read_unread])
      (fun k => by pointwise [harg6.read_unread]) (fun k => by pointwise [harg5.read_unread])
      fun t k => by pointwise [harg2.read_unread]]
    have eh := Tile.hidden_eq x0 x3 x4
    unfold k0_pay5 k0_pay4 k0_pay3 at eh
    dsimp only at eh
    rw [eh _ _ _ _ (fun k => by pointwise) (fun k => by pointwise) (fun k => by pointwise) (fun t k => by pointwise)]
    rw [Tile.keys_eq x0 x3 x4 x9 _ fun a b => by pointwise]
    refine ⟨?_, ?_, ?_, ?_, ?_, ?_, ?_, ?_, trivial⟩
    all_goals
      intro z
      idx_vars z
      rw [emb_keys _ _ (by decide) (by decide), Tile.keyBlockB_mk]
      unfold_payloads
      pointwise
      simp only [Tile.period_word, Tile.sign_word, Tile.wrapped_here, Tile.wrapped_again, Tile.incl_eq, Tile.incl_mid,
        Tile.incl_end, Tile.strict_eq, Tile.strict_mid, Tile.rateRows_mk, Decay.joined]
      simp only [Tile.keyRows_mk, Decay.sub_eq, Tile.exp2_def, Decay.clamped, Decay.recip_eq, Nat.reduceMul, Nat.zero_add,
        ← Nat.add_assoc, Nat.reduceAdd]

set_option maxHeartbeats 1000000 in
/-- The decays. -/
theorem decay_block :
    (∀ h : cond0_0 i,
      out0_A_26 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17
        = Tile.decayBlock x0 x3 x4 x9 x11 x15 x16)
    ∧ ∀ (h : ¬cond0_0 i) (xs : Vec Ideal S4x256x128 .f32),
      out0_B_26 c i arg2 harg2 arg3 harg3 arg4 harg4 arg5 harg5 arg6 harg6 arg7 harg7 arg8 harg8 arg9 harg9 arg10
        harg10 arg11 harg11 arg12 harg12 arg13 harg13 arg14 harg14 arg15 harg15 arg16 harg16 arg17 harg17 arg18
        harg18 arg19 harg19 arg20 harg20 arg21 harg21 arg22 harg22 arg23 harg23 arg24 harg24 arg25 harg25 arg26
        harg26 arg27 harg27 arg28 harg28 arg29 harg29 arg30 harg30 h x0 x1 x2 x3 x4 x5 x6 x7 x8 x9 x10 x11 x12 x13
        x14 x15 x16 x17 xs
        = Tile.decayBlock x0 x3 x4 x9 x11 x15 x16 := by
  constructor
  all_goals
    intros
    first
      | (unfold out0_A_26; rw [View.read_writes_junk_eq_canon]; funext y
         refine View.canon_apply_of_pieces _ _ (View.PiecesOf.mem ?_) y (by apply cover0_A_26); unfold kernelRun0_A)
      | (unfold out0_B_26; rw [View.read_writes_junk_eq_canon]; funext y
         refine View.canon_apply_of_pieces _ _ (View.PiecesOf.mem ?_) y (by apply cover0_B_26); unfold kernelRun0_B)
    dsimp only
    sl_unfold_words
    simp only [View.readAt_eq_ld, harg2.read_unread, harg3.read_unread, harg5.read_unread, harg6.read_unread,
      harg11.read_unread, harg13.read_unread, harg17.read_unread, harg18.read_unread]
    have er := Tile.rates_eq_loads x0 x3 x4 x11 x15 x16
    unfold k0_pay9 k0_pay5 k0_pay4 k0_pay3 at er
    dsimp only at er
    rw [er _ _ _ (fun a b => by pointwise [harg13.read_unread]) (fun a b => by pointwise [harg17.read_unread])
      (fun a => by pointwise [harg18.read_unread]) _ _ _ _ (fun k => by pointwise [harg5.read_unread])
      (fun k => by pointwise [harg6.read_unread]) (fun k => by pointwise [harg5.read_unread])
      fun t k => by pointwise [harg2.read_unread]]
    refine ⟨?_, ?_, ?_, ?_, ?_, ?_, ?_, ?_, trivial⟩
    all_goals
      intro z
      idx_vars z
      rw [emb_decays _ _ (by decide) (by decide), Tile.decayBlock_mk]
      unfold_payloads
      pointwise
      obtain h | h | h : z2.val = 0 ∨ z2.val = 1 ∨ 2 ≤ z2.val := by omega
      · simp only [h, Nat.add_zero, Nat.reduceLT, reduceDIte, reduceIte, Tile.period_word, Tile.sign_word, Tile.wrapped_here, Tile.wrapped_again, Tile.incl_eq, Tile.incl_mid,
        Tile.incl_end, Tile.strict_eq, Tile.strict_mid, Tile.rateRows_mk, Decay.joined, Decay.exp2_eq, Tile.exp2_def,
          Nat.reduceMul, Nat.zero_add, Nat.reduceAdd]
      · simp only [h, Nat.add_zero, Nat.reduceLT, Nat.reduceSub, reduceDIte, reduceIte, Tile.period_word, Tile.sign_word, Tile.wrapped_here, Tile.wrapped_again, Tile.incl_eq, Tile.incl_mid,
        Tile.incl_end, Tile.strict_eq, Tile.strict_mid, Tile.rateRows_mk, Decay.joined, Decay.exp2_eq,
          Tile.exp2_def, Nat.reduceMul, Nat.zero_add, Nat.reduceAdd]
      · simp only [show ¬z2.val < 1 by omega, show ¬z2.val - 1 < 1 by omega, show ¬z2.val < 2 by omega, reduceDIte, reduceIte]

end

end Cert.TileBody

end
-- ==== Proof.FeatureArrays.lean ====
/-
  A call's arrays of features, of every chunk of every sequence (Features.lean).
-/
module

public import proofs.«01_k».proof.Proof.Features
public import Idealize.ShloMosaic.Lib.Pointwise

@[expose] public section

noncomputable section

namespace Cert.Features

open Idealize.ShloMosaic

variable (A : Branch.Arrays) (G : Gates)

/-- A token's query feature in a column: the columns go by head, direction and place in the head. -/
def queryAt (b : Fin 8) (r : Fin 8192) (j : Fin 1024) : EReal :=
  query (chunk A G b ⟨r.val / 128, by omega⟩) ⟨r.val % 128, by omega⟩ ⟨j.val / 256, by omega⟩ ⟨j.val / 128 % 2, by omega⟩
    ⟨j.val % 128, by omega⟩

/-- The query features, the key features and the decays. -/
def queries (y : Shape.Idx ⟨3, ![8, 8192, 1024]⟩) : EReal := queryAt A G (y 0) (y 1) (y 2)
def keysF (y : Shape.Idx ⟨4, ![8, 64, 512, 128]⟩) : EReal := keyF (chunk A G (y 0) (y 1)) (y 2) (y 3)
def keysB (y : Shape.Idx ⟨4, ![8, 64, 512, 128]⟩) : EReal := keyB (chunk A G (y 0) (y 1)) (y 2) (y 3)
def decays (y : Shape.Idx ⟨4, ![8, 64, 8, 512]⟩) : EReal := decay (chunk A G (y 0) (y 1)) (y 2) (y 3)

end Cert.Features

end
-- ==== Proof.FeatureSweep.lean ====
/-
  The first call's features over its grid: a point's blocks are its four chunks' part of the features of the call's arrays.
-/
module

public import proofs.«01_k».proof.Proof.TileSweep
public import proofs.«01_k».proof.Proof.FeatureBody
public import proofs.«01_k».proof.Proof.FeatureArrays

@[expose] public section

set_option maxRecDepth 16384

noncomputable section

namespace Cert.TileSweep

open Idealize.ShloMosaic Idealize.ShloMosaic.TcCoe Idealize.ShloMosaic.Tactic
open Cert.Kernel2Ideal Cert.Kernel2Ideal.Gen Cert.Kernel2Ideal.Value
open Cert.Branch (Arrays col)

/-- Where the features' windows' blocks lie. -/
theorem index_9 : ∀ t : Fin cfg0.N, win0_9.index t 0 = 0 ∧ win0_9.index t 1 = 4 :=
  (by decide +kernel : ∀ t : Fin grid0.N, win0_9.index t 0 = 0 ∧ win0_9.index t 1 = 4)
theorem index_11 : ∀ t : Fin cfg0.N, win0_11.index t 0 = 0 ∧ win0_11.index t 1 = 0 :=
  (by decide +kernel : ∀ t : Fin grid0.N, win0_11.index t 0 = 0 ∧ win0_11.index t 1 = 0)
theorem index_15 : ∀ t : Fin cfg0.N, win0_15.index t 0 = 0 ∧ win0_15.index t 1 = 0 :=
  (by decide +kernel : ∀ t : Fin grid0.N, win0_15.index t 0 = 0 ∧ win0_15.index t 1 = 0)
theorem index_16 : ∀ t : Fin cfg0.N, win0_16.index t 0 = 0 ∧ win0_16.index t 1 = 0 :=
  (by decide +kernel : ∀ t : Fin grid0.N, win0_16.index t 0 = 0 ∧ win0_16.index t 1 = 0)
theorem index_18 : ∀ t : Fin cfg0.N, win0_18.index t 0 = t.val / 16 ∧ win0_18.index t 1 = 15 - t.val % 16 ∧ win0_18.index t 2 = 0 :=
  (by decide +kernel : ∀ t : Fin grid0.N, win0_18.index t 0 = t.val / 16 ∧ win0_18.index t 1 = 15 - t.val % 16 ∧ win0_18.index t 2 = 0)
theorem index_19 : ∀ t : Fin cfg0.N, win0_19.index t 0 = t.val / 16 ∧ win0_19.index t 1 = 15 - t.val % 16 ∧ win0_19.index t 2 = 0 ∧ win0_19.index t 3 = 0 :=
  (by decide +kernel : ∀ t : Fin grid0.N, win0_19.index t 0 = t.val / 16 ∧ win0_19.index t 1 = 15 - t.val % 16 ∧ win0_19.index t 2 = 0 ∧ win0_19.index t 3 = 0)
theorem index_20 : ∀ t : Fin cfg0.N, win0_20.index t 0 = t.val / 16 ∧ win0_20.index t 1 = 15 - t.val % 16 ∧ win0_20.index t 2 = 0 ∧ win0_20.index t 3 = 0 :=
  (by decide +kernel : ∀ t : Fin grid0.N, win0_20.index t 0 = t.val / 16 ∧ win0_20.index t 1 = 15 - t.val % 16 ∧ win0_20.index t 2 = 0 ∧ win0_20.index t 3 = 0)
theorem index_26 : ∀ t : Fin cfg0.N, win0_26.index t 0 = t.val / 16 ∧ win0_26.index t 1 = 15 - t.val % 16 ∧ win0_26.index t 2 = 0 ∧ win0_26.index t 3 = 0 :=
  (by decide +kernel : ∀ t : Fin grid0.N, win0_26.index t 0 = t.val / 16 ∧ win0_26.index t 1 = 15 - t.val % 16 ∧ win0_26.index t 2 = 0 ∧ win0_26.index t 3 = 0)

/-- An index of a rank-4 array by its coordinates. -/
theorem ix4_of {a b c d : ℕ} {y : Shape.Idx ⟨4, ![a, b, c, d]⟩} {i : Fin a} {j : Fin b} {k : Fin c} {l : Fin d}
    (h0 : (y 0).val = i.val) (h1 : (y 1).val = j.val) (h2 : (y 2).val = k.val) (h3 : (y 3).val = l.val) : y = ix4 i j k l := by
  funext e
  apply Fin.ext
  match e with
  | ⟨0, _⟩ => exact h0
  | ⟨1, _⟩ => exact h1
  | ⟨2, _⟩ => exact h2
  | ⟨3, _⟩ => exact h3

variable (m : (ℓ : Loc nD τ sig) → Buf (Elt Ideal) ℓ) (c : Dev nD) (t : Fin cfg0.N)

/-- The weights of the call's gates, as the run finds them. -/
def gates : Features.Gates where
  lr := fun l k => m ((c : Thread nD τ).loc main_arg4) (ix2 k l)
  wg := fun j l => m ((c : Thread nD τ).loc main_arg8) (ix2 l j)
  bias := fun j => m ((c : Thread nD τ).loc main_arg9) (ix2 (0 : Fin 1) j)

/-- The blocks of the queries' and keys' weights, and of the gates'. -/
theorem iblk_9 (k j : Fin 1024) :
    (X0_9 m c t : Vec Ideal S1024x1024 .bf16) (ix2 k j) = (arrays m c).w k (col 4 j) := by
  obtain ⟨e0, e1⟩ := index_9 t
  unfold X0_9 Pipeline.Window.fill
  rw [dif_pos (moved0_9 t _)]
  unfold iblk
  rw [View.read_apply]
  exact congrArg (m ((c : Thread nD τ).loc main_arg3)) (ix2_of
    (by show win0_9.index t 0 * 1024 + 1 * k.val = k.val; omega)
    (by show win0_9.index t 1 * 1024 + 1 * j.val = 1024 * 4 + j.val; omega))
theorem iblk_11 (k : Fin 1024) (j : Fin 128) : (iblk m c 11 t : Vec Ideal S1024x128 .bf16) (ix2 k j) = m ((c : Thread nD τ).loc main_arg4) (ix2 k j) := by
  obtain ⟨e0, e1⟩ := index_11 t
  unfold iblk
  rw [View.read_apply]
  exact congrArg (m ((c : Thread nD τ).loc main_arg4)) (ix2_of
    (by show win0_11.index t 0 * 1024 + 1 * k.val = k.val; omega)
    (by show win0_11.index t 1 * 128 + 1 * j.val = j.val; omega))
theorem iblk_15 (k : Fin 128) (j : Fin 1024) : (iblk m c 15 t : Vec Ideal S128x1024 .bf16) (ix2 k j) = m ((c : Thread nD τ).loc main_arg8) (ix2 k j) := by
  obtain ⟨e0, e1⟩ := index_15 t
  unfold iblk
  rw [View.read_apply]
  exact congrArg (m ((c : Thread nD τ).loc main_arg8)) (ix2_of
    (by show win0_15.index t 0 * 128 + 1 * k.val = k.val; omega)
    (by show win0_15.index t 1 * 1024 + 1 * j.val = j.val; omega))
theorem iblk_16 (k : Fin 1) (j : Fin 1024) : (iblk m c 16 t : Vec Ideal S1x1024 .f32) (ix2 k j) = m ((c : Thread nD τ).loc main_arg9) (ix2 k j) := by
  obtain ⟨e0, e1⟩ := index_16 t
  unfold iblk
  rw [View.read_apply]
  exact congrArg (m ((c : Thread nD τ).loc main_arg9)) (ix2_of
    (by show win0_16.index t 0 * 1 + 1 * k.val = k.val; omega)
    (by show win0_16.index t 1 * 1024 + 1 * j.val = j.val; omega))

/-- So a chunk of a point's tile is one of its batch's chunks. -/
theorem chunk_eq (n : Fin 4) :
    Tile.chunk (iblk m c 0 t) (iblk m c 3 t) (iblk m c 4 t) (X0_9 m c t) (iblk m c 11 t) (iblk m c 15 t) (iblk m c 16 t) n
      = Features.chunk (arrays m c) (gates m c) (batch t) ⟨4 * (tile t).val + n.val, by omega⟩ := by
  have e : ∀ s : Fin 128, row (tile t) ⟨128 * n.val + s.val, by omega⟩
      = Features.token ⟨4 * (tile t).val + n.val, by omega⟩ s := fun s => by
    apply Fin.ext
    show 512 * (tile t).val + (128 * n.val + s.val) = 128 * (4 * (tile t).val + n.val) + s.val
    omega
  unfold Tile.chunk Features.chunk Tile.gateArg
  simp only [hidden_eq (part m c t), e, iblk_9, iblk_11, iblk_15, iblk_16]
  rfl

/-- Every point writes each of these blocks back. -/
theorem flush_features : ∀ t : Fin cfg0.N, (cfg0.win 18).flush t = true ∧ (cfg0.win 19).flush t = true
    ∧ (cfg0.win 20).flush t = true ∧ (cfg0.win 26).flush t = true := by
  decide +kernel

/-- The query features a point writes, the key features and the decays. -/
theorem flushed_query (r : Fin 512) (j : Fin 1024) : (dats m 0 c).flushed 18 t (ix3 (0 : Fin 1) r j)
    = Features.queryAt (arrays m c) (gates m c) (batch t) (row (tile t) r) j := by
  have e : ∀ y, (dats m 0 c).flushed 18 t y = Tile.queryBlock (iblk m c 0 t) (iblk m c 3 t) (iblk m c 4 t) (X0_9 m c t)
      (iblk m c 11 t) (iblk m c 15 t) (iblk m c 16 t) y := fun y => by
    by_cases h0 : t.val % 16 = 0
    · rw [flushed18_A m c t h0, (TileBody.query_block ..).1]
    · rw [flushed18_B m c t h0, (TileBody.query_block ..).2]
  have e1 : (⟨4 * (tile t).val + r.val / 128, by omega⟩ : Fin 64) = ⟨(row (tile t) r).val / 128, by omega⟩ := Fin.ext (by
    show 4 * (tile t).val + r.val / 128 = (512 * (tile t).val + r.val) / 128
    omega)
  have e2 : (⟨r.val % 128, by omega⟩ : Fin 128) = ⟨(row (tile t) r).val % 128, by omega⟩ := Fin.ext (by
    show r.val % 128 = (512 * (tile t).val + r.val) % 128
    omega)
  unfold Features.queryAt
  rw [← e1, ← e2]
  exact (e _).trans (congrArg (fun C => Features.query C _ _ _ _) (chunk_eq m c t ⟨r.val / 128, by omega⟩))
theorem flushed_keysF (n : Fin 4) (i : Fin 512) (j : Fin 128) : (dats m 0 c).flushed 19 t (ix4 (0 : Fin 1) n i j)
    = Features.keyF (Features.chunk (arrays m c) (gates m c) (batch t) ⟨4 * (tile t).val + n.val, by omega⟩) i j := by
  have e : ∀ y, (dats m 0 c).flushed 19 t y = Tile.keyBlockF (iblk m c 0 t) (iblk m c 3 t) (iblk m c 4 t) (X0_9 m c t)
      (iblk m c 11 t) (iblk m c 15 t) (iblk m c 16 t) y := fun y => by
    by_cases h0 : t.val % 16 = 0
    · rw [flushed19_A m c t h0, (TileBody.keysF_block ..).1]
    · rw [flushed19_B m c t h0, (TileBody.keysF_block ..).2]
  exact (e _).trans (congrArg (fun C => Features.keyF C i j) (chunk_eq m c t n))
theorem flushed_keysB (n : Fin 4) (i : Fin 512) (j : Fin 128) : (dats m 0 c).flushed 20 t (ix4 (0 : Fin 1) n i j)
    = Features.keyB (Features.chunk (arrays m c) (gates m c) (batch t) ⟨4 * (tile t).val + n.val, by omega⟩) i j := by
  have e : ∀ y, (dats m 0 c).flushed 20 t y = Tile.keyBlockB (iblk m c 0 t) (iblk m c 3 t) (iblk m c 4 t) (X0_9 m c t)
      (iblk m c 11 t) (iblk m c 15 t) (iblk m c 16 t) y := fun y => by
    by_cases h0 : t.val % 16 = 0
    · rw [flushed20_A m c t h0, (TileBody.keysB_block ..).1]
    · rw [flushed20_B m c t h0, (TileBody.keysB_block ..).2]
  exact (e _).trans (congrArg (fun C => Features.keyB C i j) (chunk_eq m c t n))
theorem flushed_decay (n : Fin 4) (i : Fin 8) (j : Fin 512) : (dats m 0 c).flushed 26 t (ix4 (0 : Fin 1) n i j)
    = Features.decay (Features.chunk (arrays m c) (gates m c) (batch t) ⟨4 * (tile t).val + n.val, by omega⟩) i j := by
  have e : ∀ y, (dats m 0 c).flushed 26 t y = Tile.decayBlock (iblk m c 0 t) (iblk m c 3 t) (iblk m c 4 t) (X0_9 m c t)
      (iblk m c 11 t) (iblk m c 15 t) (iblk m c 16 t) y := fun y => by
    by_cases h0 : t.val % 16 = 0
    · rw [flushed26_A m c t h0, (TileBody.decay_block ..).1]
    · rw [flushed26_B m c t h0, (TileBody.decay_block ..).2]
  exact (e _).trans (congrArg (fun C => Features.decay C i j) (chunk_eq m c t n))

/-- The query features, as the run leaves them. -/
theorem result_query :
    ((dats m 0 c).arrAt 18 cfg0.N : Vec Ideal S8x8192x1024 .bf16) = Features.queries (arrays m c) (gates m c) := by
  funext y
  idx_vars y
  have e := congrFun (blocks18 m c (point y0 y1) (flush_features _).1) (ix3 (0 : Fin 1) (place y1) y2)
  rw [View.read_apply] at e
  rw [flushed_query, point_batch, point_row] at e
  obtain ⟨e0, e1, e2⟩ := index_18 (point y0 y1)
  refine Eq.trans (congrArg _ (at_point y0 y1 y2 ?_ ?_ ?_).symm) e
  · show win0_18.index (point y0 y1) 0 * 1 + 1 * 0 = _; rw [e0]
  · show win0_18.index (point y0 y1) 1 * 512 + 1 * (place y1).val = _; rw [e1]
  · show win0_18.index (point y0 y1) 2 * 1024 + 1 * y2.val = _; rw [e2]

/-- The point whose block holds a chunk, and the chunk's place in it. -/
def chunkPoint (b : Fin 8) (n : Fin 64) : Fin cfg0.N := ⟨16 * b.val + (15 - n.val / 4), by have : cfg0.N = 128 := N_0; omega⟩
def chunkPlace (n : Fin 64) : Fin 4 := ⟨n.val % 4, by omega⟩
theorem chunk_batch (b : Fin 8) (n : Fin 64) : batch (chunkPoint b n) = b := by
  apply Fin.ext; show (16 * b.val + (15 - n.val / 4)) / 16 = b.val; omega
theorem chunk_place (b : Fin 8) (n : Fin 64) (h : 4 * (tile (chunkPoint b n)).val + (chunkPlace n).val < 64) :
    (⟨4 * (tile (chunkPoint b n)).val + (chunkPlace n).val, h⟩ : Fin 64) = n := by
  apply Fin.ext; show 4 * (15 - (16 * b.val + (15 - n.val / 4)) % 16) + n.val % 4 = n.val; omega

/-- The index a block's index is in its array of chunks. -/
theorem at_chunk {p q : ℕ} {y : Shape.Idx ⟨4, ![8, 64, p, q]⟩} (b : Fin 8) (n : Fin 64) {i : Fin p} {j : Fin q}
    (h0 : (y 0).val = (chunkPoint b n).val / 16 * 1 + 1 * 0)
    (h1 : (y 1).val = (15 - (chunkPoint b n).val % 16) * 4 + 1 * (chunkPlace n).val) (h2 : (y 2).val = 0 + 1 * i.val)
    (h3 : (y 3).val = 0 + 1 * j.val) : y = ix4 b n i j := by
  have hb : (chunkPoint b n).val / 16 = b.val := congrArg Fin.val (chunk_batch b n)
  have hn : 4 * (15 - (chunkPoint b n).val % 16) + (chunkPlace n).val = n.val := by
    show 4 * (15 - (16 * b.val + (15 - n.val / 4)) % 16) + n.val % 4 = n.val; omega
  exact ix4_of (by omega) (by omega) (by omega) (by omega)

/-- The forward key features, as the run leaves them. -/
theorem result_keysF :
    ((dats m 0 c).arrAt 19 cfg0.N : Vec Ideal S8x64x512x128 .bf16) = Features.keysF (arrays m c) (gates m c) := by
  funext y
  idx_vars y
  have e := congrFun (blocks19 m c (chunkPoint y0 y1) (flush_features _).2.1) (ix4 (0 : Fin 1) (chunkPlace y1) y2 y3)
  rw [View.read_apply] at e
  rw [flushed_keysF, chunk_batch, chunk_place] at e
  obtain ⟨e0, e1, e2, e3⟩ := index_19 (chunkPoint y0 y1)
  refine Eq.trans (congrArg _ (at_chunk y0 y1 ?_ ?_ ?_ ?_).symm) e
  · show win0_19.index (chunkPoint y0 y1) 0 * 1 + 1 * 0 = _; rw [e0]
  · show win0_19.index (chunkPoint y0 y1) 1 * 4 + 1 * (chunkPlace y1).val = _; rw [e1]
  · show win0_19.index (chunkPoint y0 y1) 2 * 512 + 1 * y2.val = _; rw [e2, Nat.zero_mul]
  · show win0_19.index (chunkPoint y0 y1) 3 * 128 + 1 * y3.val = _; rw [e3, Nat.zero_mul]

/-- The backward key features, as the run leaves them. -/
theorem result_keysB :
    ((dats m 0 c).arrAt 20 cfg0.N : Vec Ideal S8x64x512x128 .bf16) = Features.keysB (arrays m c) (gates m c) := by
  funext y
  idx_vars y
  have e := congrFun (blocks20 m c (chunkPoint y0 y1) (flush_features _).2.2.1) (ix4 (0 : Fin 1) (chunkPlace y1) y2 y3)
  rw [View.read_apply] at e
  rw [flushed_keysB, chunk_batch, chunk_place] at e
  obtain ⟨e0, e1, e2, e3⟩ := index_20 (chunkPoint y0 y1)
  refine Eq.trans (congrArg _ (at_chunk y0 y1 ?_ ?_ ?_ ?_).symm) e
  · show win0_20.index (chunkPoint y0 y1) 0 * 1 + 1 * 0 = _; rw [e0]
  · show win0_20.index (chunkPoint y0 y1) 1 * 4 + 1 * (chunkPlace y1).val = _; rw [e1]
  · show win0_20.index (chunkPoint y0 y1) 2 * 512 + 1 * y2.val = _; rw [e2, Nat.zero_mul]
  · show win0_20.index (chunkPoint y0 y1) 3 * 128 + 1 * y3.val = _; rw [e3, Nat.zero_mul]

/-- The decays, as the run leaves them. -/
theorem result_decay :
    ((dats m 0 c).arrAt 26 cfg0.N : Vec Ideal S8x64x8x512 .f32) = Features.decays (arrays m c) (gates m c) := by
  funext y
  idx_vars y
  have e := congrFun (blocks26 m c (chunkPoint y0 y1) (flush_features _).2.2.2) (ix4 (0 : Fin 1) (chunkPlace y1) y2 y3)
  rw [View.read_apply] at e
  rw [flushed_decay, chunk_batch, chunk_place] at e
  obtain ⟨e0, e1, e2, e3⟩ := index_26 (chunkPoint y0 y1)
  refine Eq.trans (congrArg _ (at_chunk y0 y1 ?_ ?_ ?_ ?_).symm) e
  · show win0_26.index (chunkPoint y0 y1) 0 * 1 + 1 * 0 = _; rw [e0]
  · show win0_26.index (chunkPoint y0 y1) 1 * 4 + 1 * (chunkPlace y1).val = _; rw [e1]
  · show win0_26.index (chunkPoint y0 y1) 2 * 8 + 1 * y2.val = _; rw [e2, Nat.zero_mul]
  · show win0_26.index (chunkPoint y0 y1) 3 * 512 + 1 * y3.val = _; rw [e3, Nat.zero_mul]

end Cert.TileSweep

end
-- ==== Proof.RefBranch.lean ====
/-
  The first call's reference, cut at the arrays its mathematics names and read at a position: its results are the
  convolution branch (Branch.lean) over its arguments, wherever the gate's argument is a real number.
-/
module

public import proofs.«01_k».proof.Proof.Gen.Reference2Ideal.Run
public import proofs.«01_k».proof.Proof.Branch
public import proofs.«01_k».proof.Proof.Finite
public import Idealize.ShloMosaic.Lib.Pointwise

@[expose] public section

set_option maxRecDepth 8192

noncomputable section

namespace Cert.RefBranch

open Idealize.ShloMosaic Idealize.ShloMosaic.TcCoe Idealize.ShloMosaic.Tactic
open Cert.Reference2Ideal Cert.Reference2Ideal.Gen

variable (x : FVec Ideal S8x8192x1024 .f32) (md : FVec Ideal S8x3x1024 .f32) (gain : FVec Ideal S1x1024 .f32)
  (w : FVec Ideal S1024x9248 .bf16) (wm : FVec Ideal S1024x1024 .bf16) (cw : FVec Ideal S3x1024 .f32)
  (cb : FVec Ideal S1x1024 .f32) (wo : FVec Ideal S1024x1024 .bf16) (h p z : FVec Ideal S8x8192x1024 .f32)

/-- The arguments, as the computation's arrays. -/
def arrays : Branch.Arrays where
  x := fun i j k => x (ix3 i j k)
  md := fun i j k => md (ix3 i j k)
  gain := fun j => gain (ix2 (0 : Fin 1) j)
  w := fun i j => w (ix2 i j)
  wm := fun i j => wm (ix2 i j)
  cw := fun i j => cw (ix2 i j)
  cb := fun j => cb (ix2 (0 : Fin 1) j)
  wo := fun i j => wo (ix2 i j)

/-- A row vector, and a batch's row vector, over every token. -/
def spread (r : FVec Ideal S1x1024 .f32) : FVec Ideal S8x8192x1024 .f32 :=
  broadcastInDim S8x8192x1024 ![0, 1, 2] bcast_S1x1x1024_S8x8192x1024_0_1_2
    (broadcastInDim S1x1x1024 ![1, 2] bcast_S1x1024_S1x1x1024_1_2 r)
def spreadBatch (r : FVec Ideal S8x1x1024 .f32) : FVec Ideal S8x8192x1024 .f32 :=
  broadcastInDim S8x8192x1024 ![0, 1, 2] bcast_S8x1x1024_S8x8192x1024_0_1_2 r

/-- The modulated hidden states. -/
def hidden : FVec Ideal S8x8192x1024 .f32 :=
  addf (mulf (mulf (mulf x (broadcastInDim S8x8192x1024 ![0, 1, 2] bcast_S8x8192x1_S8x8192x1024_0_1_2
      (Host.rsqrt (addf (Host.divf
        (broadcastInDim S8x8192x1 ![0, 1] bcast_S8x8192_S8x8192x1_0_1
          (Host.reduceAdd (mulf x x) (constant S_ .f32 0x00000000#32) reducesTo_S8x8192x1024_S8x8192_d2 h_S_))
        (broadcastInDim S8x8192x1 ![] bcast_S_S8x8192x1 (constant S_ .f32 0x44800000#32)))
        (broadcastInDim S8x8192x1 ![] bcast_S_S8x8192x1 (constant S_ .f32 0x358637BD#32)))))) (spread gain))
      (spreadBatch (addf (broadcastInDim S8x1x1024 ![] bcast_S_S8x1x1024 (constant S_ .f32 0x3F800000#32))
        (extractStridedSlice S8x1x1024 ![0, 1, 0] md slices_S8x3x1024_S8x1x1024_0_1_0))))
    (spreadBatch (extractStridedSlice S8x1x1024 ![0, 0, 0] md slices_S8x3x1024_S8x1x1024_0_0_0))

/-- A projection of every token's row. -/
def project (c : FVec Ideal S1024x1024 .bf16) : FVec Ideal S8x8192x1024 .f32 :=
  Host.dotGeneral dot_S8x8192x1024_S1024x1024_S8x8192x1024_2_0_01_1_n_n none h (extf .f32 c bitsLt_bf16_f32)

/-- The logistic function of every element. -/
def logistic : FVec Ideal S8x8192x1024 .f32 :=
  Host.divf (broadcastInDim S8x8192x1024 ![] bcast_S_S8x8192x1024 (constant S_ .f32 0x3F800000#32))
    (addf (broadcastInDim S8x8192x1024 ![] bcast_S_S8x8192x1024 (constant S_ .f32 0x3F800000#32))
      (Host.exp (Host.negf z)))

/-- One token's worth of zeros, before or after a sequence. -/
def edge : FVec Ideal S8x1x1024 .f32 := broadcastInDim S8x1x1024 ![] bcast_S_S8x1x1024 (constant S_ .f32 0x00000000#32)

/-- The convolution of `p` along the sequence. -/
def conv : FVec Ideal S8x8192x1024 .f32 :=
  addf (addf (addf
    (mulf (concatenate S8x8192x1024 1
        [⟨S8x1x1024, edge⟩, ⟨S8x8191x1024, extractStridedSlice S8x8191x1024 ![0, 0, 0] p slices_S8x8192x1024_S8x8191x1024_0_0_0⟩]
        concatenates_S8x1x1024_S8x8191x1024_S8x8192x1024_d1)
      (spread (extractStridedSlice S1x1024 ![0, 0] cw slices_S3x1024_S1x1024_0_0)))
    (mulf p (spread (extractStridedSlice S1x1024 ![1, 0] cw slices_S3x1024_S1x1024_1_0))))
    (mulf (concatenate S8x8192x1024 1
        [⟨S8x8191x1024, extractStridedSlice S8x8191x1024 ![0, 1, 0] p slices_S8x8192x1024_S8x8191x1024_0_1_0⟩, ⟨S8x1x1024, edge⟩]
        concatenates_S8x8191x1024_S8x1x1024_S8x8192x1024_d1)
      (spread (extractStridedSlice S1x1024 ![2, 0] cw slices_S3x1024_S1x1024_2_0))))
    (spread cb)

/-- The parts of the joined projection the branch reads, and the values'. -/
def part0 : FVec Ideal S1024x1024 .bf16 := extractStridedSlice S1024x1024 ![0, 0] w slices_S1024x9248_S1024x1024_0_0
def part1 : FVec Ideal S1024x1024 .bf16 := extractStridedSlice S1024x1024 ![0, 1024] w slices_S1024x9248_S1024x1024_0_1024
def part2 : FVec Ideal S1024x1024 .bf16 := extractStridedSlice S1024x1024 ![0, 2048] w slices_S1024x9248_S1024x1024_0_2048
def part3 : FVec Ideal S1024x1024 .bf16 := extractStridedSlice S1024x1024 ![0, 3072] w slices_S1024x9248_S1024x1024_0_3072
def part5 : FVec Ideal S1024x1024 .bf16 := extractStridedSlice S1024x1024 ![0, 5120] w slices_S1024x9248_S1024x1024_0_5120

/-- The branch's contribution, from the hidden states. -/
def out : FVec Ideal S8x8192x1024 .f32 :=
  mulf (logistic (project h wm))
    (project (mulf (mulf (project h (part0 w)) (conv cw cb (mulf (project h (part1 w)) (project h (part2 w)))))
      (mulf (project h (part3 w)) (logistic (project h (part3 w))))) wo)

theorem spread_apply (r : FVec Ideal S1x1024 .f32) (b : Fin 8) (t : Fin 8192) (j : Fin 1024) :
    spread r (ix3 b t j) = r (ix2 (0 : Fin 1) j) := by unfold spread; pointwise
theorem spreadBatch_apply (r : FVec Ideal S8x1x1024 .f32) (b : Fin 8) (t : Fin 8192) (j : Fin 1024) :
    spreadBatch r (ix3 b t j) = r (ix3 b (0 : Fin 1) j) := by unfold spreadBatch; pointwise

theorem hidden_apply (b : Fin 8) (t : Fin 8192) (j : Fin 1024) :
    hidden x md gain (ix3 b t j) = Branch.hidden (arrays x md gain w wm cw cb wo) b t j := by
  unfold hidden
  pointwise
  simp only [spread_apply, spreadBatch_apply]
  pointwise
  rw [mul_assoc (x (ix3 b t j) * _)]
  rfl

theorem project_apply (c : FVec Ideal S1024x1024 .bf16) (b : Fin 8) (t : Fin 8192) (j : Fin 1024) :
    project h c (ix3 b t j) = Branch.proj (fun k => h (ix3 b t k)) fun k => c (ix2 k j) := by
  unfold project
  pointwise
  rfl

theorem logistic_apply (b : Fin 8) (t : Fin 8192) (j : Fin 1024) :
    logistic z (ix3 b t j) = Layer.logistic (z (ix3 b t j)) := by
  unfold logistic
  pointwise
  rfl

theorem conv_apply (b : Fin 8) (t : Fin 8192) (j : Fin 1024) :
    conv cw cb p (ix3 b t j) = Branch.taps (fun n => cw (ix2 n j)) (cb (ix2 (0 : Fin 1) j))
      (if h : 0 < t.val then p (ix3 b ⟨t.val - 1, by omega⟩ j) else 0) (p (ix3 b t j))
      (if h : t.val + 1 < 8192 then p (ix3 b ⟨t.val + 1, h⟩ j) else 0) := by
  unfold conv edge
  pointwise
  simp only [spread_apply]
  pointwise
  unfold Branch.taps
  simp only [mul_comm (cw _), Nat.add_comm 1 t.val]
  by_cases h0 : t.val < 1 <;> by_cases h1 : t.val < 8191 <;>
    first
    | rw [dif_pos h0, dif_pos h1, dif_neg (by omega), dif_pos (by omega)]
    | rw [dif_pos h0, dif_neg h1, dif_neg (by omega), dif_neg (by omega)]
    | rw [dif_neg h0, dif_pos h1, dif_pos (by omega), dif_pos (by omega)]
    | rw [dif_neg h0, dif_neg h1, dif_pos (by omega), dif_neg (by omega)]

/-- A part of the joined projection is its columns. -/
theorem part0_apply (k j : Fin 1024) : part0 w (ix2 k j) = w (ix2 k (Branch.col 0 j)) := by
  unfold part0
  pointwise
  exact congrArg (fun l => w (ix2 k l)) (Fin.ext (Nat.zero_add j.val).symm)
theorem part1_apply (k j : Fin 1024) : part1 w (ix2 k j) = w (ix2 k (Branch.col 1 j)) := by unfold part1; pointwise; rfl
theorem part2_apply (k j : Fin 1024) : part2 w (ix2 k j) = w (ix2 k (Branch.col 2 j)) := by unfold part2; pointwise; rfl
theorem part3_apply (k j : Fin 1024) : part3 w (ix2 k j) = w (ix2 k (Branch.col 3 j)) := by unfold part3; pointwise; rfl
theorem part5_apply (k j : Fin 1024) : part5 w (ix2 k j) = w (ix2 k (Branch.col 5 j)) := by unfold part5; pointwise; rfl

/-- The hidden states the reference returns. -/
theorem hidden_result : truncf (F := Ideal) .bf16 (hidden x md gain) bitsLt_bf16_f32
    = fun y => Branch.hidden (arrays x md gain w wm cw cb wo) (y 0) (y 1) (y 2) := by
  funext y
  idx_vars y
  exact hidden_apply x md gain w wm cw cb wo y0 y1 y2

/-- The values it returns. -/
theorem value_result : truncf (F := Ideal) .bf16 (project (hidden x md gain) (part5 w)) bitsLt_bf16_f32
    = fun y => Branch.value (arrays x md gain w wm cw cb wo) (y 0) (y 1) (y 2) := by
  funext y
  idx_vars y
  refine (project_apply _ _ y0 y1 y2).trans ?_
  simp only [hidden_apply x md gain w wm cw cb wo, part5_apply]
  rfl

/-- The branch's contributions it returns, where the gate's argument is a real number. -/
theorem out_result (hz : ∀ b t j, ∃ r : ℝ, Branch.proj (Branch.hidden (arrays x md gain w wm cw cb wo) b t)
      (Branch.weight (arrays x md gain w wm cw cb wo) 3 j) = (r : EReal)) :
    truncf (F := Ideal) .bf16 (out w wm cw cb wo (hidden x md gain)) bitsLt_bf16_f32
      = fun y => Branch.out (arrays x md gain w wm cw cb wo) (y 0) (y 1) (y 2) := by
  funext y
  idx_vars y
  show out w wm cw cb wo (hidden x md gain) (ix3 y0 y1 y2) = _
  unfold out
  pointwise
  simp only [project_apply, logistic_apply, conv_apply]
  pointwise
  simp only [project_apply, logistic_apply, conv_apply]
  pointwise
  simp only [project_apply, hidden_apply x md gain w wm cw cb wo, part0_apply, part1_apply, part2_apply, part3_apply]
  show _ = Branch.merged _ _ _ _
  unfold Branch.merged Branch.row Branch.gated Branch.conv
  simp only [← Finite.gate_eq (hz _ _ _), Branch.inputAt_before, Branch.inputAt_here, Branch.inputAt_after]
  rfl

end Cert.RefBranch

end
-- ==== Proof.RefFeatures.lean ====
/-
  The features the first call's reference returns, cut at the arrays their mathematics names and read at a position: they
  are the features (FeatureArrays.lean) of its arguments.
-/
module

public import proofs.«01_k».proof.Proof.RefBranch
public import proofs.«01_k».proof.Proof.FeatureArrays
public import Idealize.ShloMosaic.Lib.WordCmp

@[expose] public section

set_option maxRecDepth 8192

noncomputable section

namespace Cert.RefFeatures

open Idealize.ShloMosaic Idealize.ShloMosaic.TcCoe Idealize.ShloMosaic.Tactic
open Cert.Reference2Ideal Cert.Reference2Ideal.Gen

variable (w : FVec Ideal S1024x9248 .bf16) (lr : FVec Ideal S1024x128 .bf16) (wg : FVec Ideal S128x1024 .bf16)
  (bias : FVec Ideal S1x1024 .f32) (h z : FVec Ideal S8x8192x1024 .f32) (u : FVec Ideal S8x8192x512 .f32)
  (tri : FVec Ideal S128x128 .f32) (q k d e s : FVec Ideal S8x64x128x512 .f32)

/-- The gates' weights, as the computation's. -/
def gateWeights : Features.Gates where
  lr := fun l i => lr (ix2 i l)
  wg := fun j l => wg (ix2 l j)
  bias := fun j => bias (ix2 (0 : Fin 1) j)

/-- The queries and the keys by chunk. -/
def queries : FVec Ideal S8x64x128x512 .f32 :=
  mulf (shapeCast _ (Host.dotGeneral dot_S8x8192x1024_S1024x512_S8x8192x512_2_0_01_1_n_n none h
      (extf .f32 (extractStridedSlice S1024x512 ![0, 4096] w slices_S1024x9248_S1024x512_0_4096) bitsLt_bf16_f32))
      shapeCasts_S8x8192x512_S8x64x128x512)
    (broadcastInDim S8x64x128x512 ![] bcast_S_S8x64x128x512 (constant S_ .f32 0x3DB504F3#32))
def keys : FVec Ideal S8x64x128x512 .f32 :=
  shapeCast _ (Host.dotGeneral dot_S8x8192x1024_S1024x512_S8x8192x512_2_0_01_1_n_n none h
      (extf .f32 (extractStridedSlice S1024x512 ![0, 4608] w slices_S1024x9248_S1024x512_0_4608) bitsLt_bf16_f32))
    shapeCasts_S8x8192x512_S8x64x128x512

/-- The gates' arguments. -/
def gateArgs : FVec Ideal S8x8192x1024 .f32 :=
  addf (Host.dotGeneral dot_S8x8192x128_S128x1024_S8x8192x1024_2_0_01_1_n_n none
      (Host.dotGeneral dot_S8x8192x1024_S1024x128_S8x8192x128_2_0_01_1_n_n none h (extf .f32 lr bitsLt_bf16_f32))
      (extf .f32 wg bitsLt_bf16_f32)) (RefBranch.spread bias)

/-- A constant of every token's row. -/
def every (x : BitVec 32) : FVec Ideal S8x8192x1024 .f32 :=
  broadcastInDim S8x8192x1024 ![] bcast_S_S8x8192x1024 (constant S_ .f32 x)

/-- The gates. -/
def gates : FVec Ideal S8x8192x1024 .f32 :=
  Host.divf (Host.negf (select (cmpf .une (subf (Host.negf z) (every 0x00000000#32)) (subf (Host.negf z) (every 0x00000000#32)))
      (addf (Host.negf z) (every 0x00000000#32))
      (addf (maximumf (Host.negf z) (every 0x00000000#32))
        (Host.log1p (Host.exp (Host.negf (Host.absf (subf (Host.negf z) (every 0x00000000#32)))))))))
    (every 0x41800000#32)

/-- The positions in a chunk, down the rows and along the columns. -/
def rowPos : IVec S128x128 32 := broadcastInDim S128x128 ![0, 1] bcast_S128x1_S128x128_0_1
  (broadcastInDim S128x1 ![0] bcast_S128_S128x1_0 (iotaInDim S128 32 0))
def colPos : IVec S128x128 32 := broadcastInDim S128x128 ![0, 1] bcast_S1x128_S128x128_0_1
  (broadcastInDim S1x128 ![1] bcast_S128_S1x128_1 (iotaInDim S128 32 0))

/-- The triangles with and without the diagonal. -/
def incl : FVec Ideal S128x128 .f32 := uitofp .f32 (cmpi .sge rowPos colPos)
def strict : FVec Ideal S128x128 .f32 := uitofp .f32 (cmpi .sgt rowPos colPos)

/-- The forward gates' columns, and the backward ones'. -/
def leftHalf : FVec Ideal S8x8192x512 .f32 := extractStridedSlice S8x8192x512 ![0, 0, 0] z slices_S8x8192x1024_S8x8192x512_0_0_0
def rightHalf : FVec Ideal S8x8192x512 .f32 :=
  extractStridedSlice S8x8192x512 ![0, 0, 512] z slices_S8x8192x1024_S8x8192x512_0_0_512

/-- A chunk's gates, summed by a triangle. -/
def sums : FVec Ideal S8x64x128x512 .f32 :=
  transpose S8x64x128x512 [0, 1, 3, 2] (Host.dotGeneral dot_S8x64x128x512_S128x128_S8x64x512x128_2_1_013_0_n_n none
    (shapeCast _ u shapeCasts_S8x8192x512_S8x64x128x512) tri) transposes_S8x64x512x128_S8x64x128x512_0_1_3_2

/-- An exponential between its bounds. -/
def bounded : FVec Ideal S8x64x128x512 .f32 :=
  minimumf (maximumf (Host.exp s) (broadcastInDim S8x64x128x512 ![] bcast_S_S8x64x128x512 (constant S_ .f32 0x06000000#32)))
    (broadcastInDim S8x64x128x512 ![] bcast_S_S8x64x128x512 (constant S_ .f32 0x79000000#32))

/-- The decays from a chunk's middle. -/
def fwd : FVec Ideal S8x64x128x512 .f32 :=
  bounded (subf s (broadcastInDim S8x64x128x512 ![0, 1, 2, 3] bcast_S8x64x1x512_S8x64x128x512_0_1_2_3
    (extractStridedSlice S8x64x1x512 ![0, 0, 63, 0] s slices_S8x64x128x512_S8x64x1x512_0_0_63_0)))
def bwd : FVec Ideal S8x64x128x512 .f32 :=
  bounded (subf (broadcastInDim S8x64x128x512 ![0, 1, 2, 3] bcast_S8x64x1x512_S8x64x128x512_0_1_2_3
    (extractStridedSlice S8x64x1x512 ![0, 0, 64, 0] s slices_S8x64x128x512_S8x64x1x512_0_0_64_0)) s)

/-- The query features, the key features and the rows of decays. -/
def queryFeatures : FVec Ideal S8x8192x1024 .f32 :=
  shapeCast _ (concatenate S8x8192x4x2x128 3 [⟨S8x8192x4x1x128, shapeCast _ (mulf q d) shapeCasts_S8x64x128x512_S8x8192x4x1x128⟩,
      ⟨S8x8192x4x1x128, shapeCast _ (mulf q e) shapeCasts_S8x64x128x512_S8x8192x4x1x128⟩]
    concatenates_S8x8192x4x1x128_S8x8192x4x1x128_S8x8192x4x2x128_d3) shapeCasts_S8x8192x4x2x128_S8x8192x1024
def keyFeatures : FVec Ideal S8x64x512x128 .f32 :=
  transpose S8x64x512x128 [0, 1, 3, 2] (Host.divf k d) transposes_S8x64x128x512_S8x64x512x128_0_1_3_2
def decayRows : FVec Ideal S8x64x8x512 .f32 :=
  concatenate S8x64x8x512 2 [
    ⟨S8x64x1x512, Host.exp (extractStridedSlice S8x64x1x512 ![0, 0, 127, 0] s slices_S8x64x128x512_S8x64x1x512_0_0_127_0)⟩,
    ⟨S8x64x1x512, Host.exp (extractStridedSlice S8x64x1x512 ![0, 0, 63, 0] s slices_S8x64x128x512_S8x64x1x512_0_0_63_0)⟩,
    ⟨S8x64x6x512, broadcastInDim S8x64x6x512 ![] bcast_S_S8x64x6x512 (constant S_ .f32 0x00000000#32)⟩]
    concatenates_S8x64x1x512_S8x64x1x512_S8x64x6x512_S8x64x8x512_d2

/-! Each, read at a position. -/

theorem token_mk (n : Fin 64) (t : Fin 128) (p : n.val * 128 + t.val < 8192) :
    (⟨n.val * 128 + t.val, p⟩ : Fin 8192) = Features.token n t := by
  apply Fin.ext; show n.val * 128 + t.val = 128 * n.val + t.val; omega

theorem queries_apply (b : Fin 8) (n : Fin 64) (t : Fin 128) (j : Fin 512) : queries w h (ix4 b n t j)
    = Branch.proj (fun i => h (ix3 b (Features.token n t) i)) (fun i => w (ix2 i (Branch.col 4 (Features.left j)))) * Features.scale := by
  unfold queries
  pointwise
  simp only [token_mk]
  rfl

theorem keys_apply (b : Fin 8) (n : Fin 64) (t : Fin 128) (j : Fin 512) : keys w h (ix4 b n t j)
    = Branch.proj (fun i => h (ix3 b (Features.token n t) i)) fun i => w (ix2 i (Branch.col 4 (Features.right j))) := by
  unfold keys
  pointwise
  simp only [token_mk]
  exact Finset.sum_congr rfl fun i _ => congrArg (fun l => h (ix3 b (Features.token n t) i) * w (ix2 i l)) (Fin.ext (by
    show 4608 + j.val = 1024 * 4 + (512 + j.val); omega))

theorem gateArgs_apply (b : Fin 8) (r : Fin 8192) (j : Fin 1024) : gateArgs lr wg bias h (ix3 b r j)
    = Features.gateArg (fun i => h (ix3 b r i)) (fun l i => lr (ix2 i l)) (fun l => wg (ix2 l j)) (bias (ix2 (0 : Fin 1) j)) := by
  unfold gateArgs
  pointwise
  rw [RefBranch.spread_apply]
  rfl

theorem every_apply (x : BitVec 32) (b : Fin 8) (r : Fin 8192) (j : Fin 1024) :
    every x (ix3 b r j) = Ideal.ofBits .f32 x := by unfold every; pointwise

theorem gates_apply (b : Fin 8) (r : Fin 8192) (j : Fin 1024) : gates z (ix3 b r j) = Decay.gate (z (ix3 b r j)) := by
  unfold gates
  pointwise
  simp only [every_apply]
  rw [if_neg (not_not.mpr rfl), Ideal.ofBits_zero_f32, sub_zero]
  unfold Decay.gate
  rw [← Decay.softLog_eq]
  rfl

theorem one_bit : (FloatOps.uitofp .f32 (BitVec.ofBool true) : Ideal .f32) = (1 : EReal) := by
  show (((BitVec.ofBool true).toNat : ℝ) : EReal) = 1
  rw [show (BitVec.ofBool true).toNat = 1 by decide]
  norm_num
theorem zero_bit : (FloatOps.uitofp .f32 (BitVec.ofBool false) : Ideal .f32) = (0 : EReal) := by
  show (((BitVec.ofBool false).toNat : ℝ) : EReal) = 0
  norm_num

theorem incl_apply (t i : Fin 128) : incl (ix2 t i) = if i ≤ t then 1 else 0 := by
  unfold incl rowPos colPos
  pointwise
  rw [WordCmp.cmpi_sge_ofNat (by omega) (by omega)]
  by_cases h : i ≤ t
  · rw [if_pos h, decide_eq_true (show i.val ≤ t.val from h)]; exact one_bit
  · rw [if_neg h, decide_eq_false (show ¬i.val ≤ t.val from h)]; exact zero_bit
theorem strict_apply (t i : Fin 128) : strict (ix2 t i) = if i < t then 1 else 0 := by
  unfold strict rowPos colPos
  pointwise
  rw [WordCmp.cmpi_sgt_ofNat (by omega) (by omega)]
  by_cases h : i < t
  · rw [if_pos h, decide_eq_true (show i.val < t.val from h)]; exact one_bit
  · rw [if_neg h, decide_eq_false (show ¬i.val < t.val from h)]; exact zero_bit

theorem sums_apply (b : Fin 8) (n : Fin 64) (t : Fin 128) (j : Fin 512) :
    sums u tri (ix4 b n t j) = ∑ i : Fin 128, u (ix3 b (Features.token n i) j) * tri (ix2 t i) := by
  unfold sums
  pointwise
  simp only [token_mk]

theorem fwd_apply (b : Fin 8) (n : Fin 64) (t : Fin 128) (j : Fin 512) :
    fwd s (ix4 b n t j) = Decay.bounded (s (ix4 b n t j) - s (ix4 b n (63 : Fin 128) j)) := by
  unfold fwd bounded
  pointwise
  rfl
theorem bwd_apply (b : Fin 8) (n : Fin 64) (t : Fin 128) (j : Fin 512) :
    bwd s (ix4 b n t j) = Decay.bounded (s (ix4 b n (64 : Fin 128) j) - s (ix4 b n t j)) := by
  unfold bwd bounded
  pointwise
  rfl

theorem queryFeatures_apply (b : Fin 8) (r : Fin 8192) (j : Fin 1024) : queryFeatures q d e (ix3 b r j)
    = if j.val / 128 % 2 = 0 then
        q (ix4 b ⟨r.val / 128, by omega⟩ ⟨r.val % 128, by omega⟩ ⟨128 * (j.val / 256) + j.val % 128, by omega⟩)
          * d (ix4 b ⟨r.val / 128, by omega⟩ ⟨r.val % 128, by omega⟩ ⟨128 * (j.val / 256) + j.val % 128, by omega⟩)
      else
        q (ix4 b ⟨r.val / 128, by omega⟩ ⟨r.val % 128, by omega⟩ ⟨128 * (j.val / 256) + j.val % 128, by omega⟩)
          * e (ix4 b ⟨r.val / 128, by omega⟩ ⟨r.val % 128, by omega⟩ ⟨128 * (j.val / 256) + j.val % 128, by omega⟩) := by
  unfold queryFeatures
  pointwise
  simp only [Nat.mul_comm _ 128]
  by_cases h : j.val / 128 % 2 = 0
  · rw [dif_pos (by omega), if_pos h]
  · rw [dif_neg (by omega), if_neg h]
theorem keyFeatures_apply (b : Fin 8) (n : Fin 64) (j : Fin 512) (t : Fin 128) :
    keyFeatures k d (ix4 b n j t) = Ideal.div (k (ix4 b n t j)) (d (ix4 b n t j)) := by
  unfold keyFeatures
  pointwise
theorem decayRows_apply (b : Fin 8) (n : Fin 64) (i : Fin 8) (j : Fin 512) : decayRows s (ix4 b n i j)
    = if i.val < 1 then Ideal.exp (s (ix4 b n (127 : Fin 128) j)) else if i.val < 2 then Ideal.exp (s (ix4 b n (63 : Fin 128) j)) else 0 := by
  unfold decayRows
  pointwise
  obtain h | h | h : i.val = 0 ∨ i.val = 1 ∨ 2 ≤ i.val := by omega
  · simp only [h, Nat.add_zero, Nat.reduceLT, reduceDIte, reduceIte]
    rfl
  · simp only [h, Nat.add_zero, Nat.reduceLT, Nat.reduceSub, reduceDIte, reduceIte]
    rfl
  · simp only [show ¬i.val < 1 by omega, show ¬i.val - 1 < 1 by omega, show ¬i.val < 2 by omega, reduceDIte, reduceIte]

/-! Over the arguments. -/

variable (x : FVec Ideal S8x8192x1024 .f32) (md : FVec Ideal S8x3x1024 .f32) (gain : FVec Ideal S1x1024 .f32)
  (wm : FVec Ideal S1024x1024 .bf16) (cw : FVec Ideal S3x1024 .f32) (cb : FVec Ideal S1x1024 .f32)
  (wo : FVec Ideal S1024x1024 .bf16)

/-- A chunk of the arguments. -/
def chunk (b : Fin 8) (n : Fin 64) : Features.Chunk :=
  Features.chunk (RefBranch.arrays x md gain w wm cw cb wo) (gateWeights lr wg bias) b n

/-- The gates of the arguments. -/
def argGates : FVec Ideal S8x8192x1024 .f32 := gates (gateArgs lr wg bias (RefBranch.hidden x md gain))
def fwdSums : FVec Ideal S8x64x128x512 .f32 := sums (leftHalf (argGates lr wg bias x md gain)) incl
def bwdSums : FVec Ideal S8x64x128x512 .f32 := sums (rightHalf (argGates lr wg bias x md gain)) strict

theorem argGates_apply (b : Fin 8) (n : Fin 64) (t : Fin 128) (j : Fin 1024) :
    argGates lr wg bias x md gain (ix3 b (Features.token n t) j)
      = Decay.gate ((chunk w lr wg bias x md gain wm cw cb wo b n).z j t) := by
  unfold argGates
  rw [gates_apply, gateArgs_apply]
  simp only [RefBranch.hidden_apply x md gain w wm cw cb wo]
  rfl

theorem fwdSums_apply (b : Fin 8) (n : Fin 64) (t : Fin 128) (j : Fin 512) : fwdSums lr wg bias x md gain (ix4 b n t j)
    = Decay.upto (fun s => Decay.gate ((chunk w lr wg bias x md gain wm cw cb wo b n).z (Features.left j) s)) t := by
  unfold fwdSums
  rw [sums_apply]
  refine Finset.sum_congr rfl fun i _ => ?_
  rw [incl_apply]
  refine congrArg (· * _) (Eq.trans ?_ (argGates_apply w lr wg bias x md gain wm cw cb wo b n i (Features.left j)))
  unfold leftHalf
  pointwise
  rfl
theorem bwdSums_apply (b : Fin 8) (n : Fin 64) (t : Fin 128) (j : Fin 512) : bwdSums lr wg bias x md gain (ix4 b n t j)
    = Decay.before (fun s => Decay.gate ((chunk w lr wg bias x md gain wm cw cb wo b n).z (Features.right j) s)) t := by
  unfold bwdSums
  rw [sums_apply]
  refine Finset.sum_congr rfl fun i _ => ?_
  rw [strict_apply]
  refine congrArg (· * _) (Eq.trans ?_ (argGates_apply w lr wg bias x md gain wm cw cb wo b n i (Features.right j)))
  unfold rightHalf
  pointwise
  rfl

/-- Rounding keeps a value. -/
theorem rounded {S : Shape} (v : FVec Ideal S .f32) (i : S.Idx) : truncf .bf16 v bitsLt_bf16_f32 i = v i := rfl

/-- The query features the reference returns. -/
theorem query_result : truncf (F := Ideal) .bf16 (queryFeatures (queries w (RefBranch.hidden x md gain))
      (fwd (fwdSums lr wg bias x md gain)) (bwd (bwdSums lr wg bias x md gain))) bitsLt_bf16_f32
    = Features.queries (RefBranch.arrays x md gain w wm cw cb wo) (gateWeights lr wg bias) := by
  funext y
  idx_vars y
  refine (rounded _ _).trans ((queryFeatures_apply _ _ _ y0 y1 y2).trans ?_)
  simp only [queries_apply, fwd_apply, bwd_apply, fwdSums_apply w lr wg bias x md gain wm cw cb wo,
    bwdSums_apply w lr wg bias x md gain wm cw cb wo, RefBranch.hidden_apply x md gain w wm cw cb wo]
  show _ = Features.queryAt _ _ y0 y1 y2
  unfold Features.queryAt Features.query Features.fwd Features.bwd Decay.fwd Decay.bwd
  by_cases h : y2.val / 128 % 2 = 0
  · rw [if_pos h, if_pos h]
    rfl
  · rw [if_neg h, if_neg h]
    rfl

/-- The key features it returns. -/
theorem keysF_result : truncf (F := Ideal) .bf16 (keyFeatures (keys w (RefBranch.hidden x md gain))
      (fwd (fwdSums lr wg bias x md gain))) bitsLt_bf16_f32
    = Features.keysF (RefBranch.arrays x md gain w wm cw cb wo) (gateWeights lr wg bias) := by
  funext y
  idx_vars y
  refine (rounded _ _).trans ((keyFeatures_apply _ _ y0 y1 y2 y3).trans ?_)
  simp only [keys_apply, fwd_apply, fwdSums_apply w lr wg bias x md gain wm cw cb wo,
    RefBranch.hidden_apply x md gain w wm cw cb wo]
  rfl
theorem keysB_result : truncf (F := Ideal) .bf16 (keyFeatures (keys w (RefBranch.hidden x md gain))
      (bwd (bwdSums lr wg bias x md gain))) bitsLt_bf16_f32
    = Features.keysB (RefBranch.arrays x md gain w wm cw cb wo) (gateWeights lr wg bias) := by
  funext y
  idx_vars y
  refine (rounded _ _).trans ((keyFeatures_apply _ _ y0 y1 y2 y3).trans ?_)
  simp only [keys_apply, bwd_apply, bwdSums_apply w lr wg bias x md gain wm cw cb wo,
    RefBranch.hidden_apply x md gain w wm cw cb wo]
  rfl

/-- The rows of decays it returns. -/
theorem decay_result : decayRows (fwdSums lr wg bias x md gain)
    = Features.decays (RefBranch.arrays x md gain w wm cw cb wo) (gateWeights lr wg bias) := by
  funext y
  idx_vars y
  refine (decayRows_apply _ y0 y1 y2 y3).trans ?_
  simp only [fwdSums_apply w lr wg bias x md gain wm cw cb wo]
  rfl

end Cert.RefFeatures

end
-- ==== Proof.RefCut.lean ====
/-
  The run of the first call's reference, its results named by their mathematics over the arguments it finds.
-/
module

public import proofs.«01_k».proof.Proof.RefFeatures

@[expose] public section

set_option maxRecDepth 8192

noncomputable section

namespace Cert.RefCut

open Idealize.ShloMosaic Idealize.ShloMosaic.TcCoe Idealize.SL.Sem
open Cert.Reference2Ideal Cert.Reference2Ideal.Gen

variable (m : (ℓ : Loc nD τ sig) → Buf (Elt Ideal) ℓ) (ρ : Dev nD → PrngReg) (c : Dev nD)

/-- The computation's arrays and the gates' weights, as the run finds them. -/
def arrays : Branch.Arrays := RefBranch.arrays
  (m ((c.tc : Thread nD τ).loc main_arg0))
  (m ((c.tc : Thread nD τ).loc main_arg1))
  (m ((c.tc : Thread nD τ).loc main_arg2))
  (m ((c.tc : Thread nD τ).loc main_arg3))
  (m ((c.tc : Thread nD τ).loc main_arg5))
  (m ((c.tc : Thread nD τ).loc main_arg6))
  (m ((c.tc : Thread nD τ).loc main_arg7))
  (m ((c.tc : Thread nD τ).loc main_arg10))
def gates : Features.Gates := RefFeatures.gateWeights
  (m ((c.tc : Thread nD τ).loc main_arg4))
  (m ((c.tc : Thread nD τ).loc main_arg8))
  (m ((c.tc : Thread nD τ).loc main_arg9))

set_option maxHeartbeats 4000000 in
/-- The reference runs, and leaves its results so. -/
theorem run : θ_run defs (onTc (τ := τ) (main (F := Ideal))) ⟨m, fun _ => 0, ρ⟩ fun r => ∀ c : Dev nD,
    r.2.mem ((c.tc : Thread nD τ).loc main_v137) = (fun y => Features.queries (arrays m c) (gates m c) y)
    ∧ r.2.mem ((c.tc : Thread nD τ).loc main_v138) = (fun y => Features.keysF (arrays m c) (gates m c) y)
    ∧ r.2.mem ((c.tc : Thread nD τ).loc main_v139) = (fun y => Features.keysB (arrays m c) (gates m c) y)
    ∧ r.2.mem ((c.tc : Thread nD τ).loc main_v140) = (fun y => Branch.value (arrays m c) (y 0) (y 1) (y 2))
    ∧ r.2.mem ((c.tc : Thread nD τ).loc main_v141) = (fun y => Branch.hidden (arrays m c) (y 0) (y 1) (y 2))
    ∧ ((∀ b t j, ∃ x : ℝ, Branch.proj (Branch.hidden (arrays m c) b t) (Branch.weight (arrays m c) 3 j) = (x : EReal)) →
      r.2.mem ((c.tc : Thread nD τ).loc main_v151) = fun y => Branch.out (arrays m c) (y 0) (y 1) (y 2))
    ∧ r.2.mem ((c.tc : Thread nD τ).loc main_v136) = (fun y => Features.decays (arrays m c) (gates m c) y)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  refine (θ_run defs _ _).mono (fun r h c => ?_) (Value.run m ρ)
  obtain ⟨hq, hf, hb, hv, hh, ho, hd, ha⟩ := h c
  have q := RefFeatures.query_result (m ((c.tc : Thread nD τ).loc main_arg3))
      (m ((c.tc : Thread nD τ).loc main_arg4))
      (m ((c.tc : Thread nD τ).loc main_arg8))
      (m ((c.tc : Thread nD τ).loc main_arg9))
      (m ((c.tc : Thread nD τ).loc main_arg0))
      (m ((c.tc : Thread nD τ).loc main_arg1))
      (m ((c.tc : Thread nD τ).loc main_arg2))
      (m ((c.tc : Thread nD τ).loc main_arg5))
      (m ((c.tc : Thread nD τ).loc main_arg6))
      (m ((c.tc : Thread nD τ).loc main_arg7))
      (m ((c.tc : Thread nD τ).loc main_arg10))
  have f := RefFeatures.keysF_result (m ((c.tc : Thread nD τ).loc main_arg3))
      (m ((c.tc : Thread nD τ).loc main_arg4))
      (m ((c.tc : Thread nD τ).loc main_arg8))
      (m ((c.tc : Thread nD τ).loc main_arg9))
      (m ((c.tc : Thread nD τ).loc main_arg0))
      (m ((c.tc : Thread nD τ).loc main_arg1))
      (m ((c.tc : Thread nD τ).loc main_arg2))
      (m ((c.tc : Thread nD τ).loc main_arg5))
      (m ((c.tc : Thread nD τ).loc main_arg6))
      (m ((c.tc : Thread nD τ).loc main_arg7))
      (m ((c.tc : Thread nD τ).loc main_arg10))
  have b := RefFeatures.keysB_result (m ((c.tc : Thread nD τ).loc main_arg3))
      (m ((c.tc : Thread nD τ).loc main_arg4))
      (m ((c.tc : Thread nD τ).loc main_arg8))
      (m ((c.tc : Thread nD τ).loc main_arg9))
      (m ((c.tc : Thread nD τ).loc main_arg0))
      (m ((c.tc : Thread nD τ).loc main_arg1))
      (m ((c.tc : Thread nD τ).loc main_arg2))
      (m ((c.tc : Thread nD τ).loc main_arg5))
      (m ((c.tc : Thread nD τ).loc main_arg6))
      (m ((c.tc : Thread nD τ).loc main_arg7))
      (m ((c.tc : Thread nD τ).loc main_arg10))
  have d := RefFeatures.decay_result (m ((c.tc : Thread nD τ).loc main_arg3))
      (m ((c.tc : Thread nD τ).loc main_arg4))
      (m ((c.tc : Thread nD τ).loc main_arg8))
      (m ((c.tc : Thread nD τ).loc main_arg9))
      (m ((c.tc : Thread nD τ).loc main_arg0))
      (m ((c.tc : Thread nD τ).loc main_arg1))
      (m ((c.tc : Thread nD τ).loc main_arg2))
      (m ((c.tc : Thread nD τ).loc main_arg5))
      (m ((c.tc : Thread nD τ).loc main_arg6))
      (m ((c.tc : Thread nD τ).loc main_arg7))
      (m ((c.tc : Thread nD τ).loc main_arg10))
  have v := RefBranch.value_result (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg5))
      (m ((c.tc : Thread nD τ).loc main_arg6))
      (m ((c.tc : Thread nD τ).loc main_arg7))
      (m ((c.tc : Thread nD τ).loc main_arg10))
  have s := RefBranch.hidden_result (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg5))
      (m ((c.tc : Thread nD τ).loc main_arg6))
      (m ((c.tc : Thread nD τ).loc main_arg7))
      (m ((c.tc : Thread nD τ).loc main_arg10))
  exact ⟨hq.trans q, hf.trans f, hb.trans b, hv.trans v, hh.trans s,
    fun hz => ho.trans (RefBranch.out_result _ _ _ _ _ _ _ _ hz), hd.trans d, ha⟩

end Cert.RefCut

end
-- ==== Proof.BranchFinite.lean ====
/-
  The first call's precondition, read: the norm's gain, the modulation's shift and scale and the convolution gate's weight
  hold finite numbers. A normalised row is real whatever the row holds, so the gate's argument is then a real number.
-/
module

public import proofs.«01_k».proof.Pre_conv_gate_finite
public import proofs.«01_k».proof.Proof.Branch
public import proofs.«01_k».proof.Proof.Finite

@[expose] public section

noncomputable section

namespace Cert.BranchFinite

open Idealize.ShloMosaic Idealize.ShloMosaic.Tactic
open Cert.Pre_conv_gate_finite

/-- The side conditions of the precondition's operations. -/
instance facts : Cert.Pre_conv_gate_finite.Facts where
  bcast_S_S1x1024 := by decide
  reducesTo_S1x1024_S_d0_1 := by decide
  h_S_ := by decide
  slices_S8x3x1024_S8x2x1024_0_0_0 := by decide
  bcast_S_S8x2x1024 := by decide
  reducesTo_S8x2x1024_S_d0_1_2 := by decide
  slices_S1024x9248_S1024x1024_0_3072 := by decide
  bitsLt_bf16_f32 := by decide
  bcast_S_S1024x1024 := by decide
  reducesTo_S1024x1024_S_d0_1 := by decide

/-- The normalisation's width is 1024, and its `ε` is positive. -/
theorem width_bits : Layer.modelWidth = ((1024 : ℝ) : EReal) := by
  simp [Ideal.ofBits, Ideal.ieee, -EReal.coe_mul]; norm_num
theorem eps_bits : ∃ e : ℝ, 0 < e ∧ Layer.eps = (e : EReal) := by
  refine ⟨_, ?_, by simp only [Layer.eps, Ideal.ofBits, Ideal.ieee]; simp [-EReal.coe_mul]; rfl⟩
  norm_num

/-- A square is not negative. -/
theorem square_nonneg (z : EReal) : 0 ≤ z * z := by
  induction z with
  | bot => simp
  | top => simp
  | coe r => rw [← EReal.coe_mul]; exact EReal.coe_nonneg.2 (mul_self_nonneg r)

/-- A normalised row is real whatever the row holds: beside an infinite element the factor is zero. -/
theorem rms_real (x : Fin 1024 → EReal) (j : Fin 1024) : ∃ r : ℝ, Layer.rms Layer.modelWidth x j = (r : EReal) := by
  obtain ⟨e, he, heps⟩ := eps_bits
  have hs : 0 ≤ ∑ k, x k * x k := Finset.sum_nonneg fun k _ => square_nonneg (x k)
  have hj : x j * x j ≤ ∑ k, x k * x k := Finset.single_le_sum (fun k _ => square_nonneg (x k)) (Finset.mem_univ j)
  unfold Layer.rms
  rw [width_bits, heps, Ideal.div_coe (by norm_num)]
  generalize ∑ k, x k * x k = s at hs hj
  generalize x j = z at hj
  induction s with
  | bot => exact absurd hs (by simp)
  | top =>
    rw [EReal.top_mul_coe_of_pos (by norm_num), EReal.top_add_coe, Ideal.rsqrt_top, mul_zero]
    exact ⟨0, rfl⟩
  | coe s =>
    have hs' : 0 ≤ s := EReal.coe_nonneg.1 hs
    have hp : 0 < s * (1 / 1024) + e := by positivity
    rw [← EReal.coe_mul, ← EReal.coe_add, Ideal.rsqrt_coe, if_neg hp.not_gt, if_neg hp.ne']
    induction z with
    | bot => exact absurd hj (by simp)
    | top => exact absurd hj (by simp)
    | coe r => exact ⟨_, (EReal.coe_mul _ _).symm⟩

/-- So is a modulated row, its gain, scale and shift real. -/
theorem modulated_real (x gain scale shift : Fin 1024 → EReal) (hg : ∀ j, ∃ r : ℝ, gain j = (r : EReal))
    (hc : ∀ j, ∃ r : ℝ, scale j = (r : EReal)) (hs : ∀ j, ∃ r : ℝ, shift j = (r : EReal)) (j : Fin 1024) :
    ∃ r : ℝ, Branch.modulated x gain scale shift j = (r : EReal) := by
  obtain ⟨a, ha⟩ := rms_real x j
  obtain ⟨g, hg⟩ := hg j
  obtain ⟨c, hc⟩ := hc j
  obtain ⟨d, hd⟩ := hs j
  refine ⟨a * (g * (1 + c)) + d, ?_⟩
  unfold Branch.modulated
  rw [ha, hg, hc, hd, EReal.coe_add, EReal.coe_mul, EReal.coe_mul, EReal.coe_add, EReal.coe_one]

variable (x : FVec Ideal S8x8192x1024 .f32) (md : FVec Ideal S8x3x1024 .f32) (gain : FVec Ideal S1x1024 .f32)
  (w : FVec Ideal S1024x9248 .bf16) (wl : FVec Ideal S1024x128 .bf16) (wm : FVec Ideal S1024x1024 .bf16)
  (cw : FVec Ideal S3x1024 .f32) (cb : FVec Ideal S1x1024 .f32) (wg : FVec Ideal S128x1024 .bf16)
  (bg : FVec Ideal S1x1024 .f32) (wo : FVec Ideal S1024x1024 .bf16)

/-- Under the precondition the gate's argument is a real number at every token. -/
theorem real (e : fn (F := Ideal) x md gain w wl wm cw cb wg bg wo = fun _ => 1#1) (A : Branch.Arrays)
    (hm : ∀ b n j, A.md b n j = md (ix3 b n j)) (hg : ∀ j, A.gain j = gain (ix2 (0 : Fin 1) j))
    (hw : ∀ k j, A.w k j = w (ix2 k j)) (b : Fin 8) (t : Fin 8192) (j : Fin 1024) :
    ∃ r : ℝ, Branch.proj (Branch.hidden A b t) (Branch.weight A 3 j) = (r : EReal) := by
  have e0 := congrFun e (Shape.Idx.first Facts.h_S_)
  obtain ⟨egm, ew⟩ := IntOp.andi_eq_one.1 e0
  obtain ⟨eg, em⟩ := IntOp.andi_eq_one.1 egm
  have rm (n : Fin 2) (k : Fin 1024) : ∃ r : ℝ, A.md b ⟨n.val, by omega⟩ k = (r : EReal) := by
    have := Finite.lt_top_of_cmp (Host.reduce_andi_all _ _ _ _ _ em (ix3 b n k))
    revert this
    pointwise
    rw [hm]
    exact id
  refine Scalar.sum_mul_real _ _ _ (modulated_real _ _ _ _ (fun k => ?_) (rm 1) (rm 0)) fun k => ?_
  · rw [hg]
    exact Finite.lt_top_of_cmp (Host.reduce_andi_all _ _ _ _ _ eg (ix2 (0 : Fin 1) k))
  · have := Finite.lt_top_of_cmp (Host.reduce_andi_all _ _ _ _ _ ew (ix2 k j))
    revert this
    pointwise
    unfold Branch.weight
    rw [hw]
    exact id

end Cert.BranchFinite

end
-- ==== Proof.Modulation.lean ====
/-
  The conditioning call: its kernel and its reference are both the silu of each conditioning vector against a column of
  the weight, with the bias added. The precondition makes the two spellings of the silu agree.
-/
module

public import proofs.«01_k».proof.Pre_conditioning_finite
public import proofs.«01_k».proof.Proof.Gen.Kernel3Ideal.Value
public import proofs.«01_k».proof.Proof.Gen.Reference3Ideal.Run
public import proofs.«01_k».proof.Proof.Finite

@[expose] public section

noncomputable section

namespace Cert.Modulation

open Idealize.ShloMosaic Idealize.ShloMosaic.Tactic

/-- The side conditions of the precondition's operations. -/
instance facts : Cert.Pre_conditioning_finite.Facts where
  bcast_S_S8x1024 := by decide
  reducesTo_S8x1024_S_d0_1 := by decide
  h_S_ := by decide

/-- One element of the modulation, from a conditioning vector and a column of the weight. -/
def modulation (c w : Fin 1024 → EReal) (b : EReal) : EReal := ∑ k, Layer.gate (c k) * w k + b

section
open Cert.Kernel3Ideal

variable (x : FVec Ideal S8x1024 .f32) (w : FVec Ideal S1024x3072 .f32) (b : FVec Ideal S1x3072 .f32)

/-- The modulation of every vector. -/
def whole : FVec Ideal S8x3072 .f32 := fun y =>
  modulation (fun k => x (ix2 (y 0) k)) (fun k => w (ix2 k (y 1))) (b (ix2 (0 : Fin 1) (y 1)))

/-- What the kernel writes. -/
theorem kernel : Gen.k0_pay1 (F := Ideal) x w b = whole x w b := by
  funext y
  idx_vars y
  unfold Gen.k0_pay1
  pointwise
  rw [Scalar.half_bits]
  rfl

end

section
open Cert.Reference3Ideal Cert.Reference3Ideal.Gen

variable (x : FVec Ideal S8x1024 .f32) (w : FVec Ideal S1024x3072 .f32) (b : FVec Ideal S1x3072 .f32)

/-- The reference's array, where every conditioning element is a real number. -/
theorem reference (hx : ∀ i, ∃ r : ℝ, x i = (r : EReal)) :
    addf (Host.dotGeneral dot_S8x1024_S1024x3072_S8x3072_1_0_0_1_n_n none
        (mulf x (Host.divf (broadcastInDim S8x1024 ![] bcast_S_S8x1024 (constant S_ .f32 0x3F800000#32))
          (addf (broadcastInDim S8x1024 ![] bcast_S_S8x1024 (constant S_ .f32 0x3F800000#32)) (Host.exp (Host.negf x))))) w)
        (broadcastInDim S8x3072 ![0, 1] bcast_S1x3072_S8x3072_0_1 b)
      = whole x w b := by
  funext y
  idx_vars y
  pointwise
  show _ = ∑ k, Layer.gate (x (ix2 y0 k)) * w (ix2 k y1) + b (ix2 (0 : Fin 1) y1)
  simp only [← Finite.gate_eq (hx _)]
  rfl

end

section
open Cert.Pre_conditioning_finite

variable (x : FVec Ideal S8x1024 .f32) (w : FVec Ideal S1024x3072 .f32) (b : FVec Ideal S1x3072 .f32)

/-- Under the precondition every conditioning element is a real number. -/
theorem reals (e : fn (F := Ideal) x w b = fun _ => 1#1) (i : S8x1024.Idx) : ∃ r : ℝ, x i = (r : EReal) :=
  Finite.lt_top_of_cmp (Host.reduce_andi_all _ _ _ _ _ (congrFun e (Shape.Idx.first Facts.h_S_)) i)

end

end Cert.Modulation

end
-- ==== Proof.lean ====
/-
  The certificate's claims. The frames come from the programs' runs. The value claim of the attention and merge call reads
  the kernel's result (Proof/Sweep.lean) and the reference's (Proof/LoopRun.lean, Proof/RefValue.lean) down to one function
  of the arguments, the layer's mathematics in Proof/Whole.lean; the precondition (Proof/Finite.lean) makes the two forms of
  the gate agree. The value claim of the first call does the same by Proof/TileSweep.lean, Proof/RefBranch.lean,
  Proof/Branch.lean and Proof/BranchFinite.lean, and for the features by Proof/FeatureSweep.lean, Proof/RefFeatures.lean,
  Proof/Features.lean and Proof/Decay.lean; that of the conditioning call is in Proof/Modulation.lean.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Sweep
public import proofs.«01_k».proof.Proof.LoopRun
public import proofs.«01_k».proof.Proof.RefValue
public import proofs.«01_k».proof.Proof.TileSweep
public import proofs.«01_k».proof.Proof.FeatureSweep
public import proofs.«01_k».proof.Proof.RefBranch
public import proofs.«01_k».proof.Proof.RefCut
public import proofs.«01_k».proof.Proof.BranchFinite
public import proofs.«01_k».proof.Proof.Modulation
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its arguments unchanged; it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- So does the first call's. -/
theorem reference2_frame : Cert.quiescent_Reference2Ideal := fun m ρ _ =>
  (θ_run Cert.Reference2Ideal.defs _ _).mono
    (fun r h => ⟨fun c => (h c).2.2.2.2.2.2.2, sem_eq_zero_of_no_sems (by decide) r.2⟩) (Cert.Reference2Ideal.Value.run m ρ)

/-- And the conditioning call's. -/
theorem reference3_frame : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

/-- Kernel and reference compute the same function of their arguments. -/
theorem same : Cert.algebraic_KernelIdeal_ReferenceIdeal_pre_gate_finite := by
  intro m ρ m' ρ' hpre hargs
  refine ⟨fun c => Cert.KernelIdeal.Value.G17 m c, Cert.KernelIdeal.Value.run m ρ, ?_⟩
  refine (θ_run Cert.ReferenceIdeal.defs _ _).mono (fun r h c => ⟨(h c).1.trans ?_, (h c).2⟩) (Cert.ReferenceIdeal.Value.run m' ρ')
  obtain ⟨h0, h1, h2, h3, h4, h5, h6, h7, h8, h9, h10, h11, h12, h13, h14, h15, h16⟩ := hargs c
  obtain ⟨hh, hw⟩ := Finite.reals _ _ _ _ _ _ _ _ _ _ _ _ _ _ _ _ _ (hpre c)
  rw [LoopRun.result m' c (States.states _ _) rfl fun _ => rfl, h0, h1, h2, h3, h4, h5, h6, h7, h8, h9, h10, h11, h12, h13,
    h14, h15, h16, RefValue.result _ _ _ _ _ _ _ _ _ _ _ _ _ _ _ _ _ hh hw]
  exact (Sweep.result m c).symm

set_option maxHeartbeats 1000000 in
/-- So do the first call and its reference, in each of the seven results. -/
theorem same2 : Cert.algebraic_Kernel2Ideal_Reference2Ideal_pre_conv_gate_finite := by
  intro m ρ m' ρ' hpre hargs
  refine ⟨fun c y => Features.queries (TileSweep.arrays m c) (TileSweep.gates m c) y,
    fun c y => Features.keysF (TileSweep.arrays m c) (TileSweep.gates m c) y,
    fun c y => Features.keysB (TileSweep.arrays m c) (TileSweep.gates m c) y,
    fun c y => Branch.value (TileSweep.arrays m c) (y 0) (y 1) (y 2),
    fun c y => Branch.hidden (TileSweep.arrays m c) (y 0) (y 1) (y 2),
    fun c y => Branch.out (TileSweep.arrays m c) (y 0) (y 1) (y 2),
    fun c y => Features.decays (TileSweep.arrays m c) (TileSweep.gates m c) y, ?_, ?_⟩
  · refine (θ_run Cert.Kernel2Ideal.defs _ _).mono (fun r h c => ?_) (Cert.Kernel2Ideal.Value.run_blocks m ρ)
    obtain ⟨hq, hf, hb, hv, hh, ho, -, -, hd, ha⟩ := h c
    exact ⟨hq.trans (TileSweep.result_query m c), hf.trans (TileSweep.result_keysF m c),
      hb.trans (TileSweep.result_keysB m c), hv.trans (TileSweep.result_value m c), hh.trans (TileSweep.result_hidden m c),
      ho.trans (TileSweep.result_out m c), hd.trans (TileSweep.result_decay m c), ha⟩
  · refine (θ_run Cert.Reference2Ideal.defs _ _).mono (fun r h c => ?_) (RefCut.run m' ρ')
    obtain ⟨hq, hf, hb, hv, hh, ho, hd, ha⟩ := h c
    obtain ⟨h0, h1, h2, h3, h4, h5, h6, h7, h8, h9, h10⟩ := hargs c
    have hz := BranchFinite.real _ _ _ _ _ _ _ _ _ _ _ (hpre c) (TileSweep.arrays m c) (fun _ _ _ => rfl) (fun _ => rfl)
      fun _ _ => rfl
    have e : RefCut.arrays m' c = TileSweep.arrays m c := by
      unfold RefCut.arrays
      rw [h0, h1, h2, h3, h5, h6, h7, h10]
      rfl
    have e' : RefCut.gates m' c = TileSweep.gates m c := by
      unfold RefCut.gates
      rw [h4, h8, h9]
      rfl
    rw [e, e'] at hq hf hb hd
    rw [e] at hv hh ho
    exact ⟨hq, hf, hb, hv, hh, ho hz, hd, ha⟩

/-- So do the conditioning call and its reference. -/
theorem same3 : Cert.algebraic_Kernel3Ideal_Reference3Ideal_pre_conditioning_finite := by
  intro m ρ m' ρ' hpre hargs
  refine ⟨fun c => _, (θ_run Cert.Kernel3Ideal.defs _ _).mono
    (fun r h c => ⟨(h c).1.trans (Modulation.kernel _ _ _), (h c).2⟩) (Cert.Kernel3Ideal.Value.run m ρ), ?_⟩
  refine (θ_run Cert.Reference3Ideal.defs _ _).mono (fun r h c => ⟨(h c).1.trans ?_, (h c).2⟩)
    (Cert.Reference3Ideal.Value.run m' ρ')
  obtain ⟨h0, h1, h2⟩ := hargs c
  rw [h0, h1, h2]
  exact Modulation.reference _ _ _ (Modulation.reals _ _ _ (hpre c))

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Finite.facts, BranchFinite.facts, Modulation.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.Kernel2.Gen.frame m ρ, fun m ρ _ => Cert.Kernel2Ideal.Gen.frame m ρ,
    fun m ρ _ => Cert.Kernel2Ideal.Gen.frame m ρ, reference2_frame, fun m ρ _ => reference2_frame m ρ trivial,
    fun m ρ _ => Cert.Kernel3.Gen.frame m ρ, fun m ρ _ => Cert.Kernel3Ideal.Gen.frame m ρ,
    fun m ρ _ => Cert.Kernel3Ideal.Gen.frame m ρ, reference3_frame, fun m ρ _ => reference3_frame m ρ trivial,
    trivial, same, IdealRules.named_const.statement Cert.Kernel2Ideal.κ "decay_unit" .f32 0x3DB8AA3B#32 _ rfl, same2, trivial,
    same3⟩

end Cert.Proof

end
